-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_FfnOddKernel (m : (ℓ : Loc Cert.FfnOddKernel.nD Cert.FfnOddKernel.τ Cert.FfnOddKernel.sig) → Buf (Elt Bits) ℓ) : Prop :=
  True

def Pre_FfnOddKernelIdeal (m : (ℓ : Loc Cert.FfnOddKernelIdeal.nD Cert.FfnOddKernelIdeal.τ Cert.FfnOddKernelIdeal.sig) → Buf (Elt Ideal) ℓ) : Prop :=
  True

def Pre_FfnOddReferenceIdeal (m : (ℓ : Loc Cert.FfnOddReferenceIdeal.nD Cert.FfnOddReferenceIdeal.τ Cert.FfnOddReferenceIdeal.sig) → Buf (Elt Ideal) ℓ) : Prop :=
  True

def Pre_InOddKernel (m : (ℓ : Loc Cert.InOddKernel.nD Cert.InOddKernel.τ Cert.InOddKernel.sig) → Buf (Elt Bits) ℓ) : Prop :=
  True

def Pre_InOddKernelIdeal (m : (ℓ : Loc Cert.InOddKernelIdeal.nD Cert.InOddKernelIdeal.τ Cert.InOddKernelIdeal.sig) → Buf (Elt Ideal) ℓ) : Prop :=
  True

def Pre_InOddReferenceIdeal (m : (ℓ : Loc Cert.InOddReferenceIdeal.nD Cert.InOddReferenceIdeal.τ Cert.InOddReferenceIdeal.sig) → Buf (Elt Ideal) ℓ) : Prop :=
  True

def Pre_OrderKernel (m : (ℓ : Loc Cert.OrderKernel.nD Cert.OrderKernel.τ Cert.OrderKernel.sig) → Buf (Elt Bits) ℓ) : Prop :=
  True

def Pre_OrderKernelIdeal (m : (ℓ : Loc Cert.OrderKernelIdeal.nD Cert.OrderKernelIdeal.τ Cert.OrderKernelIdeal.sig) → Buf (Elt Ideal) ℓ) : Prop :=
  True

def Pre_OrderReferenceIdeal (m : (ℓ : Loc Cert.OrderReferenceIdeal.nD Cert.OrderReferenceIdeal.τ Cert.OrderReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_SampleNormKernel (m : (ℓ : Loc Cert.SampleNormKernel.nD Cert.SampleNormKernel.τ Cert.SampleNormKernel.sig) → Buf (Elt Bits) ℓ) : Prop :=
  True

def Pre_SampleNormKernelIdeal (m : (ℓ : Loc Cert.SampleNormKernelIdeal.nD Cert.SampleNormKernelIdeal.τ Cert.SampleNormKernelIdeal.sig) → Buf (Elt Ideal) ℓ) : Prop :=
  True

def Pre_SampleNormReferenceIdeal (m : (ℓ : Loc Cert.SampleNormReferenceIdeal.nD Cert.SampleNormReferenceIdeal.τ Cert.SampleNormReferenceIdeal.sig) → Buf (Elt Ideal) ℓ) : Prop :=
  True

def Pre_SampleGateKernel (m : (ℓ : Loc Cert.SampleGateKernel.nD Cert.SampleGateKernel.τ Cert.SampleGateKernel.sig) → Buf (Elt Bits) ℓ) : Prop :=
  True

def Pre_SampleGateKernelIdeal (m : (ℓ : Loc Cert.SampleGateKernelIdeal.nD Cert.SampleGateKernelIdeal.τ Cert.SampleGateKernelIdeal.sig) → Buf (Elt Ideal) ℓ) : Prop :=
  True

def Pre_SampleGateReferenceIdeal (m : (ℓ : Loc Cert.SampleGateReferenceIdeal.nD Cert.SampleGateReferenceIdeal.τ Cert.SampleGateReferenceIdeal.sig) → Buf (Elt Ideal) ℓ) : Prop :=
  True

def Pre_SampleInOddKernel (m : (ℓ : Loc Cert.SampleInOddKernel.nD Cert.SampleInOddKernel.τ Cert.SampleInOddKernel.sig) → Buf (Elt Bits) ℓ) : Prop :=
  True

def Pre_SampleInOddKernelIdeal (m : (ℓ : Loc Cert.SampleInOddKernelIdeal.nD Cert.SampleInOddKernelIdeal.τ Cert.SampleInOddKernelIdeal.sig) → Buf (Elt Ideal) ℓ) : Prop :=
  True

def Pre_SampleInOddReferenceIdeal (m : (ℓ : Loc Cert.SampleInOddReferenceIdeal.nD Cert.SampleInOddReferenceIdeal.τ Cert.SampleInOddReferenceIdeal.sig) → Buf (Elt Ideal) ℓ) : Prop :=
  True

def Pre_SampleInKernel (m : (ℓ : Loc Cert.SampleInKernel.nD Cert.SampleInKernel.τ Cert.SampleInKernel.sig) → Buf (Elt Bits) ℓ) : Prop :=
  True

def Pre_SampleInKernelIdeal (m : (ℓ : Loc Cert.SampleInKernelIdeal.nD Cert.SampleInKernelIdeal.τ Cert.SampleInKernelIdeal.sig) → Buf (Elt Ideal) ℓ) : Prop :=
  True

def Pre_SampleInReferenceIdeal (m : (ℓ : Loc Cert.SampleInReferenceIdeal.nD Cert.SampleInReferenceIdeal.τ Cert.SampleInReferenceIdeal.sig) → Buf (Elt Ideal) ℓ) : Prop :=
  True

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_FfnOddKernel [hFfnOddKernel : Cert.FfnOddKernel.Facts] : Prop :=
  ∀ (m : (ℓ : Loc Cert.FfnOddKernel.nD Cert.FfnOddKernel.τ Cert.FfnOddKernel.sig) → Buf (Elt Bits) ℓ) (g : Dev Cert.FfnOddKernel.nD → PrngReg), Pre_FfnOddKernel m →
    θ_run (Cert.FfnOddKernel.defs (F := Bits)) (onTc (τ := Cert.FfnOddKernel.τ) (Cert.FfnOddKernel.main (F := Bits))) ⟨m, fun _ => 0, g⟩ (fun r => (∀ c : Dev Cert.FfnOddKernel.nD,
      r.2.mem ((c.tc : Thread Cert.FfnOddKernel.nD Cert.FfnOddKernel.τ).loc Cert.FfnOddKernel.main_arg0) = m ((c.tc : Thread Cert.FfnOddKernel.nD Cert.FfnOddKernel.τ).loc Cert.FfnOddKernel.main_arg0)
      ∧ r.2.mem ((c.tc : Thread Cert.FfnOddKernel.nD Cert.FfnOddKernel.τ).loc Cert.FfnOddKernel.main_arg1) = m ((c.tc : Thread Cert.FfnOddKernel.nD Cert.FfnOddKernel.τ).loc Cert.FfnOddKernel.main_arg1)
      ∧ r.2.mem ((c.tc : Thread Cert.FfnOddKernel.nD Cert.FfnOddKernel.τ).loc Cert.FfnOddKernel.main_arg2) = m ((c.tc : Thread Cert.FfnOddKernel.nD Cert.FfnOddKernel.τ).loc Cert.FfnOddKernel.main_arg2)
      ∧ r.2.mem ((c.tc : Thread Cert.FfnOddKernel.nD Cert.FfnOddKernel.τ).loc Cert.FfnOddKernel.main_arg3) = m ((c.tc : Thread Cert.FfnOddKernel.nD Cert.FfnOddKernel.τ).loc Cert.FfnOddKernel.main_arg3)
      ∧ r.2.mem ((c.tc : Thread Cert.FfnOddKernel.nD Cert.FfnOddKernel.τ).loc Cert.FfnOddKernel.main_arg4) = m ((c.tc : Thread Cert.FfnOddKernel.nD Cert.FfnOddKernel.τ).loc Cert.FfnOddKernel.main_arg4)
      ∧ r.2.mem ((c.tc : Thread Cert.FfnOddKernel.nD Cert.FfnOddKernel.τ).loc Cert.FfnOddKernel.main_arg5) = m ((c.tc : Thread Cert.FfnOddKernel.nD Cert.FfnOddKernel.τ).loc Cert.FfnOddKernel.main_arg5)
      ∧ r.2.mem ((c.tc : Thread Cert.FfnOddKernel.nD Cert.FfnOddKernel.τ).loc Cert.FfnOddKernel.main_arg6) = m ((c.tc : Thread Cert.FfnOddKernel.nD Cert.FfnOddKernel.τ).loc Cert.FfnOddKernel.main_arg6))
      ∧ r.2.sem = fun _ => 0)

def quiescent_FfnOddKernelIdeal [hFfnOddKernelIdeal : Cert.FfnOddKernelIdeal.Facts] : Prop :=
  ∀ (m : (ℓ : Loc Cert.FfnOddKernelIdeal.nD Cert.FfnOddKernelIdeal.τ Cert.FfnOddKernelIdeal.sig) → Buf (Elt Ideal) ℓ) (g : Dev Cert.FfnOddKernelIdeal.nD → PrngReg), Pre_FfnOddKernelIdeal m →
    θ_run (Cert.FfnOddKernelIdeal.defs (F := Ideal)) (onTc (τ := Cert.FfnOddKernelIdeal.τ) (Cert.FfnOddKernelIdeal.main (F := Ideal))) ⟨m, fun _ => 0, g⟩ (fun r => (∀ c : Dev Cert.FfnOddKernelIdeal.nD,
      r.2.mem ((c.tc : Thread Cert.FfnOddKernelIdeal.nD Cert.FfnOddKernelIdeal.τ).loc Cert.FfnOddKernelIdeal.main_arg0) = m ((c.tc : Thread Cert.FfnOddKernelIdeal.nD Cert.FfnOddKernelIdeal.τ).loc Cert.FfnOddKernelIdeal.main_arg0)
      ∧ r.2.mem ((c.tc : Thread Cert.FfnOddKernelIdeal.nD Cert.FfnOddKernelIdeal.τ).loc Cert.FfnOddKernelIdeal.main_arg1) = m ((c.tc : Thread Cert.FfnOddKernelIdeal.nD Cert.FfnOddKernelIdeal.τ).loc Cert.FfnOddKernelIdeal.main_arg1)
      ∧ r.2.mem ((c.tc : Thread Cert.FfnOddKernelIdeal.nD Cert.FfnOddKernelIdeal.τ).loc Cert.FfnOddKernelIdeal.main_arg2) = m ((c.tc : Thread Cert.FfnOddKernelIdeal.nD Cert.FfnOddKernelIdeal.τ).loc Cert.FfnOddKernelIdeal.main_arg2)
      ∧ r.2.mem ((c.tc : Thread Cert.FfnOddKernelIdeal.nD Cert.FfnOddKernelIdeal.τ).loc Cert.FfnOddKernelIdeal.main_arg3) = m ((c.tc : Thread Cert.FfnOddKernelIdeal.nD Cert.FfnOddKernelIdeal.τ).loc Cert.FfnOddKernelIdeal.main_arg3)
      ∧ r.2.mem ((c.tc : Thread Cert.FfnOddKernelIdeal.nD Cert.FfnOddKernelIdeal.τ).loc Cert.FfnOddKernelIdeal.main_arg4) = m ((c.tc : Thread Cert.FfnOddKernelIdeal.nD Cert.FfnOddKernelIdeal.τ).loc Cert.FfnOddKernelIdeal.main_arg4)
      ∧ r.2.mem ((c.tc : Thread Cert.FfnOddKernelIdeal.nD Cert.FfnOddKernelIdeal.τ).loc Cert.FfnOddKernelIdeal.main_arg5) = m ((c.tc : Thread Cert.FfnOddKernelIdeal.nD Cert.FfnOddKernelIdeal.τ).loc Cert.FfnOddKernelIdeal.main_arg5)
      ∧ r.2.mem ((c.tc : Thread Cert.FfnOddKernelIdeal.nD Cert.FfnOddKernelIdeal.τ).loc Cert.FfnOddKernelIdeal.main_arg6) = m ((c.tc : Thread Cert.FfnOddKernelIdeal.nD Cert.FfnOddKernelIdeal.τ).loc Cert.FfnOddKernelIdeal.main_arg6))
      ∧ r.2.sem = fun _ => 0)

def quiescent_FfnOddReferenceIdeal [hFfnOddReferenceIdeal : Cert.FfnOddReferenceIdeal.Facts] : Prop :=
  ∀ (m : (ℓ : Loc Cert.FfnOddReferenceIdeal.nD Cert.FfnOddReferenceIdeal.τ Cert.FfnOddReferenceIdeal.sig) → Buf (Elt Ideal) ℓ) (g : Dev Cert.FfnOddReferenceIdeal.nD → PrngReg), Pre_FfnOddReferenceIdeal m →
    θ_run (Cert.FfnOddReferenceIdeal.defs (F := Ideal)) (onTc (τ := Cert.FfnOddReferenceIdeal.τ) (Cert.FfnOddReferenceIdeal.main (F := Ideal))) ⟨m, fun _ => 0, g⟩ (fun r => (∀ c : Dev Cert.FfnOddReferenceIdeal.nD,
      r.2.mem ((c.tc : Thread Cert.FfnOddReferenceIdeal.nD Cert.FfnOddReferenceIdeal.τ).loc Cert.FfnOddReferenceIdeal.main_arg0) = m ((c.tc : Thread Cert.FfnOddReferenceIdeal.nD Cert.FfnOddReferenceIdeal.τ).loc Cert.FfnOddReferenceIdeal.main_arg0)
      ∧ r.2.mem ((c.tc : Thread Cert.FfnOddReferenceIdeal.nD Cert.FfnOddReferenceIdeal.τ).loc Cert.FfnOddReferenceIdeal.main_arg1) = m ((c.tc : Thread Cert.FfnOddReferenceIdeal.nD Cert.FfnOddReferenceIdeal.τ).loc Cert.FfnOddReferenceIdeal.main_arg1)
      ∧ r.2.mem ((c.tc : Thread Cert.FfnOddReferenceIdeal.nD Cert.FfnOddReferenceIdeal.τ).loc Cert.FfnOddReferenceIdeal.main_arg2) = m ((c.tc : Thread Cert.FfnOddReferenceIdeal.nD Cert.FfnOddReferenceIdeal.τ).loc Cert.FfnOddReferenceIdeal.main_arg2)
      ∧ r.2.mem ((c.tc : Thread Cert.FfnOddReferenceIdeal.nD Cert.FfnOddReferenceIdeal.τ).loc Cert.FfnOddReferenceIdeal.main_arg3) = m ((c.tc : Thread Cert.FfnOddReferenceIdeal.nD Cert.FfnOddReferenceIdeal.τ).loc Cert.FfnOddReferenceIdeal.main_arg3)
      ∧ r.2.mem ((c.tc : Thread Cert.FfnOddReferenceIdeal.nD Cert.FfnOddReferenceIdeal.τ).loc Cert.FfnOddReferenceIdeal.main_arg4) = m ((c.tc : Thread Cert.FfnOddReferenceIdeal.nD Cert.FfnOddReferenceIdeal.τ).loc Cert.FfnOddReferenceIdeal.main_arg4)
      ∧ r.2.mem ((c.tc : Thread Cert.FfnOddReferenceIdeal.nD Cert.FfnOddReferenceIdeal.τ).loc Cert.FfnOddReferenceIdeal.main_arg5) = m ((c.tc : Thread Cert.FfnOddReferenceIdeal.nD Cert.FfnOddReferenceIdeal.τ).loc Cert.FfnOddReferenceIdeal.main_arg5)
      ∧ r.2.mem ((c.tc : Thread Cert.FfnOddReferenceIdeal.nD Cert.FfnOddReferenceIdeal.τ).loc Cert.FfnOddReferenceIdeal.main_arg6) = m ((c.tc : Thread Cert.FfnOddReferenceIdeal.nD Cert.FfnOddReferenceIdeal.τ).loc Cert.FfnOddReferenceIdeal.main_arg6))
      ∧ r.2.sem = fun _ => 0)

def quiescent_InOddKernel [hInOddKernel : Cert.InOddKernel.Facts] : Prop :=
  ∀ (m : (ℓ : Loc Cert.InOddKernel.nD Cert.InOddKernel.τ Cert.InOddKernel.sig) → Buf (Elt Bits) ℓ) (g : Dev Cert.InOddKernel.nD → PrngReg), Pre_InOddKernel m →
    θ_run (Cert.InOddKernel.defs (F := Bits)) (onTc (τ := Cert.InOddKernel.τ) (Cert.InOddKernel.main (F := Bits))) ⟨m, fun _ => 0, g⟩ (fun r => (∀ c : Dev Cert.InOddKernel.nD,
      r.2.mem ((c.tc : Thread Cert.InOddKernel.nD Cert.InOddKernel.τ).loc Cert.InOddKernel.main_arg0) = m ((c.tc : Thread Cert.InOddKernel.nD Cert.InOddKernel.τ).loc Cert.InOddKernel.main_arg0)
      ∧ r.2.mem ((c.tc : Thread Cert.InOddKernel.nD Cert.InOddKernel.τ).loc Cert.InOddKernel.main_arg1) = m ((c.tc : Thread Cert.InOddKernel.nD Cert.InOddKernel.τ).loc Cert.InOddKernel.main_arg1)
      ∧ r.2.mem ((c.tc : Thread Cert.InOddKernel.nD Cert.InOddKernel.τ).loc Cert.InOddKernel.main_arg2) = m ((c.tc : Thread Cert.InOddKernel.nD Cert.InOddKernel.τ).loc Cert.InOddKernel.main_arg2)
      ∧ r.2.mem ((c.tc : Thread Cert.InOddKernel.nD Cert.InOddKernel.τ).loc Cert.InOddKernel.main_arg3) = m ((c.tc : Thread Cert.InOddKernel.nD Cert.InOddKernel.τ).loc Cert.InOddKernel.main_arg3))
      ∧ r.2.sem = fun _ => 0)

def quiescent_InOddKernelIdeal [hInOddKernelIdeal : Cert.InOddKernelIdeal.Facts] : Prop :=
  ∀ (m : (ℓ : Loc Cert.InOddKernelIdeal.nD Cert.InOddKernelIdeal.τ Cert.InOddKernelIdeal.sig) → Buf (Elt Ideal) ℓ) (g : Dev Cert.InOddKernelIdeal.nD → PrngReg), Pre_InOddKernelIdeal m →
    θ_run (Cert.InOddKernelIdeal.defs (F := Ideal)) (onTc (τ := Cert.InOddKernelIdeal.τ) (Cert.InOddKernelIdeal.main (F := Ideal))) ⟨m, fun _ => 0, g⟩ (fun r => (∀ c : Dev Cert.InOddKernelIdeal.nD,
      r.2.mem ((c.tc : Thread Cert.InOddKernelIdeal.nD Cert.InOddKernelIdeal.τ).loc Cert.InOddKernelIdeal.main_arg0) = m ((c.tc : Thread Cert.InOddKernelIdeal.nD Cert.InOddKernelIdeal.τ).loc Cert.InOddKernelIdeal.main_arg0)
      ∧ r.2.mem ((c.tc : Thread Cert.InOddKernelIdeal.nD Cert.InOddKernelIdeal.τ).loc Cert.InOddKernelIdeal.main_arg1) = m ((c.tc : Thread Cert.InOddKernelIdeal.nD Cert.InOddKernelIdeal.τ).loc Cert.InOddKernelIdeal.main_arg1)
      ∧ r.2.mem ((c.tc : Thread Cert.InOddKernelIdeal.nD Cert.InOddKernelIdeal.τ).loc Cert.InOddKernelIdeal.main_arg2) = m ((c.tc : Thread Cert.InOddKernelIdeal.nD Cert.InOddKernelIdeal.τ).loc Cert.InOddKernelIdeal.main_arg2)
      ∧ r.2.mem ((c.tc : Thread Cert.InOddKernelIdeal.nD Cert.InOddKernelIdeal.τ).loc Cert.InOddKernelIdeal.main_arg3) = m ((c.tc : Thread Cert.InOddKernelIdeal.nD Cert.InOddKernelIdeal.τ).loc Cert.InOddKernelIdeal.main_arg3))
      ∧ r.2.sem = fun _ => 0)

def quiescent_InOddReferenceIdeal [hInOddReferenceIdeal : Cert.InOddReferenceIdeal.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1)
      ∧ r.2.mem ((c.tc : Thread Cert.InOddReferenceIdeal.nD Cert.InOddReferenceIdeal.τ).loc Cert.InOddReferenceIdeal.main_arg2) = m ((c.tc : Thread Cert.InOddReferenceIdeal.nD Cert.InOddReferenceIdeal.τ).loc Cert.InOddReferenceIdeal.main_arg2)
      ∧ r.2.mem ((c.tc : Thread Cert.InOddReferenceIdeal.nD Cert.InOddReferenceIdeal.τ).loc Cert.InOddReferenceIdeal.main_arg3) = m ((c.tc : Thread Cert.InOddReferenceIdeal.nD Cert.InOddReferenceIdeal.τ).loc Cert.InOddReferenceIdeal.main_arg3))
      ∧ r.2.sem = fun _ => 0)

def quiescent_OrderKernel [hOrderKernel : Cert.OrderKernel.Facts] : Prop :=
  ∀ (m : (ℓ : Loc Cert.OrderKernel.nD Cert.OrderKernel.τ Cert.OrderKernel.sig) → Buf (Elt Bits) ℓ) (g : Dev Cert.OrderKernel.nD → PrngReg), Pre_OrderKernel m →
    θ_run (Cert.OrderKernel.defs (F := Bits)) (onTc (τ := Cert.OrderKernel.τ) (Cert.OrderKernel.main (F := Bits))) ⟨m, fun _ => 0, g⟩ (fun r => (∀ c : Dev Cert.OrderKernel.nD,
      r.2.mem ((c.tc : Thread Cert.OrderKernel.nD Cert.OrderKernel.τ).loc Cert.OrderKernel.main_arg0) = m ((c.tc : Thread Cert.OrderKernel.nD Cert.OrderKernel.τ).loc Cert.OrderKernel.main_arg0))
      ∧ r.2.sem = fun _ => 0)

def quiescent_OrderKernelIdeal [hOrderKernelIdeal : Cert.OrderKernelIdeal.Facts] : Prop :=
  ∀ (m : (ℓ : Loc Cert.OrderKernelIdeal.nD Cert.OrderKernelIdeal.τ Cert.OrderKernelIdeal.sig) → Buf (Elt Ideal) ℓ) (g : Dev Cert.OrderKernelIdeal.nD → PrngReg), Pre_OrderKernelIdeal m →
    θ_run (Cert.OrderKernelIdeal.defs (F := Ideal)) (onTc (τ := Cert.OrderKernelIdeal.τ) (Cert.OrderKernelIdeal.main (F := Ideal))) ⟨m, fun _ => 0, g⟩ (fun r => (∀ c : Dev Cert.OrderKernelIdeal.nD,
      r.2.mem ((c.tc : Thread Cert.OrderKernelIdeal.nD Cert.OrderKernelIdeal.τ).loc Cert.OrderKernelIdeal.main_arg0) = m ((c.tc : Thread Cert.OrderKernelIdeal.nD Cert.OrderKernelIdeal.τ).loc Cert.OrderKernelIdeal.main_arg0))
      ∧ r.2.sem = fun _ => 0)

def quiescent_OrderReferenceIdeal [hOrderReferenceIdeal : Cert.OrderReferenceIdeal.Facts] : Prop :=
  ∀ (m : (ℓ : Loc Cert.OrderReferenceIdeal.nD Cert.OrderReferenceIdeal.τ Cert.OrderReferenceIdeal.sig) → Buf (Elt Ideal) ℓ) (g : Dev Cert.OrderReferenceIdeal.nD → PrngReg), Pre_OrderReferenceIdeal m →
    θ_run (Cert.OrderReferenceIdeal.defs (F := Ideal)) (onTc (τ := Cert.OrderReferenceIdeal.τ) (Cert.OrderReferenceIdeal.main (F := Ideal))) ⟨m, fun _ => 0, g⟩ (fun r => (∀ c : Dev Cert.OrderReferenceIdeal.nD,
      r.2.mem ((c.tc : Thread Cert.OrderReferenceIdeal.nD Cert.OrderReferenceIdeal.τ).loc Cert.OrderReferenceIdeal.main_arg0) = m ((c.tc : Thread Cert.OrderReferenceIdeal.nD Cert.OrderReferenceIdeal.τ).loc Cert.OrderReferenceIdeal.main_arg0))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_SampleNormKernel [hSampleNormKernel : Cert.SampleNormKernel.Facts] : Prop :=
  ∀ (m : (ℓ : Loc Cert.SampleNormKernel.nD Cert.SampleNormKernel.τ Cert.SampleNormKernel.sig) → Buf (Elt Bits) ℓ) (g : Dev Cert.SampleNormKernel.nD → PrngReg), Pre_SampleNormKernel m →
    θ_run (Cert.SampleNormKernel.defs (F := Bits)) (onTc (τ := Cert.SampleNormKernel.τ) (Cert.SampleNormKernel.main (F := Bits))) ⟨m, fun _ => 0, g⟩ (fun r => (∀ c : Dev Cert.SampleNormKernel.nD,
      r.2.mem ((c.tc : Thread Cert.SampleNormKernel.nD Cert.SampleNormKernel.τ).loc Cert.SampleNormKernel.main_arg0) = m ((c.tc : Thread Cert.SampleNormKernel.nD Cert.SampleNormKernel.τ).loc Cert.SampleNormKernel.main_arg0)
      ∧ r.2.mem ((c.tc : Thread Cert.SampleNormKernel.nD Cert.SampleNormKernel.τ).loc Cert.SampleNormKernel.main_arg1) = m ((c.tc : Thread Cert.SampleNormKernel.nD Cert.SampleNormKernel.τ).loc Cert.SampleNormKernel.main_arg1))
      ∧ r.2.sem = fun _ => 0)

def quiescent_SampleNormKernelIdeal [hSampleNormKernelIdeal : Cert.SampleNormKernelIdeal.Facts] : Prop :=
  ∀ (m : (ℓ : Loc Cert.SampleNormKernelIdeal.nD Cert.SampleNormKernelIdeal.τ Cert.SampleNormKernelIdeal.sig) → Buf (Elt Ideal) ℓ) (g : Dev Cert.SampleNormKernelIdeal.nD → PrngReg), Pre_SampleNormKernelIdeal m →
    θ_run (Cert.SampleNormKernelIdeal.defs (F := Ideal)) (onTc (τ := Cert.SampleNormKernelIdeal.τ) (Cert.SampleNormKernelIdeal.main (F := Ideal))) ⟨m, fun _ => 0, g⟩ (fun r => (∀ c : Dev Cert.SampleNormKernelIdeal.nD,
      r.2.mem ((c.tc : Thread Cert.SampleNormKernelIdeal.nD Cert.SampleNormKernelIdeal.τ).loc Cert.SampleNormKernelIdeal.main_arg0) = m ((c.tc : Thread Cert.SampleNormKernelIdeal.nD Cert.SampleNormKernelIdeal.τ).loc Cert.SampleNormKernelIdeal.main_arg0)
      ∧ r.2.mem ((c.tc : Thread Cert.SampleNormKernelIdeal.nD Cert.SampleNormKernelIdeal.τ).loc Cert.SampleNormKernelIdeal.main_arg1) = m ((c.tc : Thread Cert.SampleNormKernelIdeal.nD Cert.SampleNormKernelIdeal.τ).loc Cert.SampleNormKernelIdeal.main_arg1))
      ∧ r.2.sem = fun _ => 0)

def quiescent_SampleNormReferenceIdeal [hSampleNormReferenceIdeal : Cert.SampleNormReferenceIdeal.Facts] : Prop :=
  ∀ (m : (ℓ : Loc Cert.SampleNormReferenceIdeal.nD Cert.SampleNormReferenceIdeal.τ Cert.SampleNormReferenceIdeal.sig) → Buf (Elt Ideal) ℓ) (g : Dev Cert.SampleNormReferenceIdeal.nD → PrngReg), Pre_SampleNormReferenceIdeal m →
    θ_run (Cert.SampleNormReferenceIdeal.defs (F := Ideal)) (onTc (τ := Cert.SampleNormReferenceIdeal.τ) (Cert.SampleNormReferenceIdeal.main (F := Ideal))) ⟨m, fun _ => 0, g⟩ (fun r => (∀ c : Dev Cert.SampleNormReferenceIdeal.nD,
      r.2.mem ((c.tc : Thread Cert.SampleNormReferenceIdeal.nD Cert.SampleNormReferenceIdeal.τ).loc Cert.SampleNormReferenceIdeal.main_arg0) = m ((c.tc : Thread Cert.SampleNormReferenceIdeal.nD Cert.SampleNormReferenceIdeal.τ).loc Cert.SampleNormReferenceIdeal.main_arg0)
      ∧ r.2.mem ((c.tc : Thread Cert.SampleNormReferenceIdeal.nD Cert.SampleNormReferenceIdeal.τ).loc Cert.SampleNormReferenceIdeal.main_arg1) = m ((c.tc : Thread Cert.SampleNormReferenceIdeal.nD Cert.SampleNormReferenceIdeal.τ).loc Cert.SampleNormReferenceIdeal.main_arg1))
      ∧ r.2.sem = fun _ => 0)

def quiescent_SampleGateKernel [hSampleGateKernel : Cert.SampleGateKernel.Facts] : Prop :=
  ∀ (m : (ℓ : Loc Cert.SampleGateKernel.nD Cert.SampleGateKernel.τ Cert.SampleGateKernel.sig) → Buf (Elt Bits) ℓ) (g : Dev Cert.SampleGateKernel.nD → PrngReg), Pre_SampleGateKernel m →
    θ_run (Cert.SampleGateKernel.defs (F := Bits)) (onTc (τ := Cert.SampleGateKernel.τ) (Cert.SampleGateKernel.main (F := Bits))) ⟨m, fun _ => 0, g⟩ (fun r => (∀ c : Dev Cert.SampleGateKernel.nD,
      r.2.mem ((c.tc : Thread Cert.SampleGateKernel.nD Cert.SampleGateKernel.τ).loc Cert.SampleGateKernel.main_arg0) = m ((c.tc : Thread Cert.SampleGateKernel.nD Cert.SampleGateKernel.τ).loc Cert.SampleGateKernel.main_arg0)
      ∧ r.2.mem ((c.tc : Thread Cert.SampleGateKernel.nD Cert.SampleGateKernel.τ).loc Cert.SampleGateKernel.main_arg1) = m ((c.tc : Thread Cert.SampleGateKernel.nD Cert.SampleGateKernel.τ).loc Cert.SampleGateKernel.main_arg1))
      ∧ r.2.sem = fun _ => 0)

def quiescent_SampleGateKernelIdeal [hSampleGateKernelIdeal : Cert.SampleGateKernelIdeal.Facts] : Prop :=
  ∀ (m : (ℓ : Loc Cert.SampleGateKernelIdeal.nD Cert.SampleGateKernelIdeal.τ Cert.SampleGateKernelIdeal.sig) → Buf (Elt Ideal) ℓ) (g : Dev Cert.SampleGateKernelIdeal.nD → PrngReg), Pre_SampleGateKernelIdeal m →
    θ_run (Cert.SampleGateKernelIdeal.defs (F := Ideal)) (onTc (τ := Cert.SampleGateKernelIdeal.τ) (Cert.SampleGateKernelIdeal.main (F := Ideal))) ⟨m, fun _ => 0, g⟩ (fun r => (∀ c : Dev Cert.SampleGateKernelIdeal.nD,
      r.2.mem ((c.tc : Thread Cert.SampleGateKernelIdeal.nD Cert.SampleGateKernelIdeal.τ).loc Cert.SampleGateKernelIdeal.main_arg0) = m ((c.tc : Thread Cert.SampleGateKernelIdeal.nD Cert.SampleGateKernelIdeal.τ).loc Cert.SampleGateKernelIdeal.main_arg0)
      ∧ r.2.mem ((c.tc : Thread Cert.SampleGateKernelIdeal.nD Cert.SampleGateKernelIdeal.τ).loc Cert.SampleGateKernelIdeal.main_arg1) = m ((c.tc : Thread Cert.SampleGateKernelIdeal.nD Cert.SampleGateKernelIdeal.τ).loc Cert.SampleGateKernelIdeal.main_arg1))
      ∧ r.2.sem = fun _ => 0)

def quiescent_SampleGateReferenceIdeal [hSampleGateReferenceIdeal : Cert.SampleGateReferenceIdeal.Facts] : Prop :=
  ∀ (m : (ℓ : Loc Cert.SampleGateReferenceIdeal.nD Cert.SampleGateReferenceIdeal.τ Cert.SampleGateReferenceIdeal.sig) → Buf (Elt Ideal) ℓ) (g : Dev Cert.SampleGateReferenceIdeal.nD → PrngReg), Pre_SampleGateReferenceIdeal m →
    θ_run (Cert.SampleGateReferenceIdeal.defs (F := Ideal)) (onTc (τ := Cert.SampleGateReferenceIdeal.τ) (Cert.SampleGateReferenceIdeal.main (F := Ideal))) ⟨m, fun _ => 0, g⟩ (fun r => (∀ c : Dev Cert.SampleGateReferenceIdeal.nD,
      r.2.mem ((c.tc : Thread Cert.SampleGateReferenceIdeal.nD Cert.SampleGateReferenceIdeal.τ).loc Cert.SampleGateReferenceIdeal.main_arg0) = m ((c.tc : Thread Cert.SampleGateReferenceIdeal.nD Cert.SampleGateReferenceIdeal.τ).loc Cert.SampleGateReferenceIdeal.main_arg0)
      ∧ r.2.mem ((c.tc : Thread Cert.SampleGateReferenceIdeal.nD Cert.SampleGateReferenceIdeal.τ).loc Cert.SampleGateReferenceIdeal.main_arg1) = m ((c.tc : Thread Cert.SampleGateReferenceIdeal.nD Cert.SampleGateReferenceIdeal.τ).loc Cert.SampleGateReferenceIdeal.main_arg1))
      ∧ r.2.sem = fun _ => 0)

def quiescent_SampleInOddKernel [hSampleInOddKernel : Cert.SampleInOddKernel.Facts] : Prop :=
  ∀ (m : (ℓ : Loc Cert.SampleInOddKernel.nD Cert.SampleInOddKernel.τ Cert.SampleInOddKernel.sig) → Buf (Elt Bits) ℓ) (g : Dev Cert.SampleInOddKernel.nD → PrngReg), Pre_SampleInOddKernel m →
    θ_run (Cert.SampleInOddKernel.defs (F := Bits)) (onTc (τ := Cert.SampleInOddKernel.τ) (Cert.SampleInOddKernel.main (F := Bits))) ⟨m, fun _ => 0, g⟩ (fun r => (∀ c : Dev Cert.SampleInOddKernel.nD,
      r.2.mem ((c.tc : Thread Cert.SampleInOddKernel.nD Cert.SampleInOddKernel.τ).loc Cert.SampleInOddKernel.main_arg0) = m ((c.tc : Thread Cert.SampleInOddKernel.nD Cert.SampleInOddKernel.τ).loc Cert.SampleInOddKernel.main_arg0)
      ∧ r.2.mem ((c.tc : Thread Cert.SampleInOddKernel.nD Cert.SampleInOddKernel.τ).loc Cert.SampleInOddKernel.main_arg1) = m ((c.tc : Thread Cert.SampleInOddKernel.nD Cert.SampleInOddKernel.τ).loc Cert.SampleInOddKernel.main_arg1)
      ∧ r.2.mem ((c.tc : Thread Cert.SampleInOddKernel.nD Cert.SampleInOddKernel.τ).loc Cert.SampleInOddKernel.main_arg2) = m ((c.tc : Thread Cert.SampleInOddKernel.nD Cert.SampleInOddKernel.τ).loc Cert.SampleInOddKernel.main_arg2)
      ∧ r.2.mem ((c.tc : Thread Cert.SampleInOddKernel.nD Cert.SampleInOddKernel.τ).loc Cert.SampleInOddKernel.main_arg3) = m ((c.tc : Thread Cert.SampleInOddKernel.nD Cert.SampleInOddKernel.τ).loc Cert.SampleInOddKernel.main_arg3))
      ∧ r.2.sem = fun _ => 0)

def quiescent_SampleInOddKernelIdeal [hSampleInOddKernelIdeal : Cert.SampleInOddKernelIdeal.Facts] : Prop :=
  ∀ (m : (ℓ : Loc Cert.SampleInOddKernelIdeal.nD Cert.SampleInOddKernelIdeal.τ Cert.SampleInOddKernelIdeal.sig) → Buf (Elt Ideal) ℓ) (g : Dev Cert.SampleInOddKernelIdeal.nD → PrngReg), Pre_SampleInOddKernelIdeal m →
    θ_run (Cert.SampleInOddKernelIdeal.defs (F := Ideal)) (onTc (τ := Cert.SampleInOddKernelIdeal.τ) (Cert.SampleInOddKernelIdeal.main (F := Ideal))) ⟨m, fun _ => 0, g⟩ (fun r => (∀ c : Dev Cert.SampleInOddKernelIdeal.nD,
      r.2.mem ((c.tc : Thread Cert.SampleInOddKernelIdeal.nD Cert.SampleInOddKernelIdeal.τ).loc Cert.SampleInOddKernelIdeal.main_arg0) = m ((c.tc : Thread Cert.SampleInOddKernelIdeal.nD Cert.SampleInOddKernelIdeal.τ).loc Cert.SampleInOddKernelIdeal.main_arg0)
      ∧ r.2.mem ((c.tc : Thread Cert.SampleInOddKernelIdeal.nD Cert.SampleInOddKernelIdeal.τ).loc Cert.SampleInOddKernelIdeal.main_arg1) = m ((c.tc : Thread Cert.SampleInOddKernelIdeal.nD Cert.SampleInOddKernelIdeal.τ).loc Cert.SampleInOddKernelIdeal.main_arg1)
      ∧ r.2.mem ((c.tc : Thread Cert.SampleInOddKernelIdeal.nD Cert.SampleInOddKernelIdeal.τ).loc Cert.SampleInOddKernelIdeal.main_arg2) = m ((c.tc : Thread Cert.SampleInOddKernelIdeal.nD Cert.SampleInOddKernelIdeal.τ).loc Cert.SampleInOddKernelIdeal.main_arg2)
      ∧ r.2.mem ((c.tc : Thread Cert.SampleInOddKernelIdeal.nD Cert.SampleInOddKernelIdeal.τ).loc Cert.SampleInOddKernelIdeal.main_arg3) = m ((c.tc : Thread Cert.SampleInOddKernelIdeal.nD Cert.SampleInOddKernelIdeal.τ).loc Cert.SampleInOddKernelIdeal.main_arg3))
      ∧ r.2.sem = fun _ => 0)

def quiescent_SampleInOddReferenceIdeal [hSampleInOddReferenceIdeal : Cert.SampleInOddReferenceIdeal.Facts] : Prop :=
  ∀ (m : (ℓ : Loc Cert.SampleInOddReferenceIdeal.nD Cert.SampleInOddReferenceIdeal.τ Cert.SampleInOddReferenceIdeal.sig) → Buf (Elt Ideal) ℓ) (g : Dev Cert.SampleInOddReferenceIdeal.nD → PrngReg), Pre_SampleInOddReferenceIdeal m →
    θ_run (Cert.SampleInOddReferenceIdeal.defs (F := Ideal)) (onTc (τ := Cert.SampleInOddReferenceIdeal.τ) (Cert.SampleInOddReferenceIdeal.main (F := Ideal))) ⟨m, fun _ => 0, g⟩ (fun r => (∀ c : Dev Cert.SampleInOddReferenceIdeal.nD,
      r.2.mem ((c.tc : Thread Cert.SampleInOddReferenceIdeal.nD Cert.SampleInOddReferenceIdeal.τ).loc Cert.SampleInOddReferenceIdeal.main_arg0) = m ((c.tc : Thread Cert.SampleInOddReferenceIdeal.nD Cert.SampleInOddReferenceIdeal.τ).loc Cert.SampleInOddReferenceIdeal.main_arg0)
      ∧ r.2.mem ((c.tc : Thread Cert.SampleInOddReferenceIdeal.nD Cert.SampleInOddReferenceIdeal.τ).loc Cert.SampleInOddReferenceIdeal.main_arg1) = m ((c.tc : Thread Cert.SampleInOddReferenceIdeal.nD Cert.SampleInOddReferenceIdeal.τ).loc Cert.SampleInOddReferenceIdeal.main_arg1)
      ∧ r.2.mem ((c.tc : Thread Cert.SampleInOddReferenceIdeal.nD Cert.SampleInOddReferenceIdeal.τ).loc Cert.SampleInOddReferenceIdeal.main_arg2) = m ((c.tc : Thread Cert.SampleInOddReferenceIdeal.nD Cert.SampleInOddReferenceIdeal.τ).loc Cert.SampleInOddReferenceIdeal.main_arg2)
      ∧ r.2.mem ((c.tc : Thread Cert.SampleInOddReferenceIdeal.nD Cert.SampleInOddReferenceIdeal.τ).loc Cert.SampleInOddReferenceIdeal.main_arg3) = m ((c.tc : Thread Cert.SampleInOddReferenceIdeal.nD Cert.SampleInOddReferenceIdeal.τ).loc Cert.SampleInOddReferenceIdeal.main_arg3))
      ∧ r.2.sem = fun _ => 0)

def quiescent_SampleInKernel [hSampleInKernel : Cert.SampleInKernel.Facts] : Prop :=
  ∀ (m : (ℓ : Loc Cert.SampleInKernel.nD Cert.SampleInKernel.τ Cert.SampleInKernel.sig) → Buf (Elt Bits) ℓ) (g : Dev Cert.SampleInKernel.nD → PrngReg), Pre_SampleInKernel m →
    θ_run (Cert.SampleInKernel.defs (F := Bits)) (onTc (τ := Cert.SampleInKernel.τ) (Cert.SampleInKernel.main (F := Bits))) ⟨m, fun _ => 0, g⟩ (fun r => (∀ c : Dev Cert.SampleInKernel.nD,
      r.2.mem ((c.tc : Thread Cert.SampleInKernel.nD Cert.SampleInKernel.τ).loc Cert.SampleInKernel.main_arg0) = m ((c.tc : Thread Cert.SampleInKernel.nD Cert.SampleInKernel.τ).loc Cert.SampleInKernel.main_arg0)
      ∧ r.2.mem ((c.tc : Thread Cert.SampleInKernel.nD Cert.SampleInKernel.τ).loc Cert.SampleInKernel.main_arg1) = m ((c.tc : Thread Cert.SampleInKernel.nD Cert.SampleInKernel.τ).loc Cert.SampleInKernel.main_arg1)
      ∧ r.2.mem ((c.tc : Thread Cert.SampleInKernel.nD Cert.SampleInKernel.τ).loc Cert.SampleInKernel.main_arg2) = m ((c.tc : Thread Cert.SampleInKernel.nD Cert.SampleInKernel.τ).loc Cert.SampleInKernel.main_arg2)
      ∧ r.2.mem ((c.tc : Thread Cert.SampleInKernel.nD Cert.SampleInKernel.τ).loc Cert.SampleInKernel.main_arg3) = m ((c.tc : Thread Cert.SampleInKernel.nD Cert.SampleInKernel.τ).loc Cert.SampleInKernel.main_arg3))
      ∧ r.2.sem = fun _ => 0)

def quiescent_SampleInKernelIdeal [hSampleInKernelIdeal : Cert.SampleInKernelIdeal.Facts] : Prop :=
  ∀ (m : (ℓ : Loc Cert.SampleInKernelIdeal.nD Cert.SampleInKernelIdeal.τ Cert.SampleInKernelIdeal.sig) → Buf (Elt Ideal) ℓ) (g : Dev Cert.SampleInKernelIdeal.nD → PrngReg), Pre_SampleInKernelIdeal m →
    θ_run (Cert.SampleInKernelIdeal.defs (F := Ideal)) (onTc (τ := Cert.SampleInKernelIdeal.τ) (Cert.SampleInKernelIdeal.main (F := Ideal))) ⟨m, fun _ => 0, g⟩ (fun r => (∀ c : Dev Cert.SampleInKernelIdeal.nD,
      r.2.mem ((c.tc : Thread Cert.SampleInKernelIdeal.nD Cert.SampleInKernelIdeal.τ).loc Cert.SampleInKernelIdeal.main_arg0) = m ((c.tc : Thread Cert.SampleInKernelIdeal.nD Cert.SampleInKernelIdeal.τ).loc Cert.SampleInKernelIdeal.main_arg0)
      ∧ r.2.mem ((c.tc : Thread Cert.SampleInKernelIdeal.nD Cert.SampleInKernelIdeal.τ).loc Cert.SampleInKernelIdeal.main_arg1) = m ((c.tc : Thread Cert.SampleInKernelIdeal.nD Cert.SampleInKernelIdeal.τ).loc Cert.SampleInKernelIdeal.main_arg1)
      ∧ r.2.mem ((c.tc : Thread Cert.SampleInKernelIdeal.nD Cert.SampleInKernelIdeal.τ).loc Cert.SampleInKernelIdeal.main_arg2) = m ((c.tc : Thread Cert.SampleInKernelIdeal.nD Cert.SampleInKernelIdeal.τ).loc Cert.SampleInKernelIdeal.main_arg2)
      ∧ r.2.mem ((c.tc : Thread Cert.SampleInKernelIdeal.nD Cert.SampleInKernelIdeal.τ).loc Cert.SampleInKernelIdeal.main_arg3) = m ((c.tc : Thread Cert.SampleInKernelIdeal.nD Cert.SampleInKernelIdeal.τ).loc Cert.SampleInKernelIdeal.main_arg3))
      ∧ r.2.sem = fun _ => 0)

def quiescent_SampleInReferenceIdeal [hSampleInReferenceIdeal : Cert.SampleInReferenceIdeal.Facts] : Prop :=
  ∀ (m : (ℓ : Loc Cert.SampleInReferenceIdeal.nD Cert.SampleInReferenceIdeal.τ Cert.SampleInReferenceIdeal.sig) → Buf (Elt Ideal) ℓ) (g : Dev Cert.SampleInReferenceIdeal.nD → PrngReg), Pre_SampleInReferenceIdeal m →
    θ_run (Cert.SampleInReferenceIdeal.defs (F := Ideal)) (onTc (τ := Cert.SampleInReferenceIdeal.τ) (Cert.SampleInReferenceIdeal.main (F := Ideal))) ⟨m, fun _ => 0, g⟩ (fun r => (∀ c : Dev Cert.SampleInReferenceIdeal.nD,
      r.2.mem ((c.tc : Thread Cert.SampleInReferenceIdeal.nD Cert.SampleInReferenceIdeal.τ).loc Cert.SampleInReferenceIdeal.main_arg0) = m ((c.tc : Thread Cert.SampleInReferenceIdeal.nD Cert.SampleInReferenceIdeal.τ).loc Cert.SampleInReferenceIdeal.main_arg0)
      ∧ r.2.mem ((c.tc : Thread Cert.SampleInReferenceIdeal.nD Cert.SampleInReferenceIdeal.τ).loc Cert.SampleInReferenceIdeal.main_arg1) = m ((c.tc : Thread Cert.SampleInReferenceIdeal.nD Cert.SampleInReferenceIdeal.τ).loc Cert.SampleInReferenceIdeal.main_arg1)
      ∧ r.2.mem ((c.tc : Thread Cert.SampleInReferenceIdeal.nD Cert.SampleInReferenceIdeal.τ).loc Cert.SampleInReferenceIdeal.main_arg2) = m ((c.tc : Thread Cert.SampleInReferenceIdeal.nD Cert.SampleInReferenceIdeal.τ).loc Cert.SampleInReferenceIdeal.main_arg2)
      ∧ r.2.mem ((c.tc : Thread Cert.SampleInReferenceIdeal.nD Cert.SampleInReferenceIdeal.τ).loc Cert.SampleInReferenceIdeal.main_arg3) = m ((c.tc : Thread Cert.SampleInReferenceIdeal.nD Cert.SampleInReferenceIdeal.τ).loc Cert.SampleInReferenceIdeal.main_arg3))
      ∧ r.2.sem = fun _ => 0)

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)) →
    ∃ (v0 : (c : Dev Cert.FfnKernelIdeal.nD) → Buf (Elt Ideal) ((c.tc : Thread Cert.FfnKernelIdeal.nD Cert.FfnKernelIdeal.τ).loc Cert.FfnKernelIdeal.main_v11)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v11) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v24) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v9_0)) (v1 : (c : Dev Cert.InKernelIdeal.nD) → Buf (Elt Ideal) ((c.tc : Thread Cert.InKernelIdeal.nD Cert.InKernelIdeal.τ).loc Cert.InKernelIdeal.main_v9_1)) (v2 : (c : Dev Cert.InKernelIdeal.nD) → Buf (Elt Ideal) ((c.tc : Thread Cert.InKernelIdeal.nD Cert.InKernelIdeal.τ).loc Cert.InKernelIdeal.main_v9_2)) (v3 : (c : Dev Cert.InKernelIdeal.nD) → Buf (Elt Ideal) ((c.tc : Thread Cert.InKernelIdeal.nD Cert.InKernelIdeal.τ).loc Cert.InKernelIdeal.main_v9_3)) (v4 : (c : Dev Cert.InKernelIdeal.nD) → Buf (Elt Ideal) ((c.tc : Thread Cert.InKernelIdeal.nD Cert.InKernelIdeal.τ).loc Cert.InKernelIdeal.main_v11)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v9_0) = v0 c
          ∧ r.2.mem ((c.tc : Thread Cert.InKernelIdeal.nD Cert.InKernelIdeal.τ).loc Cert.InKernelIdeal.main_v9_1) = v1 c
          ∧ r.2.mem ((c.tc : Thread Cert.InKernelIdeal.nD Cert.InKernelIdeal.τ).loc Cert.InKernelIdeal.main_v9_2) = v2 c
          ∧ r.2.mem ((c.tc : Thread Cert.InKernelIdeal.nD Cert.InKernelIdeal.τ).loc Cert.InKernelIdeal.main_v9_3) = v3 c
          ∧ r.2.mem ((c.tc : Thread Cert.InKernelIdeal.nD Cert.InKernelIdeal.τ).loc Cert.InKernelIdeal.main_v11) = v4 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v19) = v0 c
          ∧ r.2.mem ((c.tc : Thread Cert.InReferenceIdeal.nD Cert.InReferenceIdeal.τ).loc Cert.InReferenceIdeal.main_v20) = v1 c
          ∧ r.2.mem ((c.tc : Thread Cert.InReferenceIdeal.nD Cert.InReferenceIdeal.τ).loc Cert.InReferenceIdeal.main_v18) = v2 c
          ∧ r.2.mem ((c.tc : Thread Cert.InReferenceIdeal.nD Cert.InReferenceIdeal.τ).loc Cert.InReferenceIdeal.main_v22) = v3 c
          ∧ r.2.mem ((c.tc : Thread Cert.InReferenceIdeal.nD Cert.InReferenceIdeal.τ).loc Cert.InReferenceIdeal.main_v25) = v4 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_FfnOddKernel_FfnOddKernelIdeal : Prop :=
  True

def algebraic_FfnOddKernelIdeal_FfnOddReferenceIdeal [hFfnOddKernelIdeal : Cert.FfnOddKernelIdeal.Facts] [hFfnOddReferenceIdeal : Cert.FfnOddReferenceIdeal.Facts] : Prop :=
  ∀ (m : (ℓ : Loc Cert.FfnOddKernelIdeal.nD Cert.FfnOddKernelIdeal.τ Cert.FfnOddKernelIdeal.sig) → Buf (Elt Ideal) ℓ) (g : Dev Cert.FfnOddKernelIdeal.nD → PrngReg)
    (m' : (ℓ : Loc Cert.FfnOddReferenceIdeal.nD Cert.FfnOddReferenceIdeal.τ Cert.FfnOddReferenceIdeal.sig) → Buf (Elt Ideal) ℓ) (g' : Dev Cert.FfnOddReferenceIdeal.nD → PrngReg), Pre_FfnOddKernelIdeal m →
    (∀ c : Dev Cert.FfnOddKernelIdeal.nD,
      m' ((c.tc : Thread Cert.FfnOddReferenceIdeal.nD Cert.FfnOddReferenceIdeal.τ).loc Cert.FfnOddReferenceIdeal.main_arg0) = m ((c.tc : Thread Cert.FfnOddKernelIdeal.nD Cert.FfnOddKernelIdeal.τ).loc Cert.FfnOddKernelIdeal.main_arg0)
      ∧ m' ((c.tc : Thread Cert.FfnOddReferenceIdeal.nD Cert.FfnOddReferenceIdeal.τ).loc Cert.FfnOddReferenceIdeal.main_arg1) = m ((c.tc : Thread Cert.FfnOddKernelIdeal.nD Cert.FfnOddKernelIdeal.τ).loc Cert.FfnOddKernelIdeal.main_arg1)
      ∧ m' ((c.tc : Thread Cert.FfnOddReferenceIdeal.nD Cert.FfnOddReferenceIdeal.τ).loc Cert.FfnOddReferenceIdeal.main_arg2) = m ((c.tc : Thread Cert.FfnOddKernelIdeal.nD Cert.FfnOddKernelIdeal.τ).loc Cert.FfnOddKernelIdeal.main_arg2)
      ∧ m' ((c.tc : Thread Cert.FfnOddReferenceIdeal.nD Cert.FfnOddReferenceIdeal.τ).loc Cert.FfnOddReferenceIdeal.main_arg3) = m ((c.tc : Thread Cert.FfnOddKernelIdeal.nD Cert.FfnOddKernelIdeal.τ).loc Cert.FfnOddKernelIdeal.main_arg3)
      ∧ m' ((c.tc : Thread Cert.FfnOddReferenceIdeal.nD Cert.FfnOddReferenceIdeal.τ).loc Cert.FfnOddReferenceIdeal.main_arg4) = m ((c.tc : Thread Cert.FfnOddKernelIdeal.nD Cert.FfnOddKernelIdeal.τ).loc Cert.FfnOddKernelIdeal.main_arg4)
      ∧ m' ((c.tc : Thread Cert.FfnOddReferenceIdeal.nD Cert.FfnOddReferenceIdeal.τ).loc Cert.FfnOddReferenceIdeal.main_arg5) = m ((c.tc : Thread Cert.FfnOddKernelIdeal.nD Cert.FfnOddKernelIdeal.τ).loc Cert.FfnOddKernelIdeal.main_arg5)
      ∧ m' ((c.tc : Thread Cert.FfnOddReferenceIdeal.nD Cert.FfnOddReferenceIdeal.τ).loc Cert.FfnOddReferenceIdeal.main_arg6) = m ((c.tc : Thread Cert.FfnOddKernelIdeal.nD Cert.FfnOddKernelIdeal.τ).loc Cert.FfnOddKernelIdeal.main_arg6)) →
    ∃ (v0 : (c : Dev Cert.FfnOddKernelIdeal.nD) → Buf (Elt Ideal) ((c.tc : Thread Cert.FfnOddKernelIdeal.nD Cert.FfnOddKernelIdeal.τ).loc Cert.FfnOddKernelIdeal.main_v10)),
      θ_run (Cert.FfnOddKernelIdeal.defs (F := Ideal)) (onTc (τ := Cert.FfnOddKernelIdeal.τ) (Cert.FfnOddKernelIdeal.main (F := Ideal))) ⟨m, fun _ => 0, g⟩ (fun r => ∀ c : Dev Cert.FfnOddKernelIdeal.nD,
          r.2.mem ((c.tc : Thread Cert.FfnOddKernelIdeal.nD Cert.FfnOddKernelIdeal.τ).loc Cert.FfnOddKernelIdeal.main_v10) = v0 c
          ∧ r.2.mem ((c.tc : Thread Cert.FfnOddKernelIdeal.nD Cert.FfnOddKernelIdeal.τ).loc Cert.FfnOddKernelIdeal.main_arg0) = m ((c.tc : Thread Cert.FfnOddKernelIdeal.nD Cert.FfnOddKernelIdeal.τ).loc Cert.FfnOddKernelIdeal.main_arg0)
          ∧ r.2.mem ((c.tc : Thread Cert.FfnOddKernelIdeal.nD Cert.FfnOddKernelIdeal.τ).loc Cert.FfnOddKernelIdeal.main_arg1) = m ((c.tc : Thread Cert.FfnOddKernelIdeal.nD Cert.FfnOddKernelIdeal.τ).loc Cert.FfnOddKernelIdeal.main_arg1)
          ∧ r.2.mem ((c.tc : Thread Cert.FfnOddKernelIdeal.nD Cert.FfnOddKernelIdeal.τ).loc Cert.FfnOddKernelIdeal.main_arg2) = m ((c.tc : Thread Cert.FfnOddKernelIdeal.nD Cert.FfnOddKernelIdeal.τ).loc Cert.FfnOddKernelIdeal.main_arg2)
          ∧ r.2.mem ((c.tc : Thread Cert.FfnOddKernelIdeal.nD Cert.FfnOddKernelIdeal.τ).loc Cert.FfnOddKernelIdeal.main_arg3) = m ((c.tc : Thread Cert.FfnOddKernelIdeal.nD Cert.FfnOddKernelIdeal.τ).loc Cert.FfnOddKernelIdeal.main_arg3)
          ∧ r.2.mem ((c.tc : Thread Cert.FfnOddKernelIdeal.nD Cert.FfnOddKernelIdeal.τ).loc Cert.FfnOddKernelIdeal.main_arg4) = m ((c.tc : Thread Cert.FfnOddKernelIdeal.nD Cert.FfnOddKernelIdeal.τ).loc Cert.FfnOddKernelIdeal.main_arg4)
          ∧ r.2.mem ((c.tc : Thread Cert.FfnOddKernelIdeal.nD Cert.FfnOddKernelIdeal.τ).loc Cert.FfnOddKernelIdeal.main_arg5) = m ((c.tc : Thread Cert.FfnOddKernelIdeal.nD Cert.FfnOddKernelIdeal.τ).loc Cert.FfnOddKernelIdeal.main_arg5)
          ∧ r.2.mem ((c.tc : Thread Cert.FfnOddKernelIdeal.nD Cert.FfnOddKernelIdeal.τ).loc Cert.FfnOddKernelIdeal.main_arg6) = m ((c.tc : Thread Cert.FfnOddKernelIdeal.nD Cert.FfnOddKernelIdeal.τ).loc Cert.FfnOddKernelIdeal.main_arg6))
      ∧ θ_run (Cert.FfnOddReferenceIdeal.defs (F := Ideal)) (onTc (τ := Cert.FfnOddReferenceIdeal.τ) (Cert.FfnOddReferenceIdeal.main (F := Ideal))) ⟨m', fun _ => 0, g'⟩ (fun r => ∀ c : Dev Cert.FfnOddReferenceIdeal.nD,
          r.2.mem ((c.tc : Thread Cert.FfnOddReferenceIdeal.nD Cert.FfnOddReferenceIdeal.τ).loc Cert.FfnOddReferenceIdeal.main_v21) = v0 c
          ∧ r.2.mem ((c.tc : Thread Cert.FfnOddReferenceIdeal.nD Cert.FfnOddReferenceIdeal.τ).loc Cert.FfnOddReferenceIdeal.main_arg0) = m' ((c.tc : Thread Cert.FfnOddReferenceIdeal.nD Cert.FfnOddReferenceIdeal.τ).loc Cert.FfnOddReferenceIdeal.main_arg0)
          ∧ r.2.mem ((c.tc : Thread Cert.FfnOddReferenceIdeal.nD Cert.FfnOddReferenceIdeal.τ).loc Cert.FfnOddReferenceIdeal.main_arg1) = m' ((c.tc : Thread Cert.FfnOddReferenceIdeal.nD Cert.FfnOddReferenceIdeal.τ).loc Cert.FfnOddReferenceIdeal.main_arg1)
          ∧ r.2.mem ((c.tc : Thread Cert.FfnOddReferenceIdeal.nD Cert.FfnOddReferenceIdeal.τ).loc Cert.FfnOddReferenceIdeal.main_arg2) = m' ((c.tc : Thread Cert.FfnOddReferenceIdeal.nD Cert.FfnOddReferenceIdeal.τ).loc Cert.FfnOddReferenceIdeal.main_arg2)
          ∧ r.2.mem ((c.tc : Thread Cert.FfnOddReferenceIdeal.nD Cert.FfnOddReferenceIdeal.τ).loc Cert.FfnOddReferenceIdeal.main_arg3) = m' ((c.tc : Thread Cert.FfnOddReferenceIdeal.nD Cert.FfnOddReferenceIdeal.τ).loc Cert.FfnOddReferenceIdeal.main_arg3)
          ∧ r.2.mem ((c.tc : Thread Cert.FfnOddReferenceIdeal.nD Cert.FfnOddReferenceIdeal.τ).loc Cert.FfnOddReferenceIdeal.main_arg4) = m' ((c.tc : Thread Cert.FfnOddReferenceIdeal.nD Cert.FfnOddReferenceIdeal.τ).loc Cert.FfnOddReferenceIdeal.main_arg4)
          ∧ r.2.mem ((c.tc : Thread Cert.FfnOddReferenceIdeal.nD Cert.FfnOddReferenceIdeal.τ).loc Cert.FfnOddReferenceIdeal.main_arg5) = m' ((c.tc : Thread Cert.FfnOddReferenceIdeal.nD Cert.FfnOddReferenceIdeal.τ).loc Cert.FfnOddReferenceIdeal.main_arg5)
          ∧ r.2.mem ((c.tc : Thread Cert.FfnOddReferenceIdeal.nD Cert.FfnOddReferenceIdeal.τ).loc Cert.FfnOddReferenceIdeal.main_arg6) = m' ((c.tc : Thread Cert.FfnOddReferenceIdeal.nD Cert.FfnOddReferenceIdeal.τ).loc Cert.FfnOddReferenceIdeal.main_arg6))

def preserves_InOddKernel_InOddKernelIdeal : Prop :=
  True

def algebraic_InOddKernelIdeal_InOddReferenceIdeal [hInOddKernelIdeal : Cert.InOddKernelIdeal.Facts] [hInOddReferenceIdeal : Cert.InOddReferenceIdeal.Facts] : Prop :=
  ∀ (m : (ℓ : Loc Cert.InOddKernelIdeal.nD Cert.InOddKernelIdeal.τ Cert.InOddKernelIdeal.sig) → Buf (Elt Ideal) ℓ) (g : Dev Cert.InOddKernelIdeal.nD → PrngReg)
    (m' : (ℓ : Loc Cert.InOddReferenceIdeal.nD Cert.InOddReferenceIdeal.τ Cert.InOddReferenceIdeal.sig) → Buf (Elt Ideal) ℓ) (g' : Dev Cert.InOddReferenceIdeal.nD → PrngReg), Pre_InOddKernelIdeal m →
    (∀ c : Dev Cert.InOddKernelIdeal.nD,
      m' ((c.tc : Thread Cert.InOddReferenceIdeal.nD Cert.InOddReferenceIdeal.τ).loc Cert.InOddReferenceIdeal.main_arg0) = m ((c.tc : Thread Cert.InOddKernelIdeal.nD Cert.InOddKernelIdeal.τ).loc Cert.InOddKernelIdeal.main_arg0)
      ∧ m' ((c.tc : Thread Cert.InOddReferenceIdeal.nD Cert.InOddReferenceIdeal.τ).loc Cert.InOddReferenceIdeal.main_arg1) = m ((c.tc : Thread Cert.InOddKernelIdeal.nD Cert.InOddKernelIdeal.τ).loc Cert.InOddKernelIdeal.main_arg1)
      ∧ m' ((c.tc : Thread Cert.InOddReferenceIdeal.nD Cert.InOddReferenceIdeal.τ).loc Cert.InOddReferenceIdeal.main_arg2) = m ((c.tc : Thread Cert.InOddKernelIdeal.nD Cert.InOddKernelIdeal.τ).loc Cert.InOddKernelIdeal.main_arg2)
      ∧ m' ((c.tc : Thread Cert.InOddReferenceIdeal.nD Cert.InOddReferenceIdeal.τ).loc Cert.InOddReferenceIdeal.main_arg3) = m ((c.tc : Thread Cert.InOddKernelIdeal.nD Cert.InOddKernelIdeal.τ).loc Cert.InOddKernelIdeal.main_arg3)) →
    ∃ (v0 : (c : Dev Cert.InOddKernelIdeal.nD) → Buf (Elt Ideal) ((c.tc : Thread Cert.InOddKernelIdeal.nD Cert.InOddKernelIdeal.τ).loc Cert.InOddKernelIdeal.main_v45_1)) (v1 : (c : Dev Cert.InOddKernelIdeal.nD) → Buf (Elt Ideal) ((c.tc : Thread Cert.InOddKernelIdeal.nD Cert.InOddKernelIdeal.τ).loc Cert.InOddKernelIdeal.main_v45_2)) (v2 : (c : Dev Cert.InOddKernelIdeal.nD) → Buf (Elt Ideal) ((c.tc : Thread Cert.InOddKernelIdeal.nD Cert.InOddKernelIdeal.τ).loc Cert.InOddKernelIdeal.main_v45_5)) (v3 : (c : Dev Cert.InOddKernelIdeal.nD) → Buf (Elt Ideal) ((c.tc : Thread Cert.InOddKernelIdeal.nD Cert.InOddKernelIdeal.τ).loc Cert.InOddKernelIdeal.main_v45_7)) (v4 : (c : Dev Cert.InOddKernelIdeal.nD) → Buf (Elt Ideal) ((c.tc : Thread Cert.InOddKernelIdeal.nD Cert.InOddKernelIdeal.τ).loc Cert.InOddKernelIdeal.main_v45_9)),
      θ_run (Cert.InOddKernelIdeal.defs (F := Ideal)) (onTc (τ := Cert.InOddKernelIdeal.τ) (Cert.InOddKernelIdeal.main (F := Ideal))) ⟨m, fun _ => 0, g⟩ (fun r => ∀ c : Dev Cert.InOddKernelIdeal.nD,
          r.2.mem ((c.tc : Thread Cert.InOddKernelIdeal.nD Cert.InOddKernelIdeal.τ).loc Cert.InOddKernelIdeal.main_v45_1) = v0 c
          ∧ r.2.mem ((c.tc : Thread Cert.InOddKernelIdeal.nD Cert.InOddKernelIdeal.τ).loc Cert.InOddKernelIdeal.main_v45_2) = v1 c
          ∧ r.2.mem ((c.tc : Thread Cert.InOddKernelIdeal.nD Cert.InOddKernelIdeal.τ).loc Cert.InOddKernelIdeal.main_v45_5) = v2 c
          ∧ r.2.mem ((c.tc : Thread Cert.InOddKernelIdeal.nD Cert.InOddKernelIdeal.τ).loc Cert.InOddKernelIdeal.main_v45_7) = v3 c
          ∧ r.2.mem ((c.tc : Thread Cert.InOddKernelIdeal.nD Cert.InOddKernelIdeal.τ).loc Cert.InOddKernelIdeal.main_v45_9) = v4 c
          ∧ r.2.mem ((c.tc : Thread Cert.InOddKernelIdeal.nD Cert.InOddKernelIdeal.τ).loc Cert.InOddKernelIdeal.main_arg0) = m ((c.tc : Thread Cert.InOddKernelIdeal.nD Cert.InOddKernelIdeal.τ).loc Cert.InOddKernelIdeal.main_arg0)
          ∧ r.2.mem ((c.tc : Thread Cert.InOddKernelIdeal.nD Cert.InOddKernelIdeal.τ).loc Cert.InOddKernelIdeal.main_arg1) = m ((c.tc : Thread Cert.InOddKernelIdeal.nD Cert.InOddKernelIdeal.τ).loc Cert.InOddKernelIdeal.main_arg1)
          ∧ r.2.mem ((c.tc : Thread Cert.InOddKernelIdeal.nD Cert.InOddKernelIdeal.τ).loc Cert.InOddKernelIdeal.main_arg2) = m ((c.tc : Thread Cert.InOddKernelIdeal.nD Cert.InOddKernelIdeal.τ).loc Cert.InOddKernelIdeal.main_arg2)
          ∧ r.2.mem ((c.tc : Thread Cert.InOddKernelIdeal.nD Cert.InOddKernelIdeal.τ).loc Cert.InOddKernelIdeal.main_arg3) = m ((c.tc : Thread Cert.InOddKernelIdeal.nD Cert.InOddKernelIdeal.τ).loc Cert.InOddKernelIdeal.main_arg3))
      ∧ θ_run (Cert.InOddReferenceIdeal.defs (F := Ideal)) (onTc (τ := Cert.InOddReferenceIdeal.τ) (Cert.InOddReferenceIdeal.main (F := Ideal))) ⟨m', fun _ => 0, g'⟩ (fun r => ∀ c : Dev Cert.InOddReferenceIdeal.nD,
          r.2.mem ((c.tc : Thread Cert.InOddReferenceIdeal.nD Cert.InOddReferenceIdeal.τ).loc Cert.InOddReferenceIdeal.main_v56) = v0 c
          ∧ r.2.mem ((c.tc : Thread Cert.InOddReferenceIdeal.nD Cert.InOddReferenceIdeal.τ).loc Cert.InOddReferenceIdeal.main_v57) = v1 c
          ∧ r.2.mem ((c.tc : Thread Cert.InOddReferenceIdeal.nD Cert.InOddReferenceIdeal.τ).loc Cert.InOddReferenceIdeal.main_v58) = v2 c
          ∧ r.2.mem ((c.tc : Thread Cert.InOddReferenceIdeal.nD Cert.InOddReferenceIdeal.τ).loc Cert.InOddReferenceIdeal.main_v59) = v3 c
          ∧ r.2.mem ((c.tc : Thread Cert.InOddReferenceIdeal.nD Cert.InOddReferenceIdeal.τ).loc Cert.InOddReferenceIdeal.main_v55) = v4 c
          ∧ r.2.mem ((c.tc : Thread Cert.InOddReferenceIdeal.nD Cert.InOddReferenceIdeal.τ).loc Cert.InOddReferenceIdeal.main_arg0) = m' ((c.tc : Thread Cert.InOddReferenceIdeal.nD Cert.InOddReferenceIdeal.τ).loc Cert.InOddReferenceIdeal.main_arg0)
          ∧ r.2.mem ((c.tc : Thread Cert.InOddReferenceIdeal.nD Cert.InOddReferenceIdeal.τ).loc Cert.InOddReferenceIdeal.main_arg1) = m' ((c.tc : Thread Cert.InOddReferenceIdeal.nD Cert.InOddReferenceIdeal.τ).loc Cert.InOddReferenceIdeal.main_arg1)
          ∧ r.2.mem ((c.tc : Thread Cert.InOddReferenceIdeal.nD Cert.InOddReferenceIdeal.τ).loc Cert.InOddReferenceIdeal.main_arg2) = m' ((c.tc : Thread Cert.InOddReferenceIdeal.nD Cert.InOddReferenceIdeal.τ).loc Cert.InOddReferenceIdeal.main_arg2)
          ∧ r.2.mem ((c.tc : Thread Cert.InOddReferenceIdeal.nD Cert.InOddReferenceIdeal.τ).loc Cert.InOddReferenceIdeal.main_arg3) = m' ((c.tc : Thread Cert.InOddReferenceIdeal.nD Cert.InOddReferenceIdeal.τ).loc Cert.InOddReferenceIdeal.main_arg3))

def preserves_OrderKernel_OrderKernelIdeal : Prop :=
  True

def algebraic_OrderKernelIdeal_OrderReferenceIdeal [hOrderKernelIdeal : Cert.OrderKernelIdeal.Facts] [hOrderReferenceIdeal : Cert.OrderReferenceIdeal.Facts] : Prop :=
  ∀ (m : (ℓ : Loc Cert.OrderKernelIdeal.nD Cert.OrderKernelIdeal.τ Cert.OrderKernelIdeal.sig) → Buf (Elt Ideal) ℓ) (g : Dev Cert.OrderKernelIdeal.nD → PrngReg)
    (m' : (ℓ : Loc Cert.OrderReferenceIdeal.nD Cert.OrderReferenceIdeal.τ Cert.OrderReferenceIdeal.sig) → Buf (Elt Ideal) ℓ) (g' : Dev Cert.OrderReferenceIdeal.nD → PrngReg), Pre_OrderKernelIdeal m →
    (∀ c : Dev Cert.OrderKernelIdeal.nD,
      m' ((c.tc : Thread Cert.OrderReferenceIdeal.nD Cert.OrderReferenceIdeal.τ).loc Cert.OrderReferenceIdeal.main_arg0) = m ((c.tc : Thread Cert.OrderKernelIdeal.nD Cert.OrderKernelIdeal.τ).loc Cert.OrderKernelIdeal.main_arg0)) →
    ∃ (v0 : (c : Dev Cert.OrderKernelIdeal.nD) → Buf (Elt Ideal) ((c.tc : Thread Cert.OrderKernelIdeal.nD Cert.OrderKernelIdeal.τ).loc Cert.OrderKernelIdeal.main_v0)),
      θ_run (Cert.OrderKernelIdeal.defs (F := Ideal)) (onTc (τ := Cert.OrderKernelIdeal.τ) (Cert.OrderKernelIdeal.main (F := Ideal))) ⟨m, fun _ => 0, g⟩ (fun r => ∀ c : Dev Cert.OrderKernelIdeal.nD,
          r.2.mem ((c.tc : Thread Cert.OrderKernelIdeal.nD Cert.OrderKernelIdeal.τ).loc Cert.OrderKernelIdeal.main_v0) = v0 c
          ∧ r.2.mem ((c.tc : Thread Cert.OrderKernelIdeal.nD Cert.OrderKernelIdeal.τ).loc Cert.OrderKernelIdeal.main_arg0) = m ((c.tc : Thread Cert.OrderKernelIdeal.nD Cert.OrderKernelIdeal.τ).loc Cert.OrderKernelIdeal.main_arg0))
      ∧ θ_run (Cert.OrderReferenceIdeal.defs (F := Ideal)) (onTc (τ := Cert.OrderReferenceIdeal.τ) (Cert.OrderReferenceIdeal.main (F := Ideal))) ⟨m', fun _ => 0, g'⟩ (fun r => ∀ c : Dev Cert.OrderReferenceIdeal.nD,
          r.2.mem ((c.tc : Thread Cert.OrderReferenceIdeal.nD Cert.OrderReferenceIdeal.τ).loc Cert.OrderReferenceIdeal.main_v3) = v0 c
          ∧ r.2.mem ((c.tc : Thread Cert.OrderReferenceIdeal.nD Cert.OrderReferenceIdeal.τ).loc Cert.OrderReferenceIdeal.main_arg0) = m' ((c.tc : Thread Cert.OrderReferenceIdeal.nD Cert.OrderReferenceIdeal.τ).loc Cert.OrderReferenceIdeal.main_arg0))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v2) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)) →
    ∃ (v0 : (c : Dev Cert.GateKernelIdeal.nD) → Buf (Elt Ideal) ((c.tc : Thread Cert.GateKernelIdeal.nD Cert.GateKernelIdeal.τ).loc Cert.GateKernelIdeal.main_v10)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v10) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v7) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_SampleNormKernel_SampleNormKernelIdeal : Prop :=
  True

def algebraic_SampleNormKernelIdeal_SampleNormReferenceIdeal [hSampleNormKernelIdeal : Cert.SampleNormKernelIdeal.Facts] [hSampleNormReferenceIdeal : Cert.SampleNormReferenceIdeal.Facts] : Prop :=
  ∀ (m : (ℓ : Loc Cert.SampleNormKernelIdeal.nD Cert.SampleNormKernelIdeal.τ Cert.SampleNormKernelIdeal.sig) → Buf (Elt Ideal) ℓ) (g : Dev Cert.SampleNormKernelIdeal.nD → PrngReg)
    (m' : (ℓ : Loc Cert.SampleNormReferenceIdeal.nD Cert.SampleNormReferenceIdeal.τ Cert.SampleNormReferenceIdeal.sig) → Buf (Elt Ideal) ℓ) (g' : Dev Cert.SampleNormReferenceIdeal.nD → PrngReg), Pre_SampleNormKernelIdeal m →
    (∀ c : Dev Cert.SampleNormKernelIdeal.nD,
      m' ((c.tc : Thread Cert.SampleNormReferenceIdeal.nD Cert.SampleNormReferenceIdeal.τ).loc Cert.SampleNormReferenceIdeal.main_arg0) = m ((c.tc : Thread Cert.SampleNormKernelIdeal.nD Cert.SampleNormKernelIdeal.τ).loc Cert.SampleNormKernelIdeal.main_arg0)
      ∧ m' ((c.tc : Thread Cert.SampleNormReferenceIdeal.nD Cert.SampleNormReferenceIdeal.τ).loc Cert.SampleNormReferenceIdeal.main_arg1) = m ((c.tc : Thread Cert.SampleNormKernelIdeal.nD Cert.SampleNormKernelIdeal.τ).loc Cert.SampleNormKernelIdeal.main_arg1)) →
    ∃ (v0 : (c : Dev Cert.SampleNormKernelIdeal.nD) → Buf (Elt Ideal) ((c.tc : Thread Cert.SampleNormKernelIdeal.nD Cert.SampleNormKernelIdeal.τ).loc Cert.SampleNormKernelIdeal.main_v2)),
      θ_run (Cert.SampleNormKernelIdeal.defs (F := Ideal)) (onTc (τ := Cert.SampleNormKernelIdeal.τ) (Cert.SampleNormKernelIdeal.main (F := Ideal))) ⟨m, fun _ => 0, g⟩ (fun r => ∀ c : Dev Cert.SampleNormKernelIdeal.nD,
          r.2.mem ((c.tc : Thread Cert.SampleNormKernelIdeal.nD Cert.SampleNormKernelIdeal.τ).loc Cert.SampleNormKernelIdeal.main_v2) = v0 c
          ∧ r.2.mem ((c.tc : Thread Cert.SampleNormKernelIdeal.nD Cert.SampleNormKernelIdeal.τ).loc Cert.SampleNormKernelIdeal.main_arg0) = m ((c.tc : Thread Cert.SampleNormKernelIdeal.nD Cert.SampleNormKernelIdeal.τ).loc Cert.SampleNormKernelIdeal.main_arg0)
          ∧ r.2.mem ((c.tc : Thread Cert.SampleNormKernelIdeal.nD Cert.SampleNormKernelIdeal.τ).loc Cert.SampleNormKernelIdeal.main_arg1) = m ((c.tc : Thread Cert.SampleNormKernelIdeal.nD Cert.SampleNormKernelIdeal.τ).loc Cert.SampleNormKernelIdeal.main_arg1))
      ∧ θ_run (Cert.SampleNormReferenceIdeal.defs (F := Ideal)) (onTc (τ := Cert.SampleNormReferenceIdeal.τ) (Cert.SampleNormReferenceIdeal.main (F := Ideal))) ⟨m', fun _ => 0, g'⟩ (fun r => ∀ c : Dev Cert.SampleNormReferenceIdeal.nD,
          r.2.mem ((c.tc : Thread Cert.SampleNormReferenceIdeal.nD Cert.SampleNormReferenceIdeal.τ).loc Cert.SampleNormReferenceIdeal.main_v13) = v0 c
          ∧ r.2.mem ((c.tc : Thread Cert.SampleNormReferenceIdeal.nD Cert.SampleNormReferenceIdeal.τ).loc Cert.SampleNormReferenceIdeal.main_arg0) = m' ((c.tc : Thread Cert.SampleNormReferenceIdeal.nD Cert.SampleNormReferenceIdeal.τ).loc Cert.SampleNormReferenceIdeal.main_arg0)
          ∧ r.2.mem ((c.tc : Thread Cert.SampleNormReferenceIdeal.nD Cert.SampleNormReferenceIdeal.τ).loc Cert.SampleNormReferenceIdeal.main_arg1) = m' ((c.tc : Thread Cert.SampleNormReferenceIdeal.nD Cert.SampleNormReferenceIdeal.τ).loc Cert.SampleNormReferenceIdeal.main_arg1))

def preserves_SampleGateKernel_SampleGateKernelIdeal : Prop :=
  True

def algebraic_SampleGateKernelIdeal_SampleGateReferenceIdeal [hSampleGateKernelIdeal : Cert.SampleGateKernelIdeal.Facts] [hSampleGateReferenceIdeal : Cert.SampleGateReferenceIdeal.Facts] : Prop :=
  ∀ (m : (ℓ : Loc Cert.SampleGateKernelIdeal.nD Cert.SampleGateKernelIdeal.τ Cert.SampleGateKernelIdeal.sig) → Buf (Elt Ideal) ℓ) (g : Dev Cert.SampleGateKernelIdeal.nD → PrngReg)
    (m' : (ℓ : Loc Cert.SampleGateReferenceIdeal.nD Cert.SampleGateReferenceIdeal.τ Cert.SampleGateReferenceIdeal.sig) → Buf (Elt Ideal) ℓ) (g' : Dev Cert.SampleGateReferenceIdeal.nD → PrngReg), Pre_SampleGateKernelIdeal m →
    (∀ c : Dev Cert.SampleGateKernelIdeal.nD,
      m' ((c.tc : Thread Cert.SampleGateReferenceIdeal.nD Cert.SampleGateReferenceIdeal.τ).loc Cert.SampleGateReferenceIdeal.main_arg0) = m ((c.tc : Thread Cert.SampleGateKernelIdeal.nD Cert.SampleGateKernelIdeal.τ).loc Cert.SampleGateKernelIdeal.main_arg0)
      ∧ m' ((c.tc : Thread Cert.SampleGateReferenceIdeal.nD Cert.SampleGateReferenceIdeal.τ).loc Cert.SampleGateReferenceIdeal.main_arg1) = m ((c.tc : Thread Cert.SampleGateKernelIdeal.nD Cert.SampleGateKernelIdeal.τ).loc Cert.SampleGateKernelIdeal.main_arg1)) →
    ∃ (v0 : (c : Dev Cert.SampleGateKernelIdeal.nD) → Buf (Elt Ideal) ((c.tc : Thread Cert.SampleGateKernelIdeal.nD Cert.SampleGateKernelIdeal.τ).loc Cert.SampleGateKernelIdeal.main_v7)),
      θ_run (Cert.SampleGateKernelIdeal.defs (F := Ideal)) (onTc (τ := Cert.SampleGateKernelIdeal.τ) (Cert.SampleGateKernelIdeal.main (F := Ideal))) ⟨m, fun _ => 0, g⟩ (fun r => ∀ c : Dev Cert.SampleGateKernelIdeal.nD,
          r.2.mem ((c.tc : Thread Cert.SampleGateKernelIdeal.nD Cert.SampleGateKernelIdeal.τ).loc Cert.SampleGateKernelIdeal.main_v7) = v0 c
          ∧ r.2.mem ((c.tc : Thread Cert.SampleGateKernelIdeal.nD Cert.SampleGateKernelIdeal.τ).loc Cert.SampleGateKernelIdeal.main_arg0) = m ((c.tc : Thread Cert.SampleGateKernelIdeal.nD Cert.SampleGateKernelIdeal.τ).loc Cert.SampleGateKernelIdeal.main_arg0)
          ∧ r.2.mem ((c.tc : Thread Cert.SampleGateKernelIdeal.nD Cert.SampleGateKernelIdeal.τ).loc Cert.SampleGateKernelIdeal.main_arg1) = m ((c.tc : Thread Cert.SampleGateKernelIdeal.nD Cert.SampleGateKernelIdeal.τ).loc Cert.SampleGateKernelIdeal.main_arg1))
      ∧ θ_run (Cert.SampleGateReferenceIdeal.defs (F := Ideal)) (onTc (τ := Cert.SampleGateReferenceIdeal.τ) (Cert.SampleGateReferenceIdeal.main (F := Ideal))) ⟨m', fun _ => 0, g'⟩ (fun r => ∀ c : Dev Cert.SampleGateReferenceIdeal.nD,
          r.2.mem ((c.tc : Thread Cert.SampleGateReferenceIdeal.nD Cert.SampleGateReferenceIdeal.τ).loc Cert.SampleGateReferenceIdeal.main_v4) = v0 c
          ∧ r.2.mem ((c.tc : Thread Cert.SampleGateReferenceIdeal.nD Cert.SampleGateReferenceIdeal.τ).loc Cert.SampleGateReferenceIdeal.main_arg0) = m' ((c.tc : Thread Cert.SampleGateReferenceIdeal.nD Cert.SampleGateReferenceIdeal.τ).loc Cert.SampleGateReferenceIdeal.main_arg0)
          ∧ r.2.mem ((c.tc : Thread Cert.SampleGateReferenceIdeal.nD Cert.SampleGateReferenceIdeal.τ).loc Cert.SampleGateReferenceIdeal.main_arg1) = m' ((c.tc : Thread Cert.SampleGateReferenceIdeal.nD Cert.SampleGateReferenceIdeal.τ).loc Cert.SampleGateReferenceIdeal.main_arg1))

def preserves_SampleInOddKernel_SampleInOddKernelIdeal : Prop :=
  True

def algebraic_SampleInOddKernelIdeal_SampleInOddReferenceIdeal [hSampleInOddKernelIdeal : Cert.SampleInOddKernelIdeal.Facts] [hSampleInOddReferenceIdeal : Cert.SampleInOddReferenceIdeal.Facts] : Prop :=
  ∀ (m : (ℓ : Loc Cert.SampleInOddKernelIdeal.nD Cert.SampleInOddKernelIdeal.τ Cert.SampleInOddKernelIdeal.sig) → Buf (Elt Ideal) ℓ) (g : Dev Cert.SampleInOddKernelIdeal.nD → PrngReg)
    (m' : (ℓ : Loc Cert.SampleInOddReferenceIdeal.nD Cert.SampleInOddReferenceIdeal.τ Cert.SampleInOddReferenceIdeal.sig) → Buf (Elt Ideal) ℓ) (g' : Dev Cert.SampleInOddReferenceIdeal.nD → PrngReg), Pre_SampleInOddKernelIdeal m →
    (∀ c : Dev Cert.SampleInOddKernelIdeal.nD,
      m' ((c.tc : Thread Cert.SampleInOddReferenceIdeal.nD Cert.SampleInOddReferenceIdeal.τ).loc Cert.SampleInOddReferenceIdeal.main_arg0) = m ((c.tc : Thread Cert.SampleInOddKernelIdeal.nD Cert.SampleInOddKernelIdeal.τ).loc Cert.SampleInOddKernelIdeal.main_arg0)
      ∧ m' ((c.tc : Thread Cert.SampleInOddReferenceIdeal.nD Cert.SampleInOddReferenceIdeal.τ).loc Cert.SampleInOddReferenceIdeal.main_arg1) = m ((c.tc : Thread Cert.SampleInOddKernelIdeal.nD Cert.SampleInOddKernelIdeal.τ).loc Cert.SampleInOddKernelIdeal.main_arg1)
      ∧ m' ((c.tc : Thread Cert.SampleInOddReferenceIdeal.nD Cert.SampleInOddReferenceIdeal.τ).loc Cert.SampleInOddReferenceIdeal.main_arg2) = m ((c.tc : Thread Cert.SampleInOddKernelIdeal.nD Cert.SampleInOddKernelIdeal.τ).loc Cert.SampleInOddKernelIdeal.main_arg2)
      ∧ m' ((c.tc : Thread Cert.SampleInOddReferenceIdeal.nD Cert.SampleInOddReferenceIdeal.τ).loc Cert.SampleInOddReferenceIdeal.main_arg3) = m ((c.tc : Thread Cert.SampleInOddKernelIdeal.nD Cert.SampleInOddKernelIdeal.τ).loc Cert.SampleInOddKernelIdeal.main_arg3)) →
    ∃ (v0 : (c : Dev Cert.SampleInOddKernelIdeal.nD) → Buf (Elt Ideal) ((c.tc : Thread Cert.SampleInOddKernelIdeal.nD Cert.SampleInOddKernelIdeal.τ).loc Cert.SampleInOddKernelIdeal.main_v45_1)) (v1 : (c : Dev Cert.SampleInOddKernelIdeal.nD) → Buf (Elt Ideal) ((c.tc : Thread Cert.SampleInOddKernelIdeal.nD Cert.SampleInOddKernelIdeal.τ).loc Cert.SampleInOddKernelIdeal.main_v45_2)) (v2 : (c : Dev Cert.SampleInOddKernelIdeal.nD) → Buf (Elt Ideal) ((c.tc : Thread Cert.SampleInOddKernelIdeal.nD Cert.SampleInOddKernelIdeal.τ).loc Cert.SampleInOddKernelIdeal.main_v45_5)) (v3 : (c : Dev Cert.SampleInOddKernelIdeal.nD) → Buf (Elt Ideal) ((c.tc : Thread Cert.SampleInOddKernelIdeal.nD Cert.SampleInOddKernelIdeal.τ).loc Cert.SampleInOddKernelIdeal.main_v45_7)) (v4 : (c : Dev Cert.SampleInOddKernelIdeal.nD) → Buf (Elt Ideal) ((c.tc : Thread Cert.SampleInOddKernelIdeal.nD Cert.SampleInOddKernelIdeal.τ).loc Cert.SampleInOddKernelIdeal.main_v45_9)),
      θ_run (Cert.SampleInOddKernelIdeal.defs (F := Ideal)) (onTc (τ := Cert.SampleInOddKernelIdeal.τ) (Cert.SampleInOddKernelIdeal.main (F := Ideal))) ⟨m, fun _ => 0, g⟩ (fun r => ∀ c : Dev Cert.SampleInOddKernelIdeal.nD,
          r.2.mem ((c.tc : Thread Cert.SampleInOddKernelIdeal.nD Cert.SampleInOddKernelIdeal.τ).loc Cert.SampleInOddKernelIdeal.main_v45_1) = v0 c
          ∧ r.2.mem ((c.tc : Thread Cert.SampleInOddKernelIdeal.nD Cert.SampleInOddKernelIdeal.τ).loc Cert.SampleInOddKernelIdeal.main_v45_2) = v1 c
          ∧ r.2.mem ((c.tc : Thread Cert.SampleInOddKernelIdeal.nD Cert.SampleInOddKernelIdeal.τ).loc Cert.SampleInOddKernelIdeal.main_v45_5) = v2 c
          ∧ r.2.mem ((c.tc : Thread Cert.SampleInOddKernelIdeal.nD Cert.SampleInOddKernelIdeal.τ).loc Cert.SampleInOddKernelIdeal.main_v45_7) = v3 c
          ∧ r.2.mem ((c.tc : Thread Cert.SampleInOddKernelIdeal.nD Cert.SampleInOddKernelIdeal.τ).loc Cert.SampleInOddKernelIdeal.main_v45_9) = v4 c
          ∧ r.2.mem ((c.tc : Thread Cert.SampleInOddKernelIdeal.nD Cert.SampleInOddKernelIdeal.τ).loc Cert.SampleInOddKernelIdeal.main_arg0) = m ((c.tc : Thread Cert.SampleInOddKernelIdeal.nD Cert.SampleInOddKernelIdeal.τ).loc Cert.SampleInOddKernelIdeal.main_arg0)
          ∧ r.2.mem ((c.tc : Thread Cert.SampleInOddKernelIdeal.nD Cert.SampleInOddKernelIdeal.τ).loc Cert.SampleInOddKernelIdeal.main_arg1) = m ((c.tc : Thread Cert.SampleInOddKernelIdeal.nD Cert.SampleInOddKernelIdeal.τ).loc Cert.SampleInOddKernelIdeal.main_arg1)
          ∧ r.2.mem ((c.tc : Thread Cert.SampleInOddKernelIdeal.nD Cert.SampleInOddKernelIdeal.τ).loc Cert.SampleInOddKernelIdeal.main_arg2) = m ((c.tc : Thread Cert.SampleInOddKernelIdeal.nD Cert.SampleInOddKernelIdeal.τ).loc Cert.SampleInOddKernelIdeal.main_arg2)
          ∧ r.2.mem ((c.tc : Thread Cert.SampleInOddKernelIdeal.nD Cert.SampleInOddKernelIdeal.τ).loc Cert.SampleInOddKernelIdeal.main_arg3) = m ((c.tc : Thread Cert.SampleInOddKernelIdeal.nD Cert.SampleInOddKernelIdeal.τ).loc Cert.SampleInOddKernelIdeal.main_arg3))
      ∧ θ_run (Cert.SampleInOddReferenceIdeal.defs (F := Ideal)) (onTc (τ := Cert.SampleInOddReferenceIdeal.τ) (Cert.SampleInOddReferenceIdeal.main (F := Ideal))) ⟨m', fun _ => 0, g'⟩ (fun r => ∀ c : Dev Cert.SampleInOddReferenceIdeal.nD,
          r.2.mem ((c.tc : Thread Cert.SampleInOddReferenceIdeal.nD Cert.SampleInOddReferenceIdeal.τ).loc Cert.SampleInOddReferenceIdeal.main_v56) = v0 c
          ∧ r.2.mem ((c.tc : Thread Cert.SampleInOddReferenceIdeal.nD Cert.SampleInOddReferenceIdeal.τ).loc Cert.SampleInOddReferenceIdeal.main_v57) = v1 c
          ∧ r.2.mem ((c.tc : Thread Cert.SampleInOddReferenceIdeal.nD Cert.SampleInOddReferenceIdeal.τ).loc Cert.SampleInOddReferenceIdeal.main_v58) = v2 c
          ∧ r.2.mem ((c.tc : Thread Cert.SampleInOddReferenceIdeal.nD Cert.SampleInOddReferenceIdeal.τ).loc Cert.SampleInOddReferenceIdeal.main_v59) = v3 c
          ∧ r.2.mem ((c.tc : Thread Cert.SampleInOddReferenceIdeal.nD Cert.SampleInOddReferenceIdeal.τ).loc Cert.SampleInOddReferenceIdeal.main_v55) = v4 c
          ∧ r.2.mem ((c.tc : Thread Cert.SampleInOddReferenceIdeal.nD Cert.SampleInOddReferenceIdeal.τ).loc Cert.SampleInOddReferenceIdeal.main_arg0) = m' ((c.tc : Thread Cert.SampleInOddReferenceIdeal.nD Cert.SampleInOddReferenceIdeal.τ).loc Cert.SampleInOddReferenceIdeal.main_arg0)
          ∧ r.2.mem ((c.tc : Thread Cert.SampleInOddReferenceIdeal.nD Cert.SampleInOddReferenceIdeal.τ).loc Cert.SampleInOddReferenceIdeal.main_arg1) = m' ((c.tc : Thread Cert.SampleInOddReferenceIdeal.nD Cert.SampleInOddReferenceIdeal.τ).loc Cert.SampleInOddReferenceIdeal.main_arg1)
          ∧ r.2.mem ((c.tc : Thread Cert.SampleInOddReferenceIdeal.nD Cert.SampleInOddReferenceIdeal.τ).loc Cert.SampleInOddReferenceIdeal.main_arg2) = m' ((c.tc : Thread Cert.SampleInOddReferenceIdeal.nD Cert.SampleInOddReferenceIdeal.τ).loc Cert.SampleInOddReferenceIdeal.main_arg2)
          ∧ r.2.mem ((c.tc : Thread Cert.SampleInOddReferenceIdeal.nD Cert.SampleInOddReferenceIdeal.τ).loc Cert.SampleInOddReferenceIdeal.main_arg3) = m' ((c.tc : Thread Cert.SampleInOddReferenceIdeal.nD Cert.SampleInOddReferenceIdeal.τ).loc Cert.SampleInOddReferenceIdeal.main_arg3))

def preserves_SampleInKernel_SampleInKernelIdeal : Prop :=
  True

def algebraic_SampleInKernelIdeal_SampleInReferenceIdeal [hSampleInKernelIdeal : Cert.SampleInKernelIdeal.Facts] [hSampleInReferenceIdeal : Cert.SampleInReferenceIdeal.Facts] : Prop :=
  ∀ (m : (ℓ : Loc Cert.SampleInKernelIdeal.nD Cert.SampleInKernelIdeal.τ Cert.SampleInKernelIdeal.sig) → Buf (Elt Ideal) ℓ) (g : Dev Cert.SampleInKernelIdeal.nD → PrngReg)
    (m' : (ℓ : Loc Cert.SampleInReferenceIdeal.nD Cert.SampleInReferenceIdeal.τ Cert.SampleInReferenceIdeal.sig) → Buf (Elt Ideal) ℓ) (g' : Dev Cert.SampleInReferenceIdeal.nD → PrngReg), Pre_SampleInKernelIdeal m →
    (∀ c : Dev Cert.SampleInKernelIdeal.nD,
      m' ((c.tc : Thread Cert.SampleInReferenceIdeal.nD Cert.SampleInReferenceIdeal.τ).loc Cert.SampleInReferenceIdeal.main_arg0) = m ((c.tc : Thread Cert.SampleInKernelIdeal.nD Cert.SampleInKernelIdeal.τ).loc Cert.SampleInKernelIdeal.main_arg0)
      ∧ m' ((c.tc : Thread Cert.SampleInReferenceIdeal.nD Cert.SampleInReferenceIdeal.τ).loc Cert.SampleInReferenceIdeal.main_arg1) = m ((c.tc : Thread Cert.SampleInKernelIdeal.nD Cert.SampleInKernelIdeal.τ).loc Cert.SampleInKernelIdeal.main_arg1)
      ∧ m' ((c.tc : Thread Cert.SampleInReferenceIdeal.nD Cert.SampleInReferenceIdeal.τ).loc Cert.SampleInReferenceIdeal.main_arg2) = m ((c.tc : Thread Cert.SampleInKernelIdeal.nD Cert.SampleInKernelIdeal.τ).loc Cert.SampleInKernelIdeal.main_arg2)
      ∧ m' ((c.tc : Thread Cert.SampleInReferenceIdeal.nD Cert.SampleInReferenceIdeal.τ).loc Cert.SampleInReferenceIdeal.main_arg3) = m ((c.tc : Thread Cert.SampleInKernelIdeal.nD Cert.SampleInKernelIdeal.τ).loc Cert.SampleInKernelIdeal.main_arg3)) →
    ∃ (v0 : (c : Dev Cert.SampleInKernelIdeal.nD) → Buf (Elt Ideal) ((c.tc : Thread Cert.SampleInKernelIdeal.nD Cert.SampleInKernelIdeal.τ).loc Cert.SampleInKernelIdeal.main_v9_0)) (v1 : (c : Dev Cert.SampleInKernelIdeal.nD) → Buf (Elt Ideal) ((c.tc : Thread Cert.SampleInKernelIdeal.nD Cert.SampleInKernelIdeal.τ).loc Cert.SampleInKernelIdeal.main_v9_1)) (v2 : (c : Dev Cert.SampleInKernelIdeal.nD) → Buf (Elt Ideal) ((c.tc : Thread Cert.SampleInKernelIdeal.nD Cert.SampleInKernelIdeal.τ).loc Cert.SampleInKernelIdeal.main_v9_2)) (v3 : (c : Dev Cert.SampleInKernelIdeal.nD) → Buf (Elt Ideal) ((c.tc : Thread Cert.SampleInKernelIdeal.nD Cert.SampleInKernelIdeal.τ).loc Cert.SampleInKernelIdeal.main_v9_3)) (v4 : (c : Dev Cert.SampleInKernelIdeal.nD) → Buf (Elt Ideal) ((c.tc : Thread Cert.SampleInKernelIdeal.nD Cert.SampleInKernelIdeal.τ).loc Cert.SampleInKernelIdeal.main_v12)),
      θ_run (Cert.SampleInKernelIdeal.defs (F := Ideal)) (onTc (τ := Cert.SampleInKernelIdeal.τ) (Cert.SampleInKernelIdeal.main (F := Ideal))) ⟨m, fun _ => 0, g⟩ (fun r => ∀ c : Dev Cert.SampleInKernelIdeal.nD,
          r.2.mem ((c.tc : Thread Cert.SampleInKernelIdeal.nD Cert.SampleInKernelIdeal.τ).loc Cert.SampleInKernelIdeal.main_v9_0) = v0 c
          ∧ r.2.mem ((c.tc : Thread Cert.SampleInKernelIdeal.nD Cert.SampleInKernelIdeal.τ).loc Cert.SampleInKernelIdeal.main_v9_1) = v1 c
          ∧ r.2.mem ((c.tc : Thread Cert.SampleInKernelIdeal.nD Cert.SampleInKernelIdeal.τ).loc Cert.SampleInKernelIdeal.main_v9_2) = v2 c
          ∧ r.2.mem ((c.tc : Thread Cert.SampleInKernelIdeal.nD Cert.SampleInKernelIdeal.τ).loc Cert.SampleInKernelIdeal.main_v9_3) = v3 c
          ∧ r.2.mem ((c.tc : Thread Cert.SampleInKernelIdeal.nD Cert.SampleInKernelIdeal.τ).loc Cert.SampleInKernelIdeal.main_v12) = v4 c
          ∧ r.2.mem ((c.tc : Thread Cert.SampleInKernelIdeal.nD Cert.SampleInKernelIdeal.τ).loc Cert.SampleInKernelIdeal.main_arg0) = m ((c.tc : Thread Cert.SampleInKernelIdeal.nD Cert.SampleInKernelIdeal.τ).loc Cert.SampleInKernelIdeal.main_arg0)
          ∧ r.2.mem ((c.tc : Thread Cert.SampleInKernelIdeal.nD Cert.SampleInKernelIdeal.τ).loc Cert.SampleInKernelIdeal.main_arg1) = m ((c.tc : Thread Cert.SampleInKernelIdeal.nD Cert.SampleInKernelIdeal.τ).loc Cert.SampleInKernelIdeal.main_arg1)
          ∧ r.2.mem ((c.tc : Thread Cert.SampleInKernelIdeal.nD Cert.SampleInKernelIdeal.τ).loc Cert.SampleInKernelIdeal.main_arg2) = m ((c.tc : Thread Cert.SampleInKernelIdeal.nD Cert.SampleInKernelIdeal.τ).loc Cert.SampleInKernelIdeal.main_arg2)
          ∧ r.2.mem ((c.tc : Thread Cert.SampleInKernelIdeal.nD Cert.SampleInKernelIdeal.τ).loc Cert.SampleInKernelIdeal.main_arg3) = m ((c.tc : Thread Cert.SampleInKernelIdeal.nD Cert.SampleInKernelIdeal.τ).loc Cert.SampleInKernelIdeal.main_arg3))
      ∧ θ_run (Cert.SampleInReferenceIdeal.defs (F := Ideal)) (onTc (τ := Cert.SampleInReferenceIdeal.τ) (Cert.SampleInReferenceIdeal.main (F := Ideal))) ⟨m', fun _ => 0, g'⟩ (fun r => ∀ c : Dev Cert.SampleInReferenceIdeal.nD,
          r.2.mem ((c.tc : Thread Cert.SampleInReferenceIdeal.nD Cert.SampleInReferenceIdeal.τ).loc Cert.SampleInReferenceIdeal.main_v19) = v0 c
          ∧ r.2.mem ((c.tc : Thread Cert.SampleInReferenceIdeal.nD Cert.SampleInReferenceIdeal.τ).loc Cert.SampleInReferenceIdeal.main_v20) = v1 c
          ∧ r.2.mem ((c.tc : Thread Cert.SampleInReferenceIdeal.nD Cert.SampleInReferenceIdeal.τ).loc Cert.SampleInReferenceIdeal.main_v18) = v2 c
          ∧ r.2.mem ((c.tc : Thread Cert.SampleInReferenceIdeal.nD Cert.SampleInReferenceIdeal.τ).loc Cert.SampleInReferenceIdeal.main_v22) = v3 c
          ∧ r.2.mem ((c.tc : Thread Cert.SampleInReferenceIdeal.nD Cert.SampleInReferenceIdeal.τ).loc Cert.SampleInReferenceIdeal.main_v26) = v4 c
          ∧ r.2.mem ((c.tc : Thread Cert.SampleInReferenceIdeal.nD Cert.SampleInReferenceIdeal.τ).loc Cert.SampleInReferenceIdeal.main_arg0) = m' ((c.tc : Thread Cert.SampleInReferenceIdeal.nD Cert.SampleInReferenceIdeal.τ).loc Cert.SampleInReferenceIdeal.main_arg0)
          ∧ r.2.mem ((c.tc : Thread Cert.SampleInReferenceIdeal.nD Cert.SampleInReferenceIdeal.τ).loc Cert.SampleInReferenceIdeal.main_arg1) = m' ((c.tc : Thread Cert.SampleInReferenceIdeal.nD Cert.SampleInReferenceIdeal.τ).loc Cert.SampleInReferenceIdeal.main_arg1)
          ∧ r.2.mem ((c.tc : Thread Cert.SampleInReferenceIdeal.nD Cert.SampleInReferenceIdeal.τ).loc Cert.SampleInReferenceIdeal.main_arg2) = m' ((c.tc : Thread Cert.SampleInReferenceIdeal.nD Cert.SampleInReferenceIdeal.τ).loc Cert.SampleInReferenceIdeal.main_arg2)
          ∧ r.2.mem ((c.tc : Thread Cert.SampleInReferenceIdeal.nD Cert.SampleInReferenceIdeal.τ).loc Cert.SampleInReferenceIdeal.main_arg3) = m' ((c.tc : Thread Cert.SampleInReferenceIdeal.nD Cert.SampleInReferenceIdeal.τ).loc Cert.SampleInReferenceIdeal.main_arg3))

def Claim : Prop :=
  ∃ (hFfnKernel : Cert.FfnKernel.Facts) (hFfnKernelIdeal : Cert.FfnKernelIdeal.Facts) (hFfnReferenceIdeal : Cert.FfnReferenceIdeal.Facts) (hInKernel : Cert.InKernel.Facts) (hInKernelIdeal : Cert.InKernelIdeal.Facts) (hInReferenceIdeal : Cert.InReferenceIdeal.Facts) (hFfnOddKernel : Cert.FfnOddKernel.Facts) (hFfnOddKernelIdeal : Cert.FfnOddKernelIdeal.Facts) (hFfnOddReferenceIdeal : Cert.FfnOddReferenceIdeal.Facts) (hInOddKernel : Cert.InOddKernel.Facts) (hInOddKernelIdeal : Cert.InOddKernelIdeal.Facts) (hInOddReferenceIdeal : Cert.InOddReferenceIdeal.Facts) (hOrderKernel : Cert.OrderKernel.Facts) (hOrderKernelIdeal : Cert.OrderKernelIdeal.Facts) (hOrderReferenceIdeal : Cert.OrderReferenceIdeal.Facts) (hNormKernel : Cert.NormKernel.Facts) (hNormKernelIdeal : Cert.NormKernelIdeal.Facts) (hNormReferenceIdeal : Cert.NormReferenceIdeal.Facts) (hGateKernel : Cert.GateKernel.Facts) (hGateKernelIdeal : Cert.GateKernelIdeal.Facts) (hGateReferenceIdeal : Cert.GateReferenceIdeal.Facts) (hSampleNormKernel : Cert.SampleNormKernel.Facts) (hSampleNormKernelIdeal : Cert.SampleNormKernelIdeal.Facts) (hSampleNormReferenceIdeal : Cert.SampleNormReferenceIdeal.Facts) (hSampleGateKernel : Cert.SampleGateKernel.Facts) (hSampleGateKernelIdeal : Cert.SampleGateKernelIdeal.Facts) (hSampleGateReferenceIdeal : Cert.SampleGateReferenceIdeal.Facts) (hSampleInOddKernel : Cert.SampleInOddKernel.Facts) (hSampleInOddKernelIdeal : Cert.SampleInOddKernelIdeal.Facts) (hSampleInOddReferenceIdeal : Cert.SampleInOddReferenceIdeal.Facts) (hSampleInKernel : Cert.SampleInKernel.Facts) (hSampleInKernelIdeal : Cert.SampleInKernelIdeal.Facts) (hSampleInReferenceIdeal : Cert.SampleInReferenceIdeal.Facts),
    quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_FfnOddKernel (hFfnOddKernel := hFfnOddKernel)
    ∧ quiescent_FfnOddKernelIdeal (hFfnOddKernelIdeal := hFfnOddKernelIdeal)
    ∧ quiescent_FfnOddReferenceIdeal (hFfnOddReferenceIdeal := hFfnOddReferenceIdeal)
    ∧ quiescent_InOddKernel (hInOddKernel := hInOddKernel)
    ∧ quiescent_InOddKernelIdeal (hInOddKernelIdeal := hInOddKernelIdeal)
    ∧ quiescent_InOddReferenceIdeal (hInOddReferenceIdeal := hInOddReferenceIdeal)
    ∧ quiescent_OrderKernel (hOrderKernel := hOrderKernel)
    ∧ quiescent_OrderKernelIdeal (hOrderKernelIdeal := hOrderKernelIdeal)
    ∧ quiescent_OrderReferenceIdeal (hOrderReferenceIdeal := hOrderReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_SampleNormKernel (hSampleNormKernel := hSampleNormKernel)
    ∧ quiescent_SampleNormKernelIdeal (hSampleNormKernelIdeal := hSampleNormKernelIdeal)
    ∧ quiescent_SampleNormReferenceIdeal (hSampleNormReferenceIdeal := hSampleNormReferenceIdeal)
    ∧ quiescent_SampleGateKernel (hSampleGateKernel := hSampleGateKernel)
    ∧ quiescent_SampleGateKernelIdeal (hSampleGateKernelIdeal := hSampleGateKernelIdeal)
    ∧ quiescent_SampleGateReferenceIdeal (hSampleGateReferenceIdeal := hSampleGateReferenceIdeal)
    ∧ quiescent_SampleInOddKernel (hSampleInOddKernel := hSampleInOddKernel)
    ∧ quiescent_SampleInOddKernelIdeal (hSampleInOddKernelIdeal := hSampleInOddKernelIdeal)
    ∧ quiescent_SampleInOddReferenceIdeal (hSampleInOddReferenceIdeal := hSampleInOddReferenceIdeal)
    ∧ quiescent_SampleInKernel (hSampleInKernel := hSampleInKernel)
    ∧ quiescent_SampleInKernelIdeal (hSampleInKernelIdeal := hSampleInKernelIdeal)
    ∧ quiescent_SampleInReferenceIdeal (hSampleInReferenceIdeal := hSampleInReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_InKernel_InKernelIdeal
    ∧ algebraic_InKernelIdeal_InReferenceIdeal (hInKernelIdeal := hInKernelIdeal) (hInReferenceIdeal := hInReferenceIdeal)
    ∧ preserves_FfnOddKernel_FfnOddKernelIdeal
    ∧ algebraic_FfnOddKernelIdeal_FfnOddReferenceIdeal (hFfnOddKernelIdeal := hFfnOddKernelIdeal) (hFfnOddReferenceIdeal := hFfnOddReferenceIdeal)
    ∧ preserves_InOddKernel_InOddKernelIdeal
    ∧ algebraic_InOddKernelIdeal_InOddReferenceIdeal (hInOddKernelIdeal := hInOddKernelIdeal) (hInOddReferenceIdeal := hInOddReferenceIdeal)
    ∧ preserves_OrderKernel_OrderKernelIdeal
    ∧ algebraic_OrderKernelIdeal_OrderReferenceIdeal (hOrderKernelIdeal := hOrderKernelIdeal) (hOrderReferenceIdeal := hOrderReferenceIdeal)
    ∧ preserves_NormKernel_NormKernelIdeal
    ∧ algebraic_NormKernelIdeal_NormReferenceIdeal (hNormKernelIdeal := hNormKernelIdeal) (hNormReferenceIdeal := hNormReferenceIdeal)
    ∧ preserves_GateKernel_GateKernelIdeal
    ∧ algebraic_GateKernelIdeal_GateReferenceIdeal (hGateKernelIdeal := hGateKernelIdeal) (hGateReferenceIdeal := hGateReferenceIdeal)
    ∧ preserves_SampleNormKernel_SampleNormKernelIdeal
    ∧ algebraic_SampleNormKernelIdeal_SampleNormReferenceIdeal (hSampleNormKernelIdeal := hSampleNormKernelIdeal) (hSampleNormReferenceIdeal := hSampleNormReferenceIdeal)
    ∧ preserves_SampleGateKernel_SampleGateKernelIdeal
    ∧ algebraic_SampleGateKernelIdeal_SampleGateReferenceIdeal (hSampleGateKernelIdeal := hSampleGateKernelIdeal) (hSampleGateReferenceIdeal := hSampleGateReferenceIdeal)
    ∧ preserves_SampleInOddKernel_SampleInOddKernelIdeal
    ∧ algebraic_SampleInOddKernelIdeal_SampleInOddReferenceIdeal (hSampleInOddKernelIdeal := hSampleInOddKernelIdeal) (hSampleInOddReferenceIdeal := hSampleInOddReferenceIdeal)
    ∧ preserves_SampleInKernel_SampleInKernelIdeal
    ∧ algebraic_SampleInKernelIdeal_SampleInReferenceIdeal (hSampleInKernelIdeal := hSampleInKernelIdeal) (hSampleInReferenceIdeal := hSampleInReferenceIdeal)
-- ==== FfnKernel.lean ====
abbrev S66560x1024 : Shape := ⟨2, ![66560, 1024]⟩
abbrev S4160x16x512 : Shape := ⟨3, ![4160, 16, 512]⟩
abbrev S1536x1024 : Shape := ⟨2, ![1536, 1024]⟩
abbrev S1024 : Shape := ⟨1, ![1024]⟩
abbrev S1024x2816 : Shape := ⟨2, ![1024, 2816]⟩
abbrev S2816x1024 : Shape := ⟨2, ![2816, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S4160x8192 : Shape := ⟨2, ![4160, 8192]⟩
abbrev S1x1024 : Shape := ⟨2, ![1, 1024]⟩
abbrev S832x1024 : Shape := ⟨2, ![832, 1024]⟩
abbrev S832x512 : Shape := ⟨2, ![832, 512]⟩
abbrev S1024x1024 : Shape := ⟨2, ![1024, 1024]⟩
abbrev S512x1024 : Shape := ⟨2, ![512, 1024]⟩
abbrev S832 : Shape := ⟨1, ![832]⟩
abbrev S832x1 : Shape := ⟨2, ![832, 1]⟩
abbrev S1x1024x256 : Shape := ⟨3, ![1, 1024, 256]⟩
abbrev S1024x256 : Shape := ⟨2, ![1024, 256]⟩
abbrev S832x256 : Shape := ⟨2, ![832, 256]⟩
abbrev S1x256x1024 : Shape := ⟨3, ![1, 256, 1024]⟩
abbrev S256x1024 : Shape := ⟨2, ![256, 1024]⟩

abbrev nBuf : Space → Nat
  | .hbm => 20
  | .vmem => 15
  | .smem => 0
  | _ => 0

abbrev bufTy : (tb : Table) → Fin (tcTables nBuf tb) → BufTy
  | .hbm, ⟨0, _⟩ => ⟨S66560x1024, .f32⟩
  | .hbm, ⟨1, _⟩ => ⟨S66560x1024, .bf16⟩
  | .hbm, ⟨2, _⟩ => ⟨S4160x16x512, .f32⟩
  | .hbm, ⟨3, _⟩ => ⟨S1536x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x2816, .bf16⟩
  | .hbm, ⟨9, _⟩ => ⟨S1024x11x256, .bf16⟩
  | .hbm, ⟨10, _⟩ => ⟨S11x1024x256, .bf16⟩
  | .hbm, ⟨11, _⟩ => ⟨S1024x2816, .bf16⟩
  | .hbm, ⟨12, _⟩ => ⟨S1024x11x256, .bf16⟩
  | .hbm, ⟨13, _⟩ => ⟨S11x1024x256, .bf16⟩
  | .hbm, ⟨14, _⟩ => ⟨S2816x1024, .bf16⟩
  | .hbm, ⟨15, _⟩ => ⟨S11x256x1024, .bf16⟩
  | .hbm, ⟨16, _⟩ => ⟨S4160x8192, .f32⟩
  | .hbm, ⟨17, _⟩ => ⟨S1536x1024, .bf16⟩
  | .hbm, ⟨18, _⟩ => ⟨S1x1024, .f32⟩
  | .hbm, ⟨19, _⟩ => ⟨S66560x1024, .f32⟩
  | .local _ .vmem, ⟨0, _⟩ => ⟨S832x1024, .f32⟩
  | .local _ .vmem, ⟨1, _⟩ => ⟨S832x1024, .f32⟩
  | .local _ .vmem, ⟨2, _⟩ => ⟨S832x1024, .bf16⟩
  | .local _ .vmem, ⟨3, _⟩ => ⟨S832x1024, .bf16⟩
  | .local _ .vmem, ⟨4, _⟩ => ⟨S832x512, .f32⟩
  | .local _ .vmem, ⟨5, _⟩ => ⟨S832x512, .f32⟩
  | .local _ .vmem, ⟨6, _⟩ => ⟨S1536x1024, .bf16⟩
  | .local _ .vmem, ⟨7, _⟩ => ⟨S1x1024, .f32⟩
  | .local _ .vmem, ⟨8, _⟩ => ⟨S11x1024x256, .bf16⟩
  | .local _ .vmem, ⟨9, _⟩ => ⟨S11x1024x256, .bf16⟩
  | .local _ .vmem, ⟨10, _⟩ => ⟨S11x256x1024, .bf16⟩
  | .local _ .vmem, ⟨11, _⟩ => ⟨S832x1024, .f32⟩
  | .local _ .vmem, ⟨12, _⟩ => ⟨S832x1024, .f32⟩
  | .local _ .vmem, ⟨13, _⟩ => ⟨S832x1024, .f32⟩
  | .local _ .vmem, ⟨14, _⟩ => ⟨S832x1024, .bf16⟩
  | _, _ => ⟨S66560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 5], ![false, false]⟩

@[reducible] def k0_t1_loop : Scf.Loop 32 :=
  let c0_i32 : BitVec 32 := 0#32
  let c11_i32 : BitVec 32 := 11#32
  let v34 : BitVec 32 := Scalar.addi c0_i32 c11_i32
  let c1_i32 : BitVec 32 := 1#32
  ⟨c0_i32, v34, c1_i32⟩
def k0_off1 (k0_t1 : Fin k0_t1_loop.trips) : Fin 3 → Nat :=
  let c0_i32 : BitVec 32 := 0#32
  let c1_i32 : BitVec 32 := 1#32
  let arg13 : BitVec 32 := Scf.iv c0_i32 c1_i32 k0_t1
  let v38 : Index := Scalar.indexCast arg13
  let c0_25 : Index := 0#32
  let c0_26 : Index := 0#32
  ![v38.toNat, 0, 0]
def k0_off2 (k0_t1 : Fin k0_t1_loop.trips) : Fin 3 → Nat :=
  let c0_i32 : BitVec 32 := 0#32
  let c1_i32 : BitVec 32 := 1#32
  let arg13 : BitVec 32 := Scf.iv c0_i32 c1_i32 k0_t1
  let v57 : Index := Scalar.indexCast arg13
  let c0_36 : Index := 0#32
  let c0_37 : Index := 0#32
  ![v57.toNat, 0, 0]
def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S832x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S832x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S11x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S832x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnReferenceIdeal.lean ====
abbrev S66560x1024 : Shape := ⟨2, ![66560, 1024]⟩
abbrev S4160x16x512 : Shape := ⟨3, ![4160, 16, 512]⟩
abbrev S1536x1024 : Shape := ⟨2, ![1536, 1024]⟩
abbrev S1024 : Shape := ⟨1, ![1024]⟩
abbrev S1024x2816 : Shape := ⟨2, ![1024, 2816]⟩
abbrev S2816x1024 : Shape := ⟨2, ![2816, 1024]⟩
abbrev S16x4160x512 : Shape := ⟨3, ![16, 4160, 512]⟩
abbrev S66560x512 : Shape := ⟨2, ![66560, 512]⟩
abbrev S66560x1536 : Shape := ⟨2, ![66560, 1536]⟩
abbrev S_ : Shape := ⟨0, ![]⟩
abbrev S66560 : Shape := ⟨1, ![66560]⟩
abbrev S66560x1 : Shape := ⟨2, ![66560, 1]⟩
abbrev S1x1024 : Shape := ⟨2, ![1, 1024]⟩
abbrev S66560x2816 : Shape := ⟨2, ![66560, 2816]⟩

abbrev nBuf : Space → Nat
  | .hbm => 44
  | .vmem => 0
  | .smem => 0
  | _ => 0

abbrev bufTy : (tb : Table) → Fin (tcTables nBuf tb) → BufTy
  | .hbm, ⟨0, _⟩ => ⟨S66560x1024, .f32⟩
  | .hbm, ⟨1, _⟩ => ⟨S66560x1024, .bf16⟩
  | .hbm, ⟨2, _⟩ => ⟨S4160x16x512, .f32⟩
  | .hbm, ⟨3, _⟩ => ⟨S1536x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16x4160x512, .f32⟩
  | .hbm, ⟨9, _⟩ => ⟨S66560x512, .f32⟩
  | .hbm, ⟨10, _⟩ => ⟨S66560x1024, .f32⟩
  | .hbm, ⟨11, _⟩ => ⟨S66560x1536, .f32⟩
  | .hbm, ⟨12, _⟩ => ⟨S66560x1024, .f32⟩
  | .hbm, ⟨13, _⟩ => ⟨S66560x1024, .f32⟩
  | .hbm, ⟨14, _⟩ => ⟨S66560x1024, .f32⟩
  | .hbm, ⟨15, _⟩ => ⟨S_, .f32⟩
  | .hbm, ⟨16, _⟩ => ⟨S66560, .f32⟩
  | .hbm, ⟨17, _⟩ => ⟨S66560x1, .f32⟩
  | .hbm, ⟨18, _⟩ => ⟨S_, .f32⟩
  | .hbm, ⟨19, _⟩ => ⟨S66560x1, .f32⟩
  | .hbm, ⟨20, _⟩ => ⟨S66560x1, .f32⟩
  | .hbm, ⟨21, _⟩ => ⟨S_, .f32⟩
  | .hbm, ⟨22, _⟩ => ⟨S66560x1, .f32⟩
  | .hbm, ⟨23, _⟩ => ⟨S66560x1, .f32⟩
  | .hbm, ⟨24, _⟩ => ⟨S66560x1, .f32⟩
  | .hbm, ⟨25, _⟩ => ⟨S66560x1024, .f32⟩
  | .hbm, ⟨26, _⟩ => ⟨S66560x1024, .f32⟩
  | .hbm, ⟨27, _⟩ => ⟨S1x1024, .f32⟩
  | .hbm, ⟨28, _⟩ => ⟨S66560x1024, .f32⟩
  | .hbm, ⟨29, _⟩ => ⟨S66560x1024, .f32⟩
  | .hbm, ⟨30, _⟩ => ⟨S66560x2816, .f32⟩
  | .hbm, ⟨31, _⟩ => ⟨S66560x2816, .f32⟩
  | .hbm, ⟨32, _⟩ => ⟨S66560x2816, .f32⟩
  | .hbm, ⟨33, _⟩ => ⟨S_, .f32⟩
  | .hbm, ⟨34, _⟩ => ⟨S66560x2816, .f32⟩
  | .hbm, ⟨35, _⟩ => ⟨S66560x2816, .f32⟩
  | .hbm, ⟨36, _⟩ => ⟨S_, .f32⟩
  | .hbm, ⟨37, _⟩ => ⟨S66560x2816, .f32⟩
  | .hbm, ⟨38, _⟩ => ⟨S66560x2816, .f32⟩
  | .hbm, ⟨39, _⟩ => ⟨S66560x2816, .f32⟩
  | .hbm, ⟨40, _⟩ => ⟨S66560x2816, .f32⟩
  | .hbm, ⟨41, _⟩ => ⟨S66560x2816, .f32⟩
  | .hbm, ⟨42, _⟩ => ⟨S66560x1024, .f32⟩
  | .hbm, ⟨43, _⟩ => ⟨S66560x1024, .f32⟩
  | _, _ => ⟨S66560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== InKernel.lean ====
abbrev S66560x1024 : Shape := ⟨2, ![66560, 1024]⟩
abbrev S1024 : Shape := ⟨1, ![1024]⟩
abbrev S1024x4624 : Shape := ⟨2, ![1024, 4624]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S1024x4096 : Shape := ⟨2, ![1024, 4096]⟩
abbrev S1024x512 : Shape := ⟨2, ![1024, 512]⟩
abbrev S1024x4736 : Shape := ⟨2, ![1024, 4736]⟩
abbrev S1x1024 : Shape := ⟨2, ![1, 1024]⟩
abbrev S66560x3072 : Shape := ⟨2, ![66560, 3072]⟩
abbrev S66560x128 : Shape := ⟨2, ![66560, 128]⟩
abbrev S4160x8192 : Shape := ⟨2, ![4160, 8192]⟩
abbrev S832x1024 : Shape := ⟨2, ![832, 1024]⟩
abbrev S832x3072 : Shape := ⟨2, ![832, 3072]⟩
abbrev S832x128 : Shape := ⟨2, ![832, 128]⟩
abbrev S832x512 : Shape := ⟨2, ![832, 512]⟩
abbrev S832 : Shape := ⟨1, ![832]⟩
abbrev S832x1 : Shape := ⟨2, ![832, 1]⟩
abbrev S16x4160x3072 : Shape := ⟨3, ![16, 4160, 3072]⟩
abbrev S16x3x3072 : Shape := ⟨3, ![16, 3, 3072]⟩

abbrev nBuf : Space → Nat
  | .hbm => 20
  | .vmem => 12
  | .smem => 0
  | _ => 0

abbrev bufTy : (tb : Table) → Fin (tcTables nBuf tb) → BufTy
  | .hbm, ⟨0, _⟩ => ⟨S66560x1024, .f32⟩
  | .hbm, ⟨1, _⟩ => ⟨S1024, .f32⟩
  | .hbm, ⟨2, _⟩ => ⟨S1024x4624, .f32⟩
  | .hbm, ⟨3, _⟩ => ⟨S_, .f32⟩
  | .hbm, ⟨4, _⟩ => ⟨S1024x128, .f32⟩
  | .hbm, ⟨5, _⟩ => ⟨S1024x16, .f32⟩
  | .hbm, ⟨6, _⟩ => ⟨S_, .i32⟩
  | .hbm, ⟨7, _⟩ => ⟨S1, .i32⟩
  | .hbm, ⟨8, _⟩ => ⟨S1024x128, .f32⟩
  | .hbm, ⟨9, _⟩ => ⟨S1024x4096, .f32⟩
  | .hbm, ⟨10, _⟩ => ⟨S1024x512, .f32⟩
  | .hbm, ⟨11, _⟩ => ⟨S1024x4736, .f32⟩
  | .hbm, ⟨12, _⟩ => ⟨S1024x4736, .bf16⟩
  | .hbm, ⟨13, _⟩ => ⟨S1x1024, .f32⟩
  | .hbm, ⟨14, _⟩ => ⟨S66560x3072, .f32⟩
  | .hbm, ⟨15, _⟩ => ⟨S66560x1024, .f32⟩
  | .hbm, ⟨16, _⟩ => ⟨S66560x128, .f32⟩
  | .hbm, ⟨17, _⟩ => ⟨S4160x8192, .f32⟩
  | .hbm, ⟨18, _⟩ => ⟨S16x4160x3072, .f32⟩
  | .hbm, ⟨19, _⟩ => ⟨S16x3x3072, .f32⟩
  | .local _ .vmem, ⟨0, _⟩ => ⟨S832x1024, .f32⟩
  | .local _ .vmem, ⟨1, _⟩ => ⟨S832x1024, .f32⟩
  | .local _ .vmem, ⟨2, _⟩ => ⟨S1x1024, .f32⟩
  | .local _ .vmem, ⟨3, _⟩ => ⟨S1024x4736, .bf16⟩
  | .local _ .vmem, ⟨4, _⟩ => ⟨S832x3072, .f32⟩
  | .local _ .vmem, ⟨5, _⟩ => ⟨S832x3072, .f32⟩
  | .local _ .vmem, ⟨6, _⟩ => ⟨S832x1024, .f32⟩
  | .local _ .vmem, ⟨7, _⟩ => ⟨S832x1024, .f32⟩
  | .local _ .vmem, ⟨8, _⟩ => ⟨S832x128, .f32⟩
  | .local _ .vmem, ⟨9, _⟩ => ⟨S832x128, .f32⟩
  | .local _ .vmem, ⟨10, _⟩ => ⟨S832x512, .f32⟩
  | .local _ .vmem, ⟨11, _⟩ => ⟨S832x512, .f32⟩
  | _, _ => ⟨S66560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S832x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S832x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S832x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S832x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InReferenceIdeal.lean ====
abbrev S66560x1024 : Shape := ⟨2, ![66560, 1024]⟩
abbrev S1024 : Shape := ⟨1, ![1024]⟩
abbrev S1024x4624 : Shape := ⟨2, ![1024, 4624]⟩
abbrev S_ : Shape := ⟨0, ![]⟩
abbrev S66560 : Shape := ⟨1, ![66560]⟩
abbrev S66560x1 : Shape := ⟨2, ![66560, 1]⟩
abbrev S1x1024 : Shape := ⟨2, ![1, 1024]⟩
abbrev S66560x4624 : Shape := ⟨2, ![66560, 4624]⟩
abbrev S66560x512 : Shape := ⟨2, ![66560, 512]⟩
abbrev S16x4160x512 : Shape := ⟨3, ![16, 4160, 512]⟩
abbrev S66560x16 : Shape := ⟨2, ![66560, 16]⟩
abbrev S66560x112 : Shape := ⟨2, ![66560, 112]⟩
abbrev S66560x128 : Shape := ⟨2, ![66560, 128]⟩
abbrev S66560x3072 : Shape := ⟨2, ![66560, 3072]⟩
abbrev S4160x16x512 : Shape := ⟨3, ![4160, 16, 512]⟩
abbrev S4160x8192 : Shape := ⟨2, ![4160, 8192]⟩
abbrev S16x4160x3072 : Shape := ⟨3, ![16, 4160, 3072]⟩
abbrev S16x3x3072 : Shape := ⟨3, ![16, 3, 3072]⟩

abbrev nBuf : Space → Nat
  | .hbm => 33
  | .vmem => 0
  | .smem => 0
  | _ => 0

abbrev bufTy : (tb : Table) → Fin (tcTables nBuf tb) → BufTy
  | .hbm, ⟨0, _⟩ => ⟨S66560x1024, .f32⟩
  | .hbm, ⟨1, _⟩ => ⟨S1024, .f32⟩
  | .hbm, ⟨2, _⟩ => ⟨S1024x4624, .f32⟩
  | .hbm, ⟨3, _⟩ => ⟨S66560x1024, .f32⟩
  | .hbm, ⟨4, _⟩ => ⟨S_, .f32⟩
  | .hbm, ⟨5, _⟩ => ⟨S66560, .f32⟩
  | .hbm, ⟨6, _⟩ => ⟨S66560x1, .f32⟩
  | .hbm, ⟨7, _⟩ => ⟨S_, .f32⟩
  | .hbm, ⟨8, _⟩ => ⟨S66560x1, .f32⟩
  | .hbm, ⟨9, _⟩ => ⟨S66560x1, .f32⟩
  | .hbm, ⟨10, _⟩ => ⟨S_, .f32⟩
  | .hbm, ⟨11, _⟩ => ⟨S66560x1, .f32⟩
  | .hbm, ⟨12, _⟩ => ⟨S66560x1, .f32⟩
  | .hbm, ⟨13, _⟩ => ⟨S66560x1, .f32⟩
  | .hbm, ⟨14, _⟩ => ⟨S66560x1024, .f32⟩
  | .hbm, ⟨15, _⟩ => ⟨S66560x1024, .f32⟩
  | .hbm, ⟨16, _⟩ => ⟨S1x1024, .f32⟩
  | .hbm, ⟨17, _⟩ => ⟨S66560x1024, .f32⟩
  | .hbm, ⟨18, _⟩ => ⟨S66560x1024, .f32⟩
  | .hbm, ⟨19, _⟩ => ⟨S66560x4624, .f32⟩
  | .hbm, ⟨20, _⟩ => ⟨S66560x512, .f32⟩
  | .hbm, ⟨21, _⟩ => ⟨S16x4160x512, .f32⟩
  | .hbm, ⟨22, _⟩ => ⟨S66560x16, .f32⟩
  | .hbm, ⟨23, _⟩ => ⟨S_, .f32⟩
  | .hbm, ⟨24, _⟩ => ⟨S66560x112, .f32⟩
  | .hbm, ⟨25, _⟩ => ⟨S66560x128, .f32⟩
  | .hbm, ⟨26, _⟩ => ⟨S66560x3072, .f32⟩
  | .hbm, ⟨27, _⟩ => ⟨S66560x1024, .f32⟩
  | .hbm, ⟨28, _⟩ => ⟨S4160x16x512, .f32⟩
  | .hbm, ⟨29, _⟩ => ⟨S4160x8192, .f32⟩
  | .hbm, ⟨30, _⟩ => ⟨S66560x3072, .f32⟩
  | .hbm, ⟨31, _⟩ => ⟨S16x4160x3072, .f32⟩
  | .hbm, ⟨32, _⟩ => ⟨S16x3x3072, .f32⟩
  | _, _ => ⟨S66560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== FfnOddKernel.lean ====
abbrev S66560x1024 : Shape := ⟨2, ![66560, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S832x1024 : Shape := ⟨2, ![832, 1024]⟩
abbrev S832 : Shape := ⟨1, ![832]⟩
abbrev S832x1 : Shape := ⟨2, ![832, 1]⟩
abbrev S1x1024x256 : Shape := ⟨3, ![1, 1024, 256]⟩
abbrev S1024x256 : Shape := ⟨2, ![1024, 256]⟩
abbrev S832x256 : Shape := ⟨2, ![832, 256]⟩
abbrev S1x256x1024 : Shape := ⟨3, ![1, 256, 1024]⟩
abbrev S256x1024 : Shape := ⟨2, ![256, 1024]⟩

abbrev nBuf : Space → Nat
  | .hbm => 18
  | .vmem => 13
  | .smem => 0
  | _ => 0

abbrev bufTy : (tb : Table) → Fin (tcTables nBuf tb) → BufTy
  | .hbm, ⟨0, _⟩ => ⟨S66560x1024, .f32⟩
  | .hbm, ⟨1, _⟩ => ⟨S66560x1024, .bf16⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x2816, .bf16⟩
  | .hbm, ⟨8, _⟩ => ⟨S1024x11x256, .bf16⟩
  | .hbm, ⟨9, _⟩ => ⟨S11x1024x256, .bf16⟩
  | .hbm, ⟨10, _⟩ => ⟨S1024x2816, .bf16⟩
  | .hbm, ⟨11, _⟩ => ⟨S1024x11x256, .bf16⟩
  | .hbm, ⟨12, _⟩ => ⟨S11x1024x256, .bf16⟩
  | .hbm, ⟨13, _⟩ => ⟨S2816x1024, .bf16⟩
  | .hbm, ⟨14, _⟩ => ⟨S11x256x1024, .bf16⟩
  | .hbm, ⟨15, _⟩ => ⟨S1024x1024, .bf16⟩
  | .hbm, ⟨16, _⟩ => ⟨S1x1024, .f32⟩
  | .hbm, ⟨17, _⟩ => ⟨S66560x1024, .f32⟩
  | .local _ .vmem, ⟨0, _⟩ => ⟨S832x1024, .f32⟩
  | .local _ .vmem, ⟨1, _⟩ => ⟨S832x1024, .f32⟩
  | .local _ .vmem, ⟨2, _⟩ => ⟨S832x1024, .bf16⟩
  | .local _ .vmem, ⟨3, _⟩ => ⟨S832x1024, .bf16⟩
  | .local _ .vmem, ⟨4, _⟩ => ⟨S1024x1024, .bf16⟩
  | .local _ .vmem, ⟨5, _⟩ => ⟨S1x1024, .f32⟩
  | .local _ .vmem, ⟨6, _⟩ => ⟨S11x1024x256, .bf16⟩
  | .local _ .vmem, ⟨7, _⟩ => ⟨S11x1024x256, .bf16⟩
  | .local _ .vmem, ⟨8, _⟩ => ⟨S11x256x1024, .bf16⟩
  | .local _ .vmem, ⟨9, _⟩ => ⟨S832x1024, .f32⟩
  | .local _ .vmem, ⟨10, _⟩ => ⟨S832x1024, .f32⟩
  | .local _ .vmem, ⟨11, _⟩ => ⟨S832x1024, .f32⟩
  | .local _ .vmem, ⟨12, _⟩ => ⟨S832x1024, .bf16⟩
  | _, _ => ⟨S66560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 5], ![false, false]⟩

@[reducible] def k0_t1_loop : Scf.Loop 32 :=
  let c0_i32 : BitVec 32 := 0#32
  let c11_i32 : BitVec 32 := 11#32
  let v27 : BitVec 32 := Scalar.addi c0_i32 c11_i32
  let c1_i32 : BitVec 32 := 1#32
  ⟨c0_i32, v27, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v31 : Index := Scalar.indexCast arg12
  let c0_21 : Index := 0#32
  let c0_22 : Index := 0#32
  ![v31.toNat, 0, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v50 : Index := Scalar.indexCast arg12
  let c0_32 : Index := 0#32
  let c0_33 : Index := 0#32
  ![v50.toNat, 0, 0]
def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S832x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S11x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S832x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnOddReferenceIdeal.lean ====
abbrev S66560x1024 : Shape := ⟨2, ![66560, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S66560 : Shape := ⟨1, ![66560]⟩
abbrev S66560x1 : Shape := ⟨2, ![66560, 1]⟩
abbrev S1x1024 : Shape := ⟨2, ![1, 1024]⟩
abbrev S66560x2816 : Shape := ⟨2, ![66560, 2816]⟩

abbrev nBuf : Space → Nat
  | .hbm => 40
  | .vmem => 0
  | .smem => 0
  | _ => 0

abbrev bufTy : (tb : Table) → Fin (tcTables nBuf tb) → BufTy
  | .hbm, ⟨0, _⟩ => ⟨S66560x1024, .f32⟩
  | .hbm, ⟨1, _⟩ => ⟨S66560x1024, .bf16⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S66560x1024, .f32⟩
  | .hbm, ⟨8, _⟩ => ⟨S66560x1024, .f32⟩
  | .hbm, ⟨9, _⟩ => ⟨S66560x1024, .f32⟩
  | .hbm, ⟨10, _⟩ => ⟨S66560x1024, .f32⟩
  | .hbm, ⟨11, _⟩ => ⟨S_, .f32⟩
  | .hbm, ⟨12, _⟩ => ⟨S66560, .f32⟩
  | .hbm, ⟨13, _⟩ => ⟨S66560x1, .f32⟩
  | .hbm, ⟨14, _⟩ => ⟨S_, .f32⟩
  | .hbm, ⟨15, _⟩ => ⟨S66560x1, .f32⟩
  | .hbm, ⟨16, _⟩ => ⟨S66560x1, .f32⟩
  | .hbm, ⟨17, _⟩ => ⟨S_, .f32⟩
  | .hbm, ⟨18, _⟩ => ⟨S66560x1, .f32⟩
  | .hbm, ⟨19, _⟩ => ⟨S66560x1, .f32⟩
  | .hbm, ⟨20, _⟩ => ⟨S66560x1, .f32⟩
  | .hbm, ⟨21, _⟩ => ⟨S66560x1024, .f32⟩
  | .hbm, ⟨22, _⟩ => ⟨S66560x1024, .f32⟩
  | .hbm, ⟨23, _⟩ => ⟨S1x1024, .f32⟩
  | .hbm, ⟨24, _⟩ => ⟨S66560x1024, .f32⟩
  | .hbm, ⟨25, _⟩ => ⟨S66560x1024, .f32⟩
  | .hbm, ⟨26, _⟩ => ⟨S66560x2816, .f32⟩
  | .hbm, ⟨27, _⟩ => ⟨S66560x2816, .f32⟩
  | .hbm, ⟨28, _⟩ => ⟨S66560x2816, .f32⟩
  | .hbm, ⟨29, _⟩ => ⟨S_, .f32⟩
  | .hbm, ⟨30, _⟩ => ⟨S66560x2816, .f32⟩
  | .hbm, ⟨31, _⟩ => ⟨S66560x2816, .f32⟩
  | .hbm, ⟨32, _⟩ => ⟨S_, .f32⟩
  | .hbm, ⟨33, _⟩ => ⟨S66560x2816, .f32⟩
  | .hbm, ⟨34, _⟩ => ⟨S66560x2816, .f32⟩
  | .hbm, ⟨35, _⟩ => ⟨S66560x2816, .f32⟩
  | .hbm, ⟨36, _⟩ => ⟨S66560x2816, .f32⟩
  | .hbm, ⟨37, _⟩ => ⟨S66560x2816, .f32⟩
  | .hbm, ⟨38, _⟩ => ⟨S66560x1024, .f32⟩
  | .hbm, ⟨39, _⟩ => ⟨S66560x1024, .f32⟩
  | _, _ => ⟨S66560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== InOddKernel.lean ====
abbrev S66560x1024 : Shape := ⟨2, ![66560, 1024]⟩
abbrev S1024 : Shape := ⟨1, ![1024]⟩
abbrev S1024x3080 : Shape := ⟨2, ![1024, 3080]⟩
abbrev S4160 : Shape := ⟨1, ![4160]⟩
abbrev S8 : Shape := ⟨1, ![8]⟩
abbrev S_ : Shape := ⟨0, ![]⟩
abbrev S4160x1 : Shape := ⟨2, ![4160, 1]⟩
abbrev S1x8 : Shape := ⟨2, ![1, 8]⟩
abbrev S4160x8 : Shape := ⟨2, ![4160, 8]⟩
abbrev S4160x48 : Shape := ⟨2, ![4160, 48]⟩
abbrev S4160x64 : Shape := ⟨2, ![4160, 64]⟩
abbrev S1x4160x1x64 : Shape := ⟨4, ![1, 4160, 1, 64]⟩
abbrev S1x4160x8x64 : Shape := ⟨4, ![1, 4160, 8, 64]⟩
abbrev S4160x512 : Shape := ⟨2, ![4160, 512]⟩
abbrev S1024x128 : Shape := ⟨2, ![1024, 128]⟩
abbrev S1024x8 : Shape := ⟨2, ![1024, 8]⟩
abbrev S1 : Shape := ⟨1, ![1]⟩
abbrev S1024x1536 : Shape := ⟨2, ![1024, 1536]⟩
abbrev S1024x3200 : Shape := ⟨2, ![1024, 3200]⟩
abbrev S16x4160x1024 : Shape := ⟨3, ![16, 4160, 1024]⟩
abbrev S1x1024 : Shape := ⟨2, ![1, 1024]⟩
abbrev S16x4160x512 : Shape := ⟨3, ![16, 4160, 512]⟩
abbrev S16x4160x128 : Shape := ⟨3, ![16, 4160, 128]⟩
abbrev S1x416x1024 : Shape := ⟨3, ![1, 416, 1024]⟩
abbrev S416x512 : Shape := ⟨2, ![416, 512]⟩
abbrev S1x416x512 : Shape := ⟨3, ![1, 416, 512]⟩
abbrev S1x416x128 : Shape := ⟨3, ![1, 416, 128]⟩
abbrev S416x1024 : Shape := ⟨2, ![416, 1024]⟩
abbrev S416 : Shape := ⟨1, ![416]⟩
abbrev S416x1 : Shape := ⟨2, ![416, 1]⟩
abbrev S1024x512 : Shape := ⟨2, ![1024, 512]⟩
abbrev S416x128 : Shape := ⟨2, ![416, 128]⟩

abbrev nBuf : Space → Nat
  | .hbm => 68
  | .vmem => 30
  | .smem => 0
  | _ => 0

abbrev bufTy : (tb : Table) → Fin (tcTables nBuf tb) → BufTy
  | .hbm, ⟨0, _⟩ => ⟨S66560x1024, .f32⟩
  | .hbm, ⟨1, _⟩ => ⟨S1024, .f32⟩
  | .hbm, ⟨2, _⟩ => ⟨S1024x3080, .f32⟩
  | .hbm, ⟨3, _⟩ => ⟨S4160, .i32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S4160, .f32⟩
  | .hbm, ⟨19, _⟩ => ⟨S4160x1, .f32⟩
  | .hbm, ⟨20, _⟩ => ⟨S1x8, .f32⟩
  | .hbm, ⟨21, _⟩ => ⟨S4160x8, .f32⟩
  | .hbm, ⟨22, _⟩ => ⟨S4160x8, .f32⟩
  | .hbm, ⟨23, _⟩ => ⟨S4160x8, .f32⟩
  | .hbm, ⟨24, _⟩ => ⟨S4160x8, .f32⟩
  | .hbm, ⟨25, _⟩ => ⟨S4160x8, .f32⟩
  | .hbm, ⟨26, _⟩ => ⟨S_, .f32⟩
  | .hbm, ⟨27, _⟩ => ⟨S4160x48, .f32⟩
  | .hbm, ⟨28, _⟩ => ⟨S_, .f32⟩
  | .hbm, ⟨29, _⟩ => ⟨S4160x8, .f32⟩
  | .hbm, ⟨30, _⟩ => ⟨S_, .f32⟩
  | .hbm, ⟨31, _⟩ => ⟨S4160x48, .f32⟩
  | .hbm, ⟨32, _⟩ => ⟨S4160x48, .f32⟩
  | .hbm, ⟨33, _⟩ => ⟨S4160x64, .f32⟩
  | .hbm, ⟨34, _⟩ => ⟨S4160x8, .f32⟩
  | .hbm, ⟨35, _⟩ => ⟨S4160x64, .f32⟩
  | .hbm, ⟨36, _⟩ => ⟨S4160x64, .f32⟩
  | .hbm, ⟨37, _⟩ => ⟨S1x4160x1x64, .f32⟩
  | .hbm, ⟨38, _⟩ => ⟨S1x4160x8x64, .f32⟩
  | .hbm, ⟨39, _⟩ => ⟨S4160x512, .f32⟩
  | .hbm, ⟨40, _⟩ => ⟨S1x4160x1x64, .f32⟩
  | .hbm, ⟨41, _⟩ => ⟨S1x4160x8x64, .f32⟩
  | .hbm, ⟨42, _⟩ => ⟨S4160x512, .f32⟩
  | .hbm, ⟨43, _⟩ => ⟨S1x4160x1x64, .f32⟩
  | .hbm, ⟨44, _⟩ => ⟨S1x4160x8x64, .f32⟩
  | .hbm, ⟨45, _⟩ => ⟨S4160x512, .f32⟩
  | .hbm, ⟨46, _⟩ => ⟨S_, .f32⟩
  | .hbm, ⟨47, _⟩ => ⟨S1024x128, .f32⟩
  | .hbm, ⟨48, _⟩ => ⟨S1024x8, .f32⟩
  | .hbm, ⟨49, _⟩ => ⟨S_, .i32⟩
  | .hbm, ⟨50, _⟩ => ⟨S1, .i32⟩
  | .hbm, ⟨51, _⟩ => ⟨S1024x128, .f32⟩
  | .hbm, ⟨52, _⟩ => ⟨S1024x1536, .f32⟩
  | .hbm, ⟨53, _⟩ => ⟨S1024x1536, .f32⟩
  | .hbm, ⟨54, _⟩ => ⟨S1024x3200, .f32⟩
  | .hbm, ⟨55, _⟩ => ⟨S1024x3200, .bf16⟩
  | .hbm, ⟨56, _⟩ => ⟨S16x4160x1024, .f32⟩
  | .hbm, ⟨57, _⟩ => ⟨S1x1024, .f32⟩
  | .hbm, ⟨58, _⟩ => ⟨S16x4160x1024, .bf16⟩
  | .hbm, ⟨59, _⟩ => ⟨S16x4160x512, .f32⟩
  | .hbm, ⟨60, _⟩ => ⟨S16x4160x512, .f32⟩
  | .hbm, ⟨61, _⟩ => ⟨S16x4160x1024, .bf16⟩
  | .hbm, ⟨62, _⟩ => ⟨S16x4160x1024, .bf16⟩
  | .hbm, ⟨63, _⟩ => ⟨S16x4160x512, .f32⟩
  | .hbm, ⟨64, _⟩ => ⟨S16x4160x512, .bf16⟩
  | .hbm, ⟨65, _⟩ => ⟨S16x4160x512, .f32⟩
  | .hbm, ⟨66, _⟩ => ⟨S16x4160x1024, .bf16⟩
  | .hbm, ⟨67, _⟩ => ⟨S16x4160x128, .f32⟩
  | .local _ .vmem, ⟨0, _⟩ => ⟨S1x416x1024, .f32⟩
  | .local _ .vmem, ⟨1, _⟩ => ⟨S1x416x1024, .f32⟩
  | .local _ .vmem, ⟨2, _⟩ => ⟨S1x1024, .f32⟩
  | .local _ .vmem, ⟨3, _⟩ => ⟨S1024x3200, .bf16⟩
  | .local _ .vmem, ⟨4, _⟩ => ⟨S416x512, .f32⟩
  | .local _ .vmem, ⟨5, _⟩ => ⟨S416x512, .f32⟩
  | .local _ .vmem, ⟨6, _⟩ => ⟨S416x512, .f32⟩
  | .local _ .vmem, ⟨7, _⟩ => ⟨S416x512, .f32⟩
  | .local _ .vmem, ⟨8, _⟩ => ⟨S416x512, .f32⟩
  | .local _ .vmem, ⟨9, _⟩ => ⟨S416x512, .f32⟩
  | .local _ .vmem, ⟨10, _⟩ => ⟨S1x416x1024, .bf16⟩
  | .local _ .vmem, ⟨11, _⟩ => ⟨S1x416x1024, .bf16⟩
  | .local _ .vmem, ⟨12, _⟩ => ⟨S1x416x512, .f32⟩
  | .local _ .vmem, ⟨13, _⟩ => ⟨S1x416x512, .f32⟩
  | .local _ .vmem, ⟨14, _⟩ => ⟨S1x416x512, .f32⟩
  | .local _ .vmem, ⟨15, _⟩ => ⟨S1x416x512, .f32⟩
  | .local _ .vmem, ⟨16, _⟩ => ⟨S1x416x1024, .bf16⟩
  | .local _ .vmem, ⟨17, _⟩ => ⟨S1x416x1024, .bf16⟩
  | .local _ .vmem, ⟨18, _⟩ => ⟨S1x416x1024, .bf16⟩
  | .local _ .vmem, ⟨19, _⟩ => ⟨S1x416x1024, .bf16⟩
  | .local _ .vmem, ⟨20, _⟩ => ⟨S1x416x512, .f32⟩
  | .local _ .vmem, ⟨21, _⟩ => ⟨S1x416x512, .f32⟩
  | .local _ .vmem, ⟨22, _⟩ => ⟨S1x416x512, .bf16⟩
  | .local _ .vmem, ⟨23, _⟩ => ⟨S1x416x512, .bf16⟩
  | .local _ .vmem, ⟨24, _⟩ => ⟨S1x416x512, .f32⟩
  | .local _ .vmem, ⟨25, _⟩ => ⟨S1x416x512, .f32⟩
  | .local _ .vmem, ⟨26, _⟩ => ⟨S1x416x1024, .bf16⟩
  | .local _ .vmem, ⟨27, _⟩ => ⟨S1x416x1024, .bf16⟩
  | .local _ .vmem, ⟨28, _⟩ => ⟨S1x416x128, .f32⟩
  | .local _ .vmem, ⟨29, _⟩ => ⟨S1x416x128, .f32⟩
  | _, _ => ⟨S66560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev main_v45_2 : Ref sig .tc := ⟨.hbm, 60, rfl⟩
abbrev main_v45_3 : Ref sig .tc := ⟨.hbm, 61, rfl⟩
abbrev main_v45_4 : Ref sig .tc := ⟨.hbm, 62, rfl⟩
abbrev main_v45_5 : Ref sig .tc := ⟨.hbm, 63, rfl⟩
abbrev main_v45_6 : Ref sig .tc := ⟨.hbm, 64, rfl⟩
abbrev main_v45_7 : Ref sig .tc := ⟨.hbm, 65, rfl⟩
abbrev main_v45_8 : Ref sig .tc := ⟨.hbm, 66, rfl⟩
abbrev main_v45_9 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![10, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S416x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S416x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S416x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x416x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x416x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x416x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x416x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x416x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x416x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x416x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x416x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x416x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x416x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== InOddReferenceIdeal.lean ====
abbrev S66560x1024 : Shape := ⟨2, ![66560, 1024]⟩
abbrev S1024 : Shape := ⟨1, ![1024]⟩
abbrev S1024x3080 : Shape := ⟨2, ![1024, 3080]⟩
abbrev S4160 : Shape := ⟨1, ![4160]⟩
abbrev S_ : Shape := ⟨0, ![]⟩
abbrev S66560 : Shape := ⟨1, ![66560]⟩
abbrev S66560x1 : Shape := ⟨2, ![66560, 1]⟩
abbrev S1x1024 : Shape := ⟨2, ![1, 1024]⟩
abbrev S66560x3080 : Shape := ⟨2, ![66560, 3080]⟩
abbrev S16x4160x3080 : Shape := ⟨3, ![16, 4160, 3080]⟩
abbrev S16x4160x512 : Shape := ⟨3, ![16, 4160, 512]⟩
abbrev S16x4160x8x64 : Shape := ⟨4, ![16, 4160, 8, 64]⟩
abbrev S8 : Shape := ⟨1, ![8]⟩
abbrev S4160x1 : Shape := ⟨2, ![4160, 1]⟩
abbrev S1x8 : Shape := ⟨2, ![1, 8]⟩
abbrev S4160x8 : Shape := ⟨2, ![4160, 8]⟩
abbrev S1x4160x1x8 : Shape := ⟨4, ![1, 4160, 1, 8]⟩
abbrev S16x4160x8x16 : Shape := ⟨4, ![16, 4160, 8, 16]⟩
abbrev S16x4160x8x8 : Shape := ⟨4, ![16, 4160, 8, 8]⟩
abbrev S16x4160x8x48 : Shape := ⟨4, ![16, 4160, 8, 48]⟩
abbrev S16x4160x8 : Shape := ⟨3, ![16, 4160, 8]⟩
abbrev S16x4160x120 : Shape := ⟨3, ![16, 4160, 120]⟩
abbrev S16x4160x128 : Shape := ⟨3, ![16, 4160, 128]⟩

abbrev nBuf : Space → Nat
  | .hbm => 72
  | .vmem => 0
  | .smem => 0
  | _ => 0

abbrev bufTy : (tb : Table) → Fin (tcTables nBuf tb) → BufTy
  | .hbm, ⟨0, _⟩ => ⟨S66560x1024, .f32⟩
  | .hbm, ⟨1, _⟩ => ⟨S1024, .f32⟩
  | .hbm, ⟨2, _⟩ => ⟨S1024x3080, .f32⟩
  | .hbm, ⟨3, _⟩ => ⟨S4160, .i32⟩
  | .hbm, ⟨4, _⟩ => ⟨S66560x1024, .f32⟩
  | .hbm, ⟨5, _⟩ => ⟨S_, .f32⟩
  | .hbm, ⟨6, _⟩ => ⟨S66560, .f32⟩
  | .hbm, ⟨7, _⟩ => ⟨S66560x1, .f32⟩
  | .hbm, ⟨8, _⟩ => ⟨S_, .f32⟩
  | .hbm, ⟨9, _⟩ => ⟨S66560x1, .f32⟩
  | .hbm, ⟨10, _⟩ => ⟨S66560x1, .f32⟩
  | .hbm, ⟨11, _⟩ => ⟨S_, .f32⟩
  | .hbm, ⟨12, _⟩ => ⟨S66560x1, .f32⟩
  | .hbm, ⟨13, _⟩ => ⟨S66560x1, .f32⟩
  | .hbm, ⟨14, _⟩ => ⟨S66560x1, .f32⟩
  | .hbm, ⟨15, _⟩ => ⟨S66560x1024, .f32⟩
  | .hbm, ⟨16, _⟩ => ⟨S66560x1024, .f32⟩
  | .hbm, ⟨17, _⟩ => ⟨S1x1024, .f32⟩
  | .hbm, ⟨18, _⟩ => ⟨S66560x1024, .f32⟩
  | .hbm, ⟨19, _⟩ => ⟨S66560x1024, .f32⟩
  | .hbm, ⟨20, _⟩ => ⟨S66560x3080, .f32⟩
  | .hbm, ⟨21, _⟩ => ⟨S16x4160x3080, .f32⟩
  | .hbm, ⟨22, _⟩ => ⟨S16x4160x512, .f32⟩
  | .hbm, ⟨23, _⟩ => ⟨S16x4160x8x64, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S4160, .f32⟩
  | .hbm, ⟨39, _⟩ => ⟨S4160x1, .f32⟩
  | .hbm, ⟨40, _⟩ => ⟨S1x8, .f32⟩
  | .hbm, ⟨41, _⟩ => ⟨S4160x8, .f32⟩
  | .hbm, ⟨42, _⟩ => ⟨S4160x8, .f32⟩
  | .hbm, ⟨43, _⟩ => ⟨S4160x8, .f32⟩
  | .hbm, ⟨44, _⟩ => ⟨S4160x8, .f32⟩
  | .hbm, ⟨45, _⟩ => ⟨S1x4160x1x8, .f32⟩
  | .hbm, ⟨46, _⟩ => ⟨S4160x8, .f32⟩
  | .hbm, ⟨47, _⟩ => ⟨S1x4160x1x8, .f32⟩
  | .hbm, ⟨48, _⟩ => ⟨S16x4160x8x16, .f32⟩
  | .hbm, ⟨49, _⟩ => ⟨S16x4160x8x8, .f32⟩
  | .hbm, ⟨50, _⟩ => ⟨S16x4160x8x8, .f32⟩
  | .hbm, ⟨51, _⟩ => ⟨S16x4160x8x8, .f32⟩
  | .hbm, ⟨52, _⟩ => ⟨S16x4160x8x8, .f32⟩
  | .hbm, ⟨53, _⟩ => ⟨S16x4160x8x8, .f32⟩
  | .hbm, ⟨54, _⟩ => ⟨S16x4160x8x8, .f32⟩
  | .hbm, ⟨55, _⟩ => ⟨S16x4160x8x8, .f32⟩
  | .hbm, ⟨56, _⟩ => ⟨S16x4160x8x8, .f32⟩
  | .hbm, ⟨57, _⟩ => ⟨S16x4160x8x8, .f32⟩
  | .hbm, ⟨58, _⟩ => ⟨S16x4160x8x8, .f32⟩
  | .hbm, ⟨59, _⟩ => ⟨S16x4160x8x8, .f32⟩
  | .hbm, ⟨60, _⟩ => ⟨S16x4160x8x8, .f32⟩
  | .hbm, ⟨61, _⟩ => ⟨S16x4160x8x16, .f32⟩
  | .hbm, ⟨62, _⟩ => ⟨S16x4160x8x48, .f32⟩
  | .hbm, ⟨63, _⟩ => ⟨S16x4160x8x64, .f32⟩
  | .hbm, ⟨64, _⟩ => ⟨S16x4160x8, .f32⟩
  | .hbm, ⟨65, _⟩ => ⟨S_, .f32⟩
  | .hbm, ⟨66, _⟩ => ⟨S16x4160x120, .f32⟩
  | .hbm, ⟨67, _⟩ => ⟨S16x4160x128, .f32⟩
  | .hbm, ⟨68, _⟩ => ⟨S16x4160x512, .f32⟩
  | .hbm, ⟨69, _⟩ => ⟨S16x4160x512, .f32⟩
  | .hbm, ⟨70, _⟩ => ⟨S16x4160x512, .f32⟩
  | .hbm, ⟨71, _⟩ => ⟨S16x4160x512, .f32⟩
  | _, _ => ⟨S66560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩

abbrev nD : Nat := 1
abbrev τ : Topo := Topo.v7x

variable {F : FTy → Type} [FloatOps F]
-- ==== OrderKernel.lean ====
abbrev S16x4160x512 : Shape := ⟨3, ![16, 4160, 512]⟩
abbrev S1x16x4112x512 : Shape := ⟨4, ![1, 16, 4112, 512]⟩
abbrev S1x4160x512 : Shape := ⟨3, ![1, 4160, 512]⟩
abbrev S1x1x4112x512 : Shape := ⟨4, ![1, 1, 4112, 512]⟩
abbrev S1x16x512 : Shape := ⟨3, ![1, 16, 512]⟩
abbrev S16x512 : Shape := ⟨2, ![16, 512]⟩
abbrev S1x1x16x512 : Shape := ⟨4, ![1, 1, 16, 512]⟩
abbrev S1x4096x512 : Shape := ⟨3, ![1, 4096, 512]⟩
abbrev S4096x512 : Shape := ⟨2, ![4096, 512]⟩
abbrev S1x1x4096x512 : Shape := ⟨4, ![1, 1, 4096, 512]⟩

abbrev nBuf : Space → Nat
  | .hbm => 2
  | .vmem => 4
  | .smem => 0
  | _ => 0

abbrev bufTy : (tb : Table) → Fin (tcTables nBuf tb) → BufTy
  | .hbm, ⟨0, _⟩ => ⟨S16x4160x512, .f32⟩
  | .hbm, ⟨1, _⟩ => ⟨S1x16x4112x512, .f32⟩
  | .local _ .vmem, ⟨0, _⟩ => ⟨S1x4160x512, .f32⟩
  | .local _ .vmem, ⟨1, _⟩ => ⟨S1x4160x512, .f32⟩
  | .local _ .vmem, ⟨2, _⟩ => ⟨S1x1x4112x512, .f32⟩
  | .local _ .vmem, ⟨3, _⟩ => ⟨S1x1x4112x512, .f32⟩
  | _, _ => ⟨S16x4160x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x4160x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4112x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== OrderReferenceIdeal.lean ====
abbrev S16x4160x512 : Shape := ⟨3, ![16, 4160, 512]⟩
abbrev S16x16x512 : Shape := ⟨3, ![16, 16, 512]⟩
abbrev S16x4096x512 : Shape := ⟨3, ![16, 4096, 512]⟩
abbrev S16x4112x512 : Shape := ⟨3, ![16, 4112, 512]⟩
abbrev S1x16x4112x512 : Shape := ⟨4, ![1, 16, 4112, 512]⟩

abbrev nBuf : Space → Nat
  | .hbm => 5
  | .vmem => 0
  | .smem => 0
  | _ => 0

abbrev bufTy : (tb : Table) → Fin (tcTables nBuf tb) → BufTy
  | .hbm, ⟨0, _⟩ => ⟨S16x4160x512, .f32⟩
  | .hbm, ⟨1, _⟩ => ⟨S16x16x512, .f32⟩
  | .hbm, ⟨2, _⟩ => ⟨S16x4096x512, .f32⟩
  | .hbm, ⟨3, _⟩ => ⟨S16x4112x512, .f32⟩
  | .hbm, ⟨4, _⟩ => ⟨S1x16x4112x512, .f32⟩
  | _, _ => ⟨S16x4160x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== NormKernel.lean ====
abbrev S66560x1024 : Shape := ⟨2, ![66560, 1024]⟩
abbrev S1024 : Shape := ⟨1, ![1024]⟩
abbrev S16x4160x1024 : Shape := ⟨3, ![16, 4160, 1024]⟩
abbrev S1x1024 : Shape := ⟨2, ![1, 1024]⟩
abbrev S16x4096x1024 : Shape := ⟨3, ![16, 4096, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S66560x1024, .f32⟩
  | .hbm, ⟨1, _⟩ => ⟨S1024, .f32⟩
  | .hbm, ⟨2, _⟩ => ⟨S16x4160x1024, .f32⟩
  | .hbm, ⟨3, _⟩ => ⟨S1x1024, .f32⟩
  | .hbm, ⟨4, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x512x1024, .f32⟩
  | .local _ .vmem, ⟨4, _⟩ => ⟨S1x512x1024, .f32⟩
  | _, _ => ⟨S66560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormReferenceIdeal.lean ====
abbrev S66560x1024 : Shape := ⟨2, ![66560, 1024]⟩
abbrev S1024 : Shape := ⟨1, ![1024]⟩
abbrev S_ : Shape := ⟨0, ![]⟩
abbrev S66560 : Shape := ⟨1, ![66560]⟩
abbrev S66560x1 : Shape := ⟨2, ![66560, 1]⟩
abbrev S1x1024 : Shape := ⟨2, ![1, 1024]⟩
abbrev S16x4160x1024 : Shape := ⟨3, ![16, 4160, 1024]⟩
abbrev S16x4096x1024 : Shape := ⟨3, ![16, 4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S66560x1024, .f32⟩
  | .hbm, ⟨1, _⟩ => ⟨S1024, .f32⟩
  | .hbm, ⟨2, _⟩ => ⟨S66560x1024, .f32⟩
  | .hbm, ⟨3, _⟩ => ⟨S_, .f32⟩
  | .hbm, ⟨4, _⟩ => ⟨S66560, .f32⟩
  | .hbm, ⟨5, _⟩ => ⟨S66560x1, .f32⟩
  | .hbm, ⟨6, _⟩ => ⟨S_, .f32⟩
  | .hbm, ⟨7, _⟩ => ⟨S66560x1, .f32⟩
  | .hbm, ⟨8, _⟩ => ⟨S66560x1, .f32⟩
  | .hbm, ⟨9, _⟩ => ⟨S_, .f32⟩
  | .hbm, ⟨10, _⟩ => ⟨S66560x1, .f32⟩
  | .hbm, ⟨11, _⟩ => ⟨S66560x1, .f32⟩
  | .hbm, ⟨12, _⟩ => ⟨S66560x1, .f32⟩
  | .hbm, ⟨13, _⟩ => ⟨S66560x1024, .f32⟩
  | .hbm, ⟨14, _⟩ => ⟨S66560x1024, .f32⟩
  | .hbm, ⟨15, _⟩ => ⟨S1x1024, .f32⟩
  | .hbm, ⟨16, _⟩ => ⟨S66560x1024, .f32⟩
  | .hbm, ⟨17, _⟩ => ⟨S66560x1024, .f32⟩
  | .hbm, ⟨18, _⟩ => ⟨S16x4160x1024, .f32⟩
  | .hbm, ⟨19, _⟩ => ⟨S16x4096x1024, .f32⟩
  | _, _ => ⟨S66560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== GateKernel.lean ====
abbrev S16x4160x128 : Shape := ⟨3, ![16, 4160, 128]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S16x1x128 : Shape := ⟨3, ![16, 1, 128]⟩
abbrev S1x4160x128 : Shape := ⟨3, ![1, 4160, 128]⟩
abbrev S1x1x128 : Shape := ⟨3, ![1, 1, 128]⟩
abbrev S1x64x128 : Shape := ⟨3, ![1, 64, 128]⟩
abbrev S64x128 : Shape := ⟨2, ![64, 128]⟩
abbrev S64x64 : Shape := ⟨2, ![64, 64]⟩
abbrev S1x512x128 : Shape := ⟨3, ![1, 512, 128]⟩
abbrev S512x128 : Shape := ⟨2, ![512, 128]⟩
abbrev S512x512 : Shape := ⟨2, ![512, 512]⟩
abbrev S16x16x128 : Shape := ⟨3, ![16, 16, 128]⟩
abbrev S16x4096x128 : Shape := ⟨3, ![16, 4096, 128]⟩
abbrev S16x4112x128 : Shape := ⟨3, ![16, 4112, 128]⟩
abbrev S16x4112x8 : Shape := ⟨3, ![16, 4112, 8]⟩

abbrev nBuf : Space → Nat
  | .hbm => 19
  | .vmem => 11
  | .smem => 0
  | _ => 0

abbrev bufTy : (tb : Table) → Fin (tcTables nBuf tb) → BufTy
  | .hbm, ⟨0, _⟩ => ⟨S16x4160x128, .f32⟩
  | .hbm, ⟨1, _⟩ => ⟨S8, .f32⟩
  | .hbm, ⟨2, _⟩ => ⟨S_, .f32⟩
  | .hbm, ⟨3, _⟩ => ⟨S1x128, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S1x128, .f32⟩
  | .hbm, ⟨10, _⟩ => ⟨S_, .f32⟩
  | .hbm, ⟨11, _⟩ => ⟨S16x1x128, .f32⟩
  | .hbm, ⟨12, _⟩ => ⟨S16x4160x128, .f32⟩
  | .hbm, ⟨13, _⟩ => ⟨S16x4160x128, .f32⟩
  | .hbm, ⟨14, _⟩ => ⟨S16x1x128, .f32⟩
  | .hbm, ⟨15, _⟩ => ⟨S16x16x128, .f32⟩
  | .hbm, ⟨16, _⟩ => ⟨S16x4096x128, .f32⟩
  | .hbm, ⟨17, _⟩ => ⟨S16x4112x128, .f32⟩
  | .hbm, ⟨18, _⟩ => ⟨S16x4112x8, .f32⟩
  | .local _ .vmem, ⟨0, _⟩ => ⟨S1x4160x128, .f32⟩
  | .local _ .vmem, ⟨1, _⟩ => ⟨S1x4160x128, .f32⟩
  | .local _ .vmem, ⟨2, _⟩ => ⟨S1x128, .f32⟩
  | .local _ .vmem, ⟨3, _⟩ => ⟨S1x1x128, .f32⟩
  | .local _ .vmem, ⟨4, _⟩ => ⟨S1x1x128, .f32⟩
  | .local _ .vmem, ⟨5, _⟩ => ⟨S1x4160x128, .f32⟩
  | .local _ .vmem, ⟨6, _⟩ => ⟨S1x4160x128, .f32⟩
  | .local _ .vmem, ⟨7, _⟩ => ⟨S1x4160x128, .f32⟩
  | .local _ .vmem, ⟨8, _⟩ => ⟨S1x4160x128, .f32⟩
  | .local _ .vmem, ⟨9, _⟩ => ⟨S1x1x128, .f32⟩
  | .local _ .vmem, ⟨10, _⟩ => ⟨S1x1x128, .f32⟩
  | _, _ => ⟨S16x4160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4160x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4160x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateReferenceIdeal.lean ====
abbrev S16x4160x128 : Shape := ⟨3, ![16, 4160, 128]⟩
abbrev S8 : Shape := ⟨1, ![8]⟩
abbrev S16x16x128 : Shape := ⟨3, ![16, 16, 128]⟩
abbrev S16x4096x128 : Shape := ⟨3, ![16, 4096, 128]⟩
abbrev S16x4112x128 : Shape := ⟨3, ![16, 4112, 128]⟩
abbrev S16x4112x8 : Shape := ⟨3, ![16, 4112, 8]⟩
abbrev S1x1x8 : Shape := ⟨3, ![1, 1, 8]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16x4160x128, .f32⟩
  | .hbm, ⟨1, _⟩ => ⟨S8, .f32⟩
  | .hbm, ⟨2, _⟩ => ⟨S16x16x128, .f32⟩
  | .hbm, ⟨3, _⟩ => ⟨S16x4096x128, .f32⟩
  | .hbm, ⟨4, _⟩ => ⟨S16x4112x128, .f32⟩
  | .hbm, ⟨5, _⟩ => ⟨S16x4112x8, .f32⟩
  | .hbm, ⟨6, _⟩ => ⟨S1x1x8, .f32⟩
  | .hbm, ⟨7, _⟩ => ⟨S16x4112x8, .f32⟩
  | .hbm, ⟨8, _⟩ => ⟨S16x4112x8, .f32⟩
  | .hbm, ⟨9, _⟩ => ⟨S16x4112x8, .f32⟩
  | .hbm, ⟨10, _⟩ => ⟨S_, .f32⟩
  | .hbm, ⟨11, _⟩ => ⟨S16x4112x8, .f32⟩
  | .hbm, ⟨12, _⟩ => ⟨S16x4112x8, .f32⟩
  | .hbm, ⟨13, _⟩ => ⟨S16x4112x8, .f32⟩
  | .hbm, ⟨14, _⟩ => ⟨S16x4112x8, .f32⟩
  | .hbm, ⟨15, _⟩ => ⟨S16x4112x8, .i1⟩
  | .hbm, ⟨16, _⟩ => ⟨S16x4112x8, .f32⟩
  | .hbm, ⟨17, _⟩ => ⟨S16x4112x8, .f32⟩
  | .hbm, ⟨18, _⟩ => ⟨S16x4112x8, .f32⟩
  | .hbm, ⟨19, _⟩ => ⟨S16x4112x8, .f32⟩
  | .hbm, ⟨20, _⟩ => ⟨S16x4112x8, .f32⟩
  | .hbm, ⟨21, _⟩ => ⟨S16x4112x8, .f32⟩
  | .hbm, ⟨22, _⟩ => ⟨S16x4112x8, .f32⟩
  | .hbm, ⟨23, _⟩ => ⟨S16x4112x8, .f32⟩
  | .hbm, ⟨24, _⟩ => ⟨S16x4112x8, .f32⟩
  | _, _ => ⟨S16x4160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v7 : Ref sig .tc := ⟨.hbm, 24, rfl⟩

abbrev nD : Nat := 1
abbrev τ : Topo := Topo.v7x

variable {F : FTy → Type} [FloatOps F]
-- ==== SampleNormKernel.lean ====
abbrev S256x1024 : Shape := ⟨2, ![256, 1024]⟩
abbrev S1024 : Shape := ⟨1, ![1024]⟩
abbrev S8x32x1024 : Shape := ⟨3, ![8, 32, 1024]⟩
abbrev S1x1024 : Shape := ⟨2, ![1, 1024]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S8x32x1024, .f32⟩
  | .hbm, ⟨3, _⟩ => ⟨S1x1024, .f32⟩
  | .hbm, ⟨4, _⟩ => ⟨S8x32x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x1024, .f32⟩
  | .local _ .vmem, ⟨3, _⟩ => ⟨S1x32x1024, .f32⟩
  | .local _ .vmem, ⟨4, _⟩ => ⟨S1x32x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SampleNormReferenceIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S8x32x1024 : Shape := ⟨3, ![8, 32, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S8x32x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== SampleGateKernel.lean ====
abbrev S8x32x128 : Shape := ⟨3, ![8, 32, 128]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S8x1x128 : Shape := ⟨3, ![8, 1, 128]⟩
abbrev S1x32x128 : Shape := ⟨3, ![1, 32, 128]⟩
abbrev S1x1x128 : Shape := ⟨3, ![1, 1, 128]⟩
abbrev S32x128 : Shape := ⟨2, ![32, 128]⟩
abbrev S32x32 : Shape := ⟨2, ![32, 32]⟩
abbrev S8x32x8 : Shape := ⟨3, ![8, 32, 8]⟩

abbrev nBuf : Space → Nat
  | .hbm => 16
  | .vmem => 11
  | .smem => 0
  | _ => 0

abbrev bufTy : (tb : Table) → Fin (tcTables nBuf tb) → BufTy
  | .hbm, ⟨0, _⟩ => ⟨S8x32x128, .f32⟩
  | .hbm, ⟨1, _⟩ => ⟨S8, .f32⟩
  | .hbm, ⟨2, _⟩ => ⟨S_, .f32⟩
  | .hbm, ⟨3, _⟩ => ⟨S1x128, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S1x128, .f32⟩
  | .hbm, ⟨10, _⟩ => ⟨S_, .f32⟩
  | .hbm, ⟨11, _⟩ => ⟨S8x1x128, .f32⟩
  | .hbm, ⟨12, _⟩ => ⟨S8x32x128, .f32⟩
  | .hbm, ⟨13, _⟩ => ⟨S8x32x128, .f32⟩
  | .hbm, ⟨14, _⟩ => ⟨S8x1x128, .f32⟩
  | .hbm, ⟨15, _⟩ => ⟨S8x32x8, .f32⟩
  | .local _ .vmem, ⟨0, _⟩ => ⟨S1x32x128, .f32⟩
  | .local _ .vmem, ⟨1, _⟩ => ⟨S1x32x128, .f32⟩
  | .local _ .vmem, ⟨2, _⟩ => ⟨S1x128, .f32⟩
  | .local _ .vmem, ⟨3, _⟩ => ⟨S1x1x128, .f32⟩
  | .local _ .vmem, ⟨4, _⟩ => ⟨S1x1x128, .f32⟩
  | .local _ .vmem, ⟨5, _⟩ => ⟨S1x32x128, .f32⟩
  | .local _ .vmem, ⟨6, _⟩ => ⟨S1x32x128, .f32⟩
  | .local _ .vmem, ⟨7, _⟩ => ⟨S1x32x128, .f32⟩
  | .local _ .vmem, ⟨8, _⟩ => ⟨S1x32x128, .f32⟩
  | .local _ .vmem, ⟨9, _⟩ => ⟨S1x1x128, .f32⟩
  | .local _ .vmem, ⟨10, _⟩ => ⟨S1x1x128, .f32⟩
  | _, _ => ⟨S8x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SampleGateReferenceIdeal.lean ====
abbrev S8x32x128 : Shape := ⟨3, ![8, 32, 128]⟩
abbrev S8 : Shape := ⟨1, ![8]⟩
abbrev S8x32x8 : Shape := ⟨3, ![8, 32, 8]⟩
abbrev S1x1x8 : Shape := ⟨3, ![1, 1, 8]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S8, .f32⟩
  | .hbm, ⟨2, _⟩ => ⟨S8x32x8, .f32⟩
  | .hbm, ⟨3, _⟩ => ⟨S1x1x8, .f32⟩
  | .hbm, ⟨4, _⟩ => ⟨S8x32x8, .f32⟩
  | .hbm, ⟨5, _⟩ => ⟨S8x32x8, .f32⟩
  | .hbm, ⟨6, _⟩ => ⟨S8x32x8, .f32⟩
  | .hbm, ⟨7, _⟩ => ⟨S_, .f32⟩
  | .hbm, ⟨8, _⟩ => ⟨S8x32x8, .f32⟩
  | .hbm, ⟨9, _⟩ => ⟨S8x32x8, .f32⟩
  | .hbm, ⟨10, _⟩ => ⟨S8x32x8, .f32⟩
  | .hbm, ⟨11, _⟩ => ⟨S8x32x8, .f32⟩
  | .hbm, ⟨12, _⟩ => ⟨S8x32x8, .i1⟩
  | .hbm, ⟨13, _⟩ => ⟨S8x32x8, .f32⟩
  | .hbm, ⟨14, _⟩ => ⟨S8x32x8, .f32⟩
  | .hbm, ⟨15, _⟩ => ⟨S8x32x8, .f32⟩
  | .hbm, ⟨16, _⟩ => ⟨S8x32x8, .f32⟩
  | .hbm, ⟨17, _⟩ => ⟨S8x32x8, .f32⟩
  | .hbm, ⟨18, _⟩ => ⟨S8x32x8, .f32⟩
  | .hbm, ⟨19, _⟩ => ⟨S8x32x8, .f32⟩
  | .hbm, ⟨20, _⟩ => ⟨S8x32x8, .f32⟩
  | .hbm, ⟨21, _⟩ => ⟨S8x32x8, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩

abbrev nD : Nat := 1
abbrev τ : Topo := Topo.v7x

variable {F : FTy → Type} [FloatOps F]
-- ==== SampleInOddKernel.lean ====
abbrev S256x1024 : Shape := ⟨2, ![256, 1024]⟩
abbrev S1024 : Shape := ⟨1, ![1024]⟩
abbrev S1024x3080 : Shape := ⟨2, ![1024, 3080]⟩
abbrev S32 : Shape := ⟨1, ![32]⟩
abbrev S8 : Shape := ⟨1, ![8]⟩
abbrev S_ : Shape := ⟨0, ![]⟩
abbrev S32x1 : Shape := ⟨2, ![32, 1]⟩
abbrev S1x8 : Shape := ⟨2, ![1, 8]⟩
abbrev S32x8 : Shape := ⟨2, ![32, 8]⟩
abbrev S32x48 : Shape := ⟨2, ![32, 48]⟩
abbrev S32x64 : Shape := ⟨2, ![32, 64]⟩
abbrev S1x32x1x64 : Shape := ⟨4, ![1, 32, 1, 64]⟩
abbrev S1x32x8x64 : Shape := ⟨4, ![1, 32, 8, 64]⟩
abbrev S32x512 : Shape := ⟨2, ![32, 512]⟩
abbrev S1024x128 : Shape := ⟨2, ![1024, 128]⟩
abbrev S1024x8 : Shape := ⟨2, ![1024, 8]⟩
abbrev S1 : Shape := ⟨1, ![1]⟩
abbrev S1024x1536 : Shape := ⟨2, ![1024, 1536]⟩
abbrev S1024x3200 : Shape := ⟨2, ![1024, 3200]⟩
abbrev S8x32x1024 : Shape := ⟨3, ![8, 32, 1024]⟩
abbrev S1x1024 : Shape := ⟨2, ![1, 1024]⟩
abbrev S8x32x512 : Shape := ⟨3, ![8, 32, 512]⟩
abbrev S8x32x128 : Shape := ⟨3, ![8, 32, 128]⟩
abbrev S1x32x1024 : Shape := ⟨3, ![1, 32, 1024]⟩
abbrev S1x32x512 : Shape := ⟨3, ![1, 32, 512]⟩
abbrev S1x32x128 : Shape := ⟨3, ![1, 32, 128]⟩
abbrev S32x1024 : Shape := ⟨2, ![32, 1024]⟩
abbrev S1024x512 : Shape := ⟨2, ![1024, 512]⟩
abbrev S32x128 : Shape := ⟨2, ![32, 128]⟩

abbrev nBuf : Space → Nat
  | .hbm => 68
  | .vmem => 27
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x3080, .f32⟩
  | .hbm, ⟨3, _⟩ => ⟨S32, .i32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S32, .f32⟩
  | .hbm, ⟨19, _⟩ => ⟨S32x1, .f32⟩
  | .hbm, ⟨20, _⟩ => ⟨S1x8, .f32⟩
  | .hbm, ⟨21, _⟩ => ⟨S32x8, .f32⟩
  | .hbm, ⟨22, _⟩ => ⟨S32x8, .f32⟩
  | .hbm, ⟨23, _⟩ => ⟨S32x8, .f32⟩
  | .hbm, ⟨24, _⟩ => ⟨S32x8, .f32⟩
  | .hbm, ⟨25, _⟩ => ⟨S32x8, .f32⟩
  | .hbm, ⟨26, _⟩ => ⟨S_, .f32⟩
  | .hbm, ⟨27, _⟩ => ⟨S32x48, .f32⟩
  | .hbm, ⟨28, _⟩ => ⟨S_, .f32⟩
  | .hbm, ⟨29, _⟩ => ⟨S32x8, .f32⟩
  | .hbm, ⟨30, _⟩ => ⟨S_, .f32⟩
  | .hbm, ⟨31, _⟩ => ⟨S32x48, .f32⟩
  | .hbm, ⟨32, _⟩ => ⟨S32x48, .f32⟩
  | .hbm, ⟨33, _⟩ => ⟨S32x64, .f32⟩
  | .hbm, ⟨34, _⟩ => ⟨S32x8, .f32⟩
  | .hbm, ⟨35, _⟩ => ⟨S32x64, .f32⟩
  | .hbm, ⟨36, _⟩ => ⟨S32x64, .f32⟩
  | .hbm, ⟨37, _⟩ => ⟨S1x32x1x64, .f32⟩
  | .hbm, ⟨38, _⟩ => ⟨S1x32x8x64, .f32⟩
  | .hbm, ⟨39, _⟩ => ⟨S32x512, .f32⟩
  | .hbm, ⟨40, _⟩ => ⟨S1x32x1x64, .f32⟩
  | .hbm, ⟨41, _⟩ => ⟨S1x32x8x64, .f32⟩
  | .hbm, ⟨42, _⟩ => ⟨S32x512, .f32⟩
  | .hbm, ⟨43, _⟩ => ⟨S1x32x1x64, .f32⟩
  | .hbm, ⟨44, _⟩ => ⟨S1x32x8x64, .f32⟩
  | .hbm, ⟨45, _⟩ => ⟨S32x512, .f32⟩
  | .hbm, ⟨46, _⟩ => ⟨S_, .f32⟩
  | .hbm, ⟨47, _⟩ => ⟨S1024x128, .f32⟩
  | .hbm, ⟨48, _⟩ => ⟨S1024x8, .f32⟩
  | .hbm, ⟨49, _⟩ => ⟨S_, .i32⟩
  | .hbm, ⟨50, _⟩ => ⟨S1, .i32⟩
  | .hbm, ⟨51, _⟩ => ⟨S1024x128, .f32⟩
  | .hbm, ⟨52, _⟩ => ⟨S1024x1536, .f32⟩
  | .hbm, ⟨53, _⟩ => ⟨S1024x1536, .f32⟩
  | .hbm, ⟨54, _⟩ => ⟨S1024x3200, .f32⟩
  | .hbm, ⟨55, _⟩ => ⟨S1024x3200, .bf16⟩
  | .hbm, ⟨56, _⟩ => ⟨S8x32x1024, .f32⟩
  | .hbm, ⟨57, _⟩ => ⟨S1x1024, .f32⟩
  | .hbm, ⟨58, _⟩ => ⟨S8x32x1024, .bf16⟩
  | .hbm, ⟨59, _⟩ => ⟨S8x32x512, .f32⟩
  | .hbm, ⟨60, _⟩ => ⟨S8x32x512, .f32⟩
  | .hbm, ⟨61, _⟩ => ⟨S8x32x1024, .bf16⟩
  | .hbm, ⟨62, _⟩ => ⟨S8x32x1024, .bf16⟩
  | .hbm, ⟨63, _⟩ => ⟨S8x32x512, .f32⟩
  | .hbm, ⟨64, _⟩ => ⟨S8x32x512, .bf16⟩
  | .hbm, ⟨65, _⟩ => ⟨S8x32x512, .f32⟩
  | .hbm, ⟨66, _⟩ => ⟨S8x32x1024, .bf16⟩
  | .hbm, ⟨67, _⟩ => ⟨S8x32x128, .f32⟩
  | .local _ .vmem, ⟨0, _⟩ => ⟨S1x32x1024, .f32⟩
  | .local _ .vmem, ⟨1, _⟩ => ⟨S1x32x1024, .f32⟩
  | .local _ .vmem, ⟨2, _⟩ => ⟨S1x1024, .f32⟩
  | .local _ .vmem, ⟨3, _⟩ => ⟨S1024x3200, .bf16⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S1x32x1024, .bf16⟩
  | .local _ .vmem, ⟨8, _⟩ => ⟨S1x32x1024, .bf16⟩
  | .local _ .vmem, ⟨9, _⟩ => ⟨S1x32x512, .f32⟩
  | .local _ .vmem, ⟨10, _⟩ => ⟨S1x32x512, .f32⟩
  | .local _ .vmem, ⟨11, _⟩ => ⟨S1x32x512, .f32⟩
  | .local _ .vmem, ⟨12, _⟩ => ⟨S1x32x512, .f32⟩
  | .local _ .vmem, ⟨13, _⟩ => ⟨S1x32x1024, .bf16⟩
  | .local _ .vmem, ⟨14, _⟩ => ⟨S1x32x1024, .bf16⟩
  | .local _ .vmem, ⟨15, _⟩ => ⟨S1x32x1024, .bf16⟩
  | .local _ .vmem, ⟨16, _⟩ => ⟨S1x32x1024, .bf16⟩
  | .local _ .vmem, ⟨17, _⟩ => ⟨S1x32x512, .f32⟩
  | .local _ .vmem, ⟨18, _⟩ => ⟨S1x32x512, .f32⟩
  | .local _ .vmem, ⟨19, _⟩ => ⟨S1x32x512, .bf16⟩
  | .local _ .vmem, ⟨20, _⟩ => ⟨S1x32x512, .bf16⟩
  | .local _ .vmem, ⟨21, _⟩ => ⟨S1x32x512, .f32⟩
  | .local _ .vmem, ⟨22, _⟩ => ⟨S1x32x512, .f32⟩
  | .local _ .vmem, ⟨23, _⟩ => ⟨S1x32x1024, .bf16⟩
  | .local _ .vmem, ⟨24, _⟩ => ⟨S1x32x1024, .bf16⟩
  | .local _ .vmem, ⟨25, _⟩ => ⟨S1x32x128, .f32⟩
  | .local _ .vmem, ⟨26, _⟩ => ⟨S1x32x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev main_v45_2 : Ref sig .tc := ⟨.hbm, 60, rfl⟩
abbrev main_v45_3 : Ref sig .tc := ⟨.hbm, 61, rfl⟩
abbrev main_v45_4 : Ref sig .tc := ⟨.hbm, 62, rfl⟩
abbrev main_v45_5 : Ref sig .tc := ⟨.hbm, 63, rfl⟩
abbrev main_v45_6 : Ref sig .tc := ⟨.hbm, 64, rfl⟩
abbrev main_v45_7 : Ref sig .tc := ⟨.hbm, 65, rfl⟩
abbrev main_v45_8 : Ref sig .tc := ⟨.hbm, 66, rfl⟩
abbrev main_v45_9 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x32x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== SampleInOddReferenceIdeal.lean ====
abbrev S256x1024 : Shape := ⟨2, ![256, 1024]⟩
abbrev S1024 : Shape := ⟨1, ![1024]⟩
abbrev S1024x3080 : Shape := ⟨2, ![1024, 3080]⟩
abbrev S32 : Shape := ⟨1, ![32]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x3080 : Shape := ⟨2, ![256, 3080]⟩
abbrev S8x32x3080 : Shape := ⟨3, ![8, 32, 3080]⟩
abbrev S8x32x512 : Shape := ⟨3, ![8, 32, 512]⟩
abbrev S8x32x8x64 : Shape := ⟨4, ![8, 32, 8, 64]⟩
abbrev S8 : Shape := ⟨1, ![8]⟩
abbrev S32x1 : Shape := ⟨2, ![32, 1]⟩
abbrev S1x8 : Shape := ⟨2, ![1, 8]⟩
abbrev S32x8 : Shape := ⟨2, ![32, 8]⟩
abbrev S1x32x1x8 : Shape := ⟨4, ![1, 32, 1, 8]⟩
abbrev S8x32x8x16 : Shape := ⟨4, ![8, 32, 8, 16]⟩
abbrev S8x32x8x8 : Shape := ⟨4, ![8, 32, 8, 8]⟩
abbrev S8x32x8x48 : Shape := ⟨4, ![8, 32, 8, 48]⟩
abbrev S8x32x8 : Shape := ⟨3, ![8, 32, 8]⟩
abbrev S8x32x120 : Shape := ⟨3, ![8, 32, 120]⟩
abbrev S8x32x128 : Shape := ⟨3, ![8, 32, 128]⟩

abbrev nBuf : Space → Nat
  | .hbm => 72
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x3080, .f32⟩
  | .hbm, ⟨3, _⟩ => ⟨S32, .i32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x3080, .f32⟩
  | .hbm, ⟨21, _⟩ => ⟨S8x32x3080, .f32⟩
  | .hbm, ⟨22, _⟩ => ⟨S8x32x512, .f32⟩
  | .hbm, ⟨23, _⟩ => ⟨S8x32x8x64, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S32, .f32⟩
  | .hbm, ⟨39, _⟩ => ⟨S32x1, .f32⟩
  | .hbm, ⟨40, _⟩ => ⟨S1x8, .f32⟩
  | .hbm, ⟨41, _⟩ => ⟨S32x8, .f32⟩
  | .hbm, ⟨42, _⟩ => ⟨S32x8, .f32⟩
  | .hbm, ⟨43, _⟩ => ⟨S32x8, .f32⟩
  | .hbm, ⟨44, _⟩ => ⟨S32x8, .f32⟩
  | .hbm, ⟨45, _⟩ => ⟨S1x32x1x8, .f32⟩
  | .hbm, ⟨46, _⟩ => ⟨S32x8, .f32⟩
  | .hbm, ⟨47, _⟩ => ⟨S1x32x1x8, .f32⟩
  | .hbm, ⟨48, _⟩ => ⟨S8x32x8x16, .f32⟩
  | .hbm, ⟨49, _⟩ => ⟨S8x32x8x8, .f32⟩
  | .hbm, ⟨50, _⟩ => ⟨S8x32x8x8, .f32⟩
  | .hbm, ⟨51, _⟩ => ⟨S8x32x8x8, .f32⟩
  | .hbm, ⟨52, _⟩ => ⟨S8x32x8x8, .f32⟩
  | .hbm, ⟨53, _⟩ => ⟨S8x32x8x8, .f32⟩
  | .hbm, ⟨54, _⟩ => ⟨S8x32x8x8, .f32⟩
  | .hbm, ⟨55, _⟩ => ⟨S8x32x8x8, .f32⟩
  | .hbm, ⟨56, _⟩ => ⟨S8x32x8x8, .f32⟩
  | .hbm, ⟨57, _⟩ => ⟨S8x32x8x8, .f32⟩
  | .hbm, ⟨58, _⟩ => ⟨S8x32x8x8, .f32⟩
  | .hbm, ⟨59, _⟩ => ⟨S8x32x8x8, .f32⟩
  | .hbm, ⟨60, _⟩ => ⟨S8x32x8x8, .f32⟩
  | .hbm, ⟨61, _⟩ => ⟨S8x32x8x16, .f32⟩
  | .hbm, ⟨62, _⟩ => ⟨S8x32x8x48, .f32⟩
  | .hbm, ⟨63, _⟩ => ⟨S8x32x8x64, .f32⟩
  | .hbm, ⟨64, _⟩ => ⟨S8x32x8, .f32⟩
  | .hbm, ⟨65, _⟩ => ⟨S_, .f32⟩
  | .hbm, ⟨66, _⟩ => ⟨S8x32x120, .f32⟩
  | .hbm, ⟨67, _⟩ => ⟨S8x32x128, .f32⟩
  | .hbm, ⟨68, _⟩ => ⟨S8x32x512, .f32⟩
  | .hbm, ⟨69, _⟩ => ⟨S8x32x512, .f32⟩
  | .hbm, ⟨70, _⟩ => ⟨S8x32x512, .f32⟩
  | .hbm, ⟨71, _⟩ => ⟨S8x32x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩

abbrev nD : Nat := 1
abbrev τ : Topo := Topo.v7x

variable {F : FTy → Type} [FloatOps F]
-- ==== SampleInKernel.lean ====
abbrev S256x1024 : Shape := ⟨2, ![256, 1024]⟩
abbrev S1024 : Shape := ⟨1, ![1024]⟩
abbrev S1024x4624 : Shape := ⟨2, ![1024, 4624]⟩
abbrev S8x3x3072 : Shape := ⟨3, ![8, 3, 3072]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S1024x4096 : Shape := ⟨2, ![1024, 4096]⟩
abbrev S1024x512 : Shape := ⟨2, ![1024, 512]⟩
abbrev S1024x4736 : Shape := ⟨2, ![1024, 4736]⟩
abbrev S1x1024 : Shape := ⟨2, ![1, 1024]⟩
abbrev S256x3072 : Shape := ⟨2, ![256, 3072]⟩
abbrev S256x128 : Shape := ⟨2, ![256, 128]⟩
abbrev S32x4096 : Shape := ⟨2, ![32, 4096]⟩
abbrev S32x1024 : Shape := ⟨2, ![32, 1024]⟩
abbrev S32x3072 : Shape := ⟨2, ![32, 3072]⟩
abbrev S32x128 : Shape := ⟨2, ![32, 128]⟩
abbrev S32x512 : Shape := ⟨2, ![32, 512]⟩
abbrev S32 : Shape := ⟨1, ![32]⟩
abbrev S32x1 : Shape := ⟨2, ![32, 1]⟩
abbrev S8x32x3072 : Shape := ⟨3, ![8, 32, 3072]⟩
abbrev S8x35x3072 : Shape := ⟨3, ![8, 35, 3072]⟩

abbrev nBuf : Space → Nat
  | .hbm => 22
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x4624, .f32⟩
  | .hbm, ⟨3, _⟩ => ⟨S8x3x3072, .f32⟩
  | .hbm, ⟨4, _⟩ => ⟨S_, .f32⟩
  | .hbm, ⟨5, _⟩ => ⟨S1024x128, .f32⟩
  | .hbm, ⟨6, _⟩ => ⟨S1024x16, .f32⟩
  | .hbm, ⟨7, _⟩ => ⟨S_, .i32⟩
  | .hbm, ⟨8, _⟩ => ⟨S1, .i32⟩
  | .hbm, ⟨9, _⟩ => ⟨S1024x128, .f32⟩
  | .hbm, ⟨10, _⟩ => ⟨S1024x4096, .f32⟩
  | .hbm, ⟨11, _⟩ => ⟨S1024x512, .f32⟩
  | .hbm, ⟨12, _⟩ => ⟨S1024x4736, .f32⟩
  | .hbm, ⟨13, _⟩ => ⟨S1024x4736, .bf16⟩
  | .hbm, ⟨14, _⟩ => ⟨S1x1024, .f32⟩
  | .hbm, ⟨15, _⟩ => ⟨S256x3072, .f32⟩
  | .hbm, ⟨16, _⟩ => ⟨S256x1024, .f32⟩
  | .hbm, ⟨17, _⟩ => ⟨S256x128, .f32⟩
  | .hbm, ⟨18, _⟩ => ⟨S32x4096, .f32⟩
  | .hbm, ⟨19, _⟩ => ⟨S8x32x3072, .f32⟩
  | .hbm, ⟨20, _⟩ => ⟨S8x35x3072, .f32⟩
  | .hbm, ⟨21, _⟩ => ⟨S8x3x3072, .f32⟩
  | .local _ .vmem, ⟨0, _⟩ => ⟨S32x1024, .f32⟩
  | .local _ .vmem, ⟨1, _⟩ => ⟨S32x1024, .f32⟩
  | .local _ .vmem, ⟨2, _⟩ => ⟨S1x1024, .f32⟩
  | .local _ .vmem, ⟨3, _⟩ => ⟨S1024x4736, .bf16⟩
  | .local _ .vmem, ⟨4, _⟩ => ⟨S32x3072, .f32⟩
  | .local _ .vmem, ⟨5, _⟩ => ⟨S32x3072, .f32⟩
  | .local _ .vmem, ⟨6, _⟩ => ⟨S32x1024, .f32⟩
  | .local _ .vmem, ⟨7, _⟩ => ⟨S32x1024, .f32⟩
  | .local _ .vmem, ⟨8, _⟩ => ⟨S32x128, .f32⟩
  | .local _ .vmem, ⟨9, _⟩ => ⟨S32x128, .f32⟩
  | .local _ .vmem, ⟨10, _⟩ => ⟨S32x512, .f32⟩
  | .local _ .vmem, ⟨11, _⟩ => ⟨S32x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SampleInReferenceIdeal.lean ====
abbrev S256x1024 : Shape := ⟨2, ![256, 1024]⟩
abbrev S1024 : Shape := ⟨1, ![1024]⟩
abbrev S1024x4624 : Shape := ⟨2, ![1024, 4624]⟩
abbrev S8x3x3072 : Shape := ⟨3, ![8, 3, 3072]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x4624 : Shape := ⟨2, ![256, 4624]⟩
abbrev S256x512 : Shape := ⟨2, ![256, 512]⟩
abbrev S8x32x512 : Shape := ⟨3, ![8, 32, 512]⟩
abbrev S256x16 : Shape := ⟨2, ![256, 16]⟩
abbrev S256x112 : Shape := ⟨2, ![256, 112]⟩
abbrev S256x128 : Shape := ⟨2, ![256, 128]⟩
abbrev S256x3072 : Shape := ⟨2, ![256, 3072]⟩
abbrev S32x8x512 : Shape := ⟨3, ![32, 8, 512]⟩
abbrev S32x4096 : Shape := ⟨2, ![32, 4096]⟩
abbrev S8x32x3072 : Shape := ⟨3, ![8, 32, 3072]⟩
abbrev S8x35x3072 : Shape := ⟨3, ![8, 35, 3072]⟩

abbrev nBuf : Space → Nat
  | .hbm => 35
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x4624, .f32⟩
  | .hbm, ⟨3, _⟩ => ⟨S8x3x3072, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x4624, .f32⟩
  | .hbm, ⟨21, _⟩ => ⟨S256x512, .f32⟩
  | .hbm, ⟨22, _⟩ => ⟨S8x32x512, .f32⟩
  | .hbm, ⟨23, _⟩ => ⟨S256x16, .f32⟩
  | .hbm, ⟨24, _⟩ => ⟨S_, .f32⟩
  | .hbm, ⟨25, _⟩ => ⟨S256x112, .f32⟩
  | .hbm, ⟨26, _⟩ => ⟨S256x128, .f32⟩
  | .hbm, ⟨27, _⟩ => ⟨S256x3072, .f32⟩
  | .hbm, ⟨28, _⟩ => ⟨S256x1024, .f32⟩
  | .hbm, ⟨29, _⟩ => ⟨S32x8x512, .f32⟩
  | .hbm, ⟨30, _⟩ => ⟨S32x4096, .f32⟩
  | .hbm, ⟨31, _⟩ => ⟨S256x3072, .f32⟩
  | .hbm, ⟨32, _⟩ => ⟨S8x32x3072, .f32⟩
  | .hbm, ⟨33, _⟩ => ⟨S8x35x3072, .f32⟩
  | .hbm, ⟨34, _⟩ => ⟨S8x3x3072, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.FfnLoop.lean ====
/- The loop over the chunks of the hidden layer: what the accumulator holds after it. -/
module

public import proofs.«01_k».proof.Proof.Gen.FfnKernelIdeal.Frame
public import Idealize.ShloMosaic.Lib.Pipeline.ValueKit
public import Idealize.ShloMosaic.Lib.VecWindow
public import Idealize.ShloMosaic.Lib.WholeRead

@[expose] public section

set_option maxRecDepth 16384

noncomputable section

namespace Cert.FfnLoop

open Idealize.ShloMosaic Idealize.ShloMosaic.TcCoe Idealize.SL.Sem
open Idealize.ShloMosaic.Pipeline (Dat)
open Cert.FfnKernelIdeal Cert.FfnKernelIdeal.Gen
open scoped BigOperators

theorem off1 : ∀ k : Fin k0_t1_loop.trips, k0_off1 k = ![k.val, 0, 0] := by decide +kernel
theorem off2 : ∀ k : Fin k0_t1_loop.trips, k0_off2 k = ![k.val, 0, 0] := by decide +kernel
theorem trips : k0_t1_loop.trips = 11 := by decide +kernel

/-- One entry of one chunk's hidden part: the gate of `s`, times `u`. -/
def gated (s u : EReal) : EReal := s * Ideal.div 1 (1 + Ideal.exp (-s)) * u

theorem pay1 (n : FVec Ideal S832x1024 .bf16) (a b : FVec Ideal S1x1024x256 .bf16) (acc : FVec Ideal S832x1024 .f32) (w : FVec Ideal S1x256x1024 .bf16)
    (p : Fin 832) (q : Fin 1024) : k0_pay1 (F := Ideal) n a b acc w (ix2 p q)
      = acc (ix2 p q) + ∑ j : Fin 256, gated (∑ l : Fin 1024, n (ix2 p l) * a (ix3 0 l j)) (∑ l : Fin 1024, n (ix2 p l) * b (ix3 0 l j)) * w (ix3 0 j q) := by
  pointwise [k0_pay1]
  unfold gated
  simp only [zero_sub]

/-- A whole block of rows. -/
abbrev rows : Rect S832x1024 := Rect.unit (s := S832x1024) ![0, 0] S832x1024.size inb_S832x1024_S832x1024_0_0

/-- The chunk of a hidden-layer weight that pass `k` loads. -/
def loadUp (a : Memref sig .tc .vmem S11x1024x256 .bf16) (f : BufTy.Contents (Elt Ideal) a.view.ty) (k : Fin k0_t1_loop.trips) : FVec Ideal S1x1024x256 .bf16 :=
  View.readAt (Elt Ideal) a.view (Rect.unit (s := S11x1024x256) (k0_off1 k) ![1, 1024, 256] (k0_off1_inb k)).toLoadRect f

/-- The chunk of the second weight that pass `k` loads. -/
def loadDown (a : Memref sig .tc .vmem S11x256x1024 .bf16) (f : BufTy.Contents (Elt Ideal) a.view.ty) (k : Fin k0_t1_loop.trips) : FVec Ideal S1x256x1024 .bf16 :=
  View.readAt (Elt Ideal) a.view (Rect.unit (s := S11x256x1024) (k0_off2 k) ![1, 256, 1024] (k0_off2_inb k)).toLoadRect f

theorem loadUp_apply (a : Memref sig .tc .vmem S11x1024x256 .bf16) (ha : a.IsWhole) (x : FVec Ideal S11x1024x256 .bf16) (k : Fin k0_t1_loop.trips) (k' : Fin 11) (hk : k.val = k'.val)
    (l : Fin 1024) (j : Fin 256) : loadUp a (ha.unread x) k (ix3 0 l j) = x (ix3 k' l j) := by
  refine Eq.trans (ha.readAt_unread (Val := Elt Ideal) x _ _) ?_
  refine congrArg x (funext fun b => Fin.ext ?_)
  have h := off1 k
  match b with
  | ⟨0, _⟩ => show k0_off1 k 0 + 1 * 0 = k'.val; rw [h]; exact hk
  | ⟨1, _⟩ => show k0_off1 k 1 + 1 * l.val = l.val; rw [h]; show 0 + 1 * l.val = l.val; omega
  | ⟨2, _⟩ => show k0_off1 k 2 + 1 * j.val = j.val; rw [h]; show 0 + 1 * j.val = j.val; omega

theorem loadDown_apply (a : Memref sig .tc .vmem S11x256x1024 .bf16) (ha : a.IsWhole) (x : FVec Ideal S11x256x1024 .bf16) (k : Fin k0_t1_loop.trips) (k' : Fin 11) (hk : k.val = k'.val)
    (j : Fin 256) (q : Fin 1024) : loadDown a (ha.unread x) k (ix3 0 j q) = x (ix3 k' j q) := by
  refine Eq.trans (ha.readAt_unread (Val := Elt Ideal) x _ _) ?_
  refine congrArg x (funext fun b => Fin.ext ?_)
  have h := off2 k
  match b with
  | ⟨0, _⟩ => show k0_off2 k 0 + 1 * 0 = k'.val; rw [h]; exact hk
  | ⟨1, _⟩ => show k0_off2 k 1 + 1 * j.val = j.val; rw [h]; show 0 + 1 * j.val = j.val; omega
  | ⟨2, _⟩ => show k0_off2 k 2 + 1 * q.val = q.val; rw [h]; show 0 + 1 * q.val = q.val; omega

/-- The piece that one pass over the chunks stores. -/
theorem trip_piece (c : Dev nD) (i : grid0.Coords) (arg2 : Memref sig .tc .vmem S832x1024 .f32) (harg2 : arg2.IsWhole) (arg3 : Memref sig .tc .vmem S832x1024 .bf16) (harg3 : arg3.IsWhole)
    (arg4 : Memref sig .tc .vmem S832x512 .f32) (harg4 : arg4.IsWhole) (arg5 : Memref sig .tc .vmem S1536x1024 .bf16) (harg5 : arg5.IsWhole)
    (arg6 : Memref sig .tc .vmem S1x1024 .f32) (harg6 : arg6.IsWhole) (arg7 : Memref sig .tc .vmem S11x1024x256 .bf16) (harg7 : arg7.IsWhole)
    (arg8 : Memref sig .tc .vmem S11x1024x256 .bf16) (harg8 : arg8.IsWhole) (arg9 : Memref sig .tc .vmem S11x256x1024 .bf16) (harg9 : arg9.IsWhole)
    (arg10 : Memref sig .tc .vmem S832x1024 .f32) (harg10 : arg10.IsWhole)
    (X7 : BufTy.Contents (Elt Ideal) arg7.view.ty) (X8 : BufTy.Contents (Elt Ideal) arg8.view.ty) (X9 : BufTy.Contents (Elt Ideal) arg9.view.ty)
    (X12 : BufTy.Contents (Elt Ideal) scM0_1.view.ty) (k : Fin k0_t1_loop.trips) (g : BufTy.Contents (Elt Ideal) scM0_0.view.ty) :
    tripL_k0_t1 Variants.none c none i arg2 harg2 arg3 harg3 arg4 harg4 arg5 harg5 arg6 harg6 arg7 harg7 arg8 harg8 arg9 harg9 arg10 harg10 scM0_0 (Memref.isWhole_whole _) scM0_1 (Memref.isWhole_whole _) X7 X8 X9 X12 k g
      = [⟨rows, k0_pay1 (F := Ideal)
          (View.readAt (Elt Ideal) (View.whole cc0_scratch1) rows.toLoadRect X12) (loadUp arg7 X7 k) (loadUp arg8 X8 k)
          (View.readAt (Elt Ideal) (View.whole cc0_scratch0) rows.toLoadRect g) (loadDown arg9 X9 k)⟩] := by
  unfold tripL_k0_t1 trip_k0_t1 loadUp loadDown
  dsimp only

/-- The accumulator after `k` chunks: what it held at the loop's entry, plus the chunks' terms. -/
theorem loop_read (c : Dev nD) (i : grid0.Coords) (arg2 : Memref sig .tc .vmem S832x1024 .f32) (harg2 : arg2.IsWhole) (arg3 : Memref sig .tc .vmem S832x1024 .bf16) (harg3 : arg3.IsWhole)
    (arg4 : Memref sig .tc .vmem S832x512 .f32) (harg4 : arg4.IsWhole) (arg5 : Memref sig .tc .vmem S1536x1024 .bf16) (harg5 : arg5.IsWhole)
    (arg6 : Memref sig .tc .vmem S1x1024 .f32) (harg6 : arg6.IsWhole) (arg7 : Memref sig .tc .vmem S11x1024x256 .bf16) (harg7 : arg7.IsWhole)
    (arg8 : Memref sig .tc .vmem S11x1024x256 .bf16) (harg8 : arg8.IsWhole) (arg9 : Memref sig .tc .vmem S11x256x1024 .bf16) (harg9 : arg9.IsWhole)
    (arg10 : Memref sig .tc .vmem S832x1024 .f32) (harg10 : arg10.IsWhole)
    (x5 x6 : FVec Ideal S11x1024x256 .bf16) (x7 : FVec Ideal S11x256x1024 .bf16) (n : FVec Ideal S832x1024 .bf16) (s0 : FVec Ideal S832x1024 .f32)
    (p : Fin 832) (q : Fin 1024) (term : ℕ → EReal)
    (hterm : ∀ k : Fin 11, ∑ j : Fin 256, gated (∑ l : Fin 1024, n (ix2 p l) * x5 (ix3 k l j)) (∑ l : Fin 1024, n (ix2 p l) * x6 (ix3 k l j)) * x7 (ix3 k j q) = term k.val) :
    ∀ k : ℕ, k ≤ 11 → (View.whole cc0_scratch0).readCov (Val := Elt Ideal)
        (pb_k0_t1 Variants.none c none i arg2 harg2 arg3 harg3 arg4 harg4 arg5 harg5 arg6 harg6 arg7 harg7 arg8 harg8 arg9 harg9 arg10 harg10 scM0_0 (Memref.isWhole_whole _) scM0_1 (Memref.isWhole_whole _) (harg7.unread x5) (harg8.unread x6) (harg9.unread x7)
          ((View.whole cc0_scratch1).writes (Elt Ideal) (View.whole cc0_scratch1).junk [⟨rows, n⟩])
          ((View.whole cc0_scratch0).writes (Elt Ideal) (View.whole cc0_scratch0).junk [⟨rows, s0⟩]) k
          ++ [⟨rows, s0⟩])
        rows.toLoadRect (ix2 p q)
      = s0 (ix2 p q) + ∑ kk ∈ Finset.range k, term kk := by
  have hfull := fun (w : FVec Ideal S832x1024 .f32) L => View.readCov_full (s := S832x1024) (Val := Elt Ideal) (View.whole cc0_scratch0) inb_S832x1024_S832x1024_0_0 inb_S832x1024_S832x1024_0_0 w L
  have hnorm := View.readCov_full (s := S832x1024) (Val := Elt Ideal) (View.whole cc0_scratch1) inb_S832x1024_S832x1024_0_0 inb_S832x1024_S832x1024_0_0 n []
  intro k
  induction k with
  | zero =>
    intro _
    rw [pb_k0_t1.eq_1, List.nil_append, Finset.sum_range_zero, add_zero]
    exact congrFun (hfull s0 []) (ix2 p q)
  | succ k ih =>
    intro hk
    have hkt : k < k0_t1_loop.trips := by rw [trips]; omega
    rw [pb_k0_t1_succ (k := ⟨k, hkt⟩), trip_piece, List.append_assoc, List.singleton_append]
    refine (congrFun (hfull _ _) (ix2 p q)).trans ?_
    refine (pay1 _ _ _ _ _ p q).trans ?_
    rw [Finset.sum_range_succ, ← add_assoc]
    refine congrArg₂ (· + ·) ?_ ?_
    · refine Eq.trans ?_ (ih (by omega))
      unfold View.readCov
      rw [View.writes_append]
    · refine Eq.trans ?_ (hterm ⟨k, by omega⟩)
      refine Finset.sum_congr rfl fun j _ => ?_
      refine congrArg₂ (· * ·) (congrArg₂ gated (Finset.sum_congr rfl fun l _ => ?_) (Finset.sum_congr rfl fun l _ => ?_)) ?_
      · exact congrArg₂ (· * ·) (congrFun hnorm (ix2 p l)) (loadUp_apply _ _ _ _ _ rfl l j)
      · exact congrArg₂ (· * ·) (congrFun hnorm (ix2 p l)) (loadUp_apply _ _ _ _ _ rfl l j)
      · exact loadDown_apply _ _ _ _ _ rfl j q

end Cert.FfnLoop

end
-- ==== Proof.FfnValue.lean ====
/- The output projection and the feed-forward part, after an even layer: what the result array holds after the run. -/
module

public import proofs.«01_k».proof.Proof.Gen.FfnKernelIdeal.Frame
public import proofs.«01_k».proof.Proof.Gen.FfnReferenceIdeal.Read
public import proofs.«01_k».proof.Proof.Gen.FfnReferenceIdeal.Run
public import proofs.«01_k».proof.Proof.FfnLoop
public import Idealize.ShloMosaic.Lib.Pipeline.ValueKit
public import Idealize.ShloMosaic.Lib.VecWindow
public import Idealize.ShloMosaic.Lib.WholeRead

@[expose] public section

set_option maxRecDepth 16384

noncomputable section

namespace Cert.FfnValue

open Idealize.ShloMosaic Idealize.ShloMosaic.TcCoe Idealize.SL.Sem
open Idealize.ShloMosaic.Pipeline (Dat)
open Cert.FfnKernelIdeal Cert.FfnKernelIdeal.Gen
open Cert.FfnLoop (gated loop_read)
open scoped BigOperators

variable (m : (ℓ : Loc nD τ sig) → Buf (Elt Ideal) ℓ)

theorem idx : ∀ t : Fin cfg0.N, win0_0.index t = ![t.val, 0] ∧ win0_1.index t = ![t.val, 0] ∧ win0_2.index t = ![t.val % 5, t.val / 5]
    ∧ win0_3.index t = ![0, 0] ∧ win0_4.index t = ![0, 0] ∧ win0_5.index t = ![0, 0, 0] ∧ win0_6.index t = ![0, 0, 0]
    ∧ win0_7.index t = ![0, 0, 0] ∧ win0_8.index t = ![t.val, 0] :=
  (by decide +kernel : ∀ t : Fin grid0.N, _)

abbrev X (c : Dev nD) : FVec Ideal S66560x1024 .f32 := m ((c : Thread nD τ).loc main_arg0)
abbrev A (c : Dev nD) : FVec Ideal S66560x1024 .bf16 := m ((c : Thread nD τ).loc main_arg1)
abbrev B (c : Dev nD) : FVec Ideal S4160x16x512 .f32 := m ((c : Thread nD τ).loc main_arg2)
abbrev Wo (c : Dev nD) : FVec Ideal S1536x1024 .f32 := m ((c : Thread nD τ).loc main_arg3)
abbrev G (c : Dev nD) : FVec Ideal S1024 .f32 := m ((c : Thread nD τ).loc main_arg4)
abbrev W1 (c : Dev nD) : FVec Ideal S1024x2816 .f32 := m ((c : Thread nD τ).loc main_arg5)
abbrev W3 (c : Dev nD) : FVec Ideal S1024x2816 .f32 := m ((c : Thread nD τ).loc main_arg6)
abbrev W2 (c : Dev nD) : FVec Ideal S2816x1024 .f32 := m ((c : Thread nD τ).loc main_arg7)

theorem ref_hidden (c : Dev nD) (r : Fin 66560) (j : Fin 2816) :
    Cert.FfnReferenceIdeal.Read.val_main_v22 (F := Ideal) (X m c) (A m c) (B m c) (Wo m c) (G m c) (W1 m c) (W3 m c) (ix2 r j)
      = gated (∑ l : Fin 1024, Cert.FfnReferenceIdeal.Read.val_main_v18 (F := Ideal) (X m c) (A m c) (B m c) (Wo m c) (G m c) (ix2 r l) * W1 m c (ix2 l j))
          (∑ l : Fin 1024, Cert.FfnReferenceIdeal.Read.val_main_v18 (F := Ideal) (X m c) (A m c) (B m c) (Wo m c) (G m c) (ix2 r l) * W3 m c (ix2 l j)) := by
  pointwise [Cert.FfnReferenceIdeal.Read.val_main_v22, Cert.FfnReferenceIdeal.Read.val_main_v20, Cert.FfnReferenceIdeal.Read.val_main_call0_v5, Cert.FfnReferenceIdeal.Read.val_main_call0_v4, Cert.FfnReferenceIdeal.Read.val_main_call0_v3, Cert.FfnReferenceIdeal.Read.val_main_call0_v2, Cert.FfnReferenceIdeal.Read.val_main_call0_v1, Cert.FfnReferenceIdeal.Read.val_main_call0_v0, Cert.FfnReferenceIdeal.Read.val_main_call0_cst, Cert.FfnReferenceIdeal.Read.val_main_call0_cst_0]
  refine (rfl : _ = gated (Cert.FfnReferenceIdeal.Read.val_main_v19 (F := Ideal) (X m c) (A m c) (B m c) (Wo m c) (G m c) (W1 m c) (ix2 r j))
    (Cert.FfnReferenceIdeal.Read.val_main_v21 (F := Ideal) (X m c) (A m c) (B m c) (Wo m c) (G m c) (W3 m c) (ix2 r j))).trans ?_
  congr 1
  · rw [Cert.FfnReferenceIdeal.Read.val_main_v19_apply]
    refine Finset.sum_congr rfl fun k _ => ?_
    congr 2 <;> (funext a; match a with | ⟨0, _⟩ => rfl | ⟨1, _⟩ => rfl)
  · rw [Cert.FfnReferenceIdeal.Read.val_main_v21_apply]
    refine Finset.sum_congr rfl fun k _ => ?_
    congr 2 <;> (funext a; match a with | ⟨0, _⟩ => rfl | ⟨1, _⟩ => rfl)

theorem ref_cat (c : Dev nD) (r : Fin 66560) (j : Fin 1536) :
    Cert.FfnReferenceIdeal.Read.val_main_v3 (F := Ideal) (A m c) (B m c) (ix2 r j)
      = if h : j.val < 1024 then A m c (ix2 r ⟨j.val, h⟩) else B m c (ix3 ⟨r.val % 4160, by omega⟩ ⟨r.val / 4160, by omega⟩ ⟨j.val - 1024, by omega⟩) := by
  pointwise [Cert.FfnReferenceIdeal.Read.val_main_v3, Cert.FfnReferenceIdeal.Read.val_main_v2, Cert.FfnReferenceIdeal.Read.val_main_v1, Cert.FfnReferenceIdeal.Read.val_main_v0]

/-- The reference's residual row: the input plus the two mixers' outputs through their rows of the output weight. -/
theorem ref_residual (c : Dev nD) (r : Fin 66560) (q : Fin 1024) :
    Cert.FfnReferenceIdeal.Read.val_main_v5 (F := Ideal) (X m c) (A m c) (B m c) (Wo m c) (ix2 r q)
      = X m c (ix2 r q) + ∑ k : Fin 1024, A m c (ix2 r k) * Wo m c (ix2 ⟨k.val, by omega⟩ q)
        + ∑ k : Fin 512, B m c (ix3 ⟨r.val % 4160, by omega⟩ ⟨r.val / 4160, by omega⟩ k) * Wo m c (ix2 ⟨1024 + k.val, by omega⟩ q) := by
  have e : Cert.FfnReferenceIdeal.Read.val_main_v4 (F := Ideal) (A m c) (B m c) (Wo m c) (ix2 r q)
      = ∑ k : Fin 1536, Cert.FfnReferenceIdeal.Read.val_main_v3 (F := Ideal) (A m c) (B m c) (ix2 r k) * Wo m c (ix2 k q) := by
    rw [Cert.FfnReferenceIdeal.Read.val_main_v4_apply]
    refine Finset.sum_congr rfl fun k _ => ?_
    congr 2 <;> (funext a; match a with | ⟨0, _⟩ => rfl | ⟨1, _⟩ => rfl)
  have s : (∑ k : Fin 1536, Cert.FfnReferenceIdeal.Read.val_main_v3 (F := Ideal) (A m c) (B m c) (ix2 r k) * Wo m c (ix2 k q) : EReal)
      = (∑ k : Fin 1024, A m c (ix2 r k) * Wo m c (ix2 ⟨k.val, by omega⟩ q))
        + ∑ k : Fin 512, B m c (ix3 ⟨r.val % 4160, by omega⟩ ⟨r.val / 4160, by omega⟩ k) * Wo m c (ix2 ⟨1024 + k.val, by omega⟩ q) := by
    refine (Fin.sum_univ_add (a := 1024) (b := 512) (fun k => Cert.FfnReferenceIdeal.Read.val_main_v3 (F := Ideal) (A m c) (B m c) (ix2 r k) * Wo m c (ix2 k q))).trans ?_
    refine congrArg₂ (· + ·) (Finset.sum_congr rfl fun k _ => ?_) (Finset.sum_congr rfl fun k _ => ?_)
    · rw [ref_cat, dif_pos (show (Fin.castAdd 512 k).val < 1024 from k.isLt)]
      rfl
    · rw [ref_cat, dif_neg (show ¬ (Fin.natAdd 1024 k).val < 1024 by rw [Fin.val_natAdd]; omega)]
      refine congrArg₂ (· * ·) (congrArg (fun z => B m c (ix3 _ _ z)) (Fin.ext ?_)) rfl
      show (Fin.natAdd 1024 k).val - 1024 = k.val
      rw [Fin.val_natAdd]; omega
  rw [Cert.FfnReferenceIdeal.Read.val_main_v5_apply, e, s]
  exact (add_assoc _ _ _).symm

/-- The residual rows of point `t`'s block are the reference's. -/
theorem residual (c : Dev nD) (t : Fin cfg0.N) (p : Fin 832) (q : Fin 1024) (r : Fin 66560) (hr : r.val = t.val * 832 + p.val) :
    k0_pay2 (F := Ideal) (iblk m c 0 t) (iblk m c 1 t) (View.ld (iblk m c 3 t) (Rect.unit ![0, 0] ![1024, 1024] inb_S1536x1024_S1024x1024_0_0))
        (iblk m c 2 t) (View.ld (iblk m c 3 t) (Rect.unit ![1024, 0] ![512, 1024] inb_S1536x1024_S512x1024_1024_0)) (ix2 p q)
      = Cert.FfnReferenceIdeal.Read.val_main_v5 (F := Ideal) (X m c) (A m c) (B m c) (Wo m c) (ix2 r q) := by
  have ht : t.val < 80 := lt_of_lt_of_eq t.isLt N_0
  rw [ref_residual]
  pointwise [k0_pay2]
  refine congrArg₂ (· + ·) (congrArg₂ (· + ·) ?_ (Finset.sum_congr rfl fun k _ => congrArg₂ (· * ·) ?_ ?_)) (Finset.sum_congr rfl fun k _ => congrArg₂ (· * ·) ?_ ?_)
  · blk_point [iblk, V, idx t]
  · blk_point [iblk, V, idx t]
  · blk_point [iblk, V, idx t]
  · blk_point [iblk, V, idx t]
  · blk_point [iblk, V, idx t]

/-- The normalised rows of point `t`'s block are the reference's. -/
theorem normed (c : Dev nD) (t : Fin cfg0.N) (p : Fin 832) (q : Fin 1024) (r : Fin 66560) (hr : r.val = t.val * 832 + p.val) :
    k0_pay3 (F := Ideal) (iblk m c 0 t) (iblk m c 1 t) (View.ld (iblk m c 3 t) (Rect.unit ![0, 0] ![1024, 1024] inb_S1536x1024_S1024x1024_0_0))
        (iblk m c 2 t) (View.ld (iblk m c 3 t) (Rect.unit ![1024, 0] ![512, 1024] inb_S1536x1024_S512x1024_1024_0)) (iblk m c 4 t) (ix2 p q)
      = Cert.FfnReferenceIdeal.Read.val_main_v18 (F := Ideal) (X m c) (A m c) (B m c) (Wo m c) (G m c) (ix2 r q) := by
  have ht : t.val < 80 := lt_of_lt_of_eq t.isLt N_0
  pointwise [k0_pay3, Cert.FfnReferenceIdeal.Read.val_main_v18, Cert.FfnReferenceIdeal.Read.val_main_v17, Cert.FfnReferenceIdeal.Read.val_main_v16, Cert.FfnReferenceIdeal.Read.val_main_v15, Cert.FfnReferenceIdeal.Read.val_main_v14, Cert.FfnReferenceIdeal.Read.val_main_v13, Cert.FfnReferenceIdeal.Read.val_main_v12, Cert.FfnReferenceIdeal.Read.val_main_v11, Cert.FfnReferenceIdeal.Read.val_main_v10, Cert.FfnReferenceIdeal.Read.val_main_v9, Cert.FfnReferenceIdeal.Read.val_main_v8, Cert.FfnReferenceIdeal.Read.val_main_v7, Cert.FfnReferenceIdeal.Read.val_main_v6, Cert.FfnReferenceIdeal.Read.val_main_cst, Cert.FfnReferenceIdeal.Read.val_main_cst_0, Cert.FfnReferenceIdeal.Read.val_main_cst_1]
  simp only [residual m c t p _ r hr]
  refine congrArg₂ (· * ·) rfl ?_
  blk_point [iblk, V, idx t]

/-- Chunk `k` of a hidden-layer weight, as the kernel's third-axis array holds it. -/
theorem chunk1 (c : Dev nD) (t : Fin cfg0.N) (k : Fin 11) (l : Fin 1024) (j : Fin 256) :
    (iblk m c 5 t : FVec Ideal S11x1024x256 .bf16) (ix3 k l j) = W1 m c (ix2 l ⟨k.val * 256 + j.val, by omega⟩) := by
  blk_point [iblk, V, idx t]

theorem chunk3 (c : Dev nD) (t : Fin cfg0.N) (k : Fin 11) (l : Fin 1024) (j : Fin 256) :
    (iblk m c 6 t : FVec Ideal S11x1024x256 .bf16) (ix3 k l j) = W3 m c (ix2 l ⟨k.val * 256 + j.val, by omega⟩) := by
  blk_point [iblk, V, idx t]

theorem chunk2 (c : Dev nD) (t : Fin cfg0.N) (k : Fin 11) (j : Fin 256) (q : Fin 1024) :
    (iblk m c 7 t : FVec Ideal S11x256x1024 .bf16) (ix3 k j q) = W2 m c (ix2 ⟨k.val * 256 + j.val, by omega⟩ q) := by
  blk_point [iblk, V, idx t]

/-- The accumulator's first contents are the residual rows. -/
theorem pay4 (a : FVec Ideal S832x1024 .f32) (b : FVec Ideal S832x1024 .bf16) (w : FVec Ideal S1024x1024 .bf16) (d : FVec Ideal S832x512 .f32) (v : FVec Ideal S512x1024 .bf16)
    (p : Fin 832) (q : Fin 1024) : k0_pay4 (F := Ideal) a b w d v (ix2 p q) = k0_pay2 (F := Ideal) a b w d v (ix2 p q) := by
  pointwise [k0_pay4]

/-- Window 8 at point `t` holds the reference's rows. -/
theorem point8 (c : Dev nD) (t : Fin cfg0.N) (p : Fin 832) (q : Fin 1024) (r : Fin 66560) (hr : r.val = t.val * 832 + p.val) :
    outsAt0 m c t (ix2 p q)
      = Cert.FfnReferenceIdeal.Read.val_main_v24 (F := Ideal) (X m c) (A m c) (B m c) (Wo m c) (G m c) (W1 m c) (W3 m c) (W2 m c) (ix2 r q) := by
  unfold outsAt0
  frame_out
  let h : Fin 2816 → EReal := fun j =>
    Cert.FfnReferenceIdeal.Read.val_main_v22 (F := Ideal) (X m c) (A m c) (B m c) (Wo m c) (G m c) (W1 m c) (W3 m c) (ix2 r j) * W2 m c (ix2 j q)
  let term : ℕ → EReal := fun k => if hk : k < 11 then ∑ j : Fin 256, h ⟨k * 256 + j.val, by omega⟩ else 0
  refine (loop_read c _ _ _ _ _ _ _ _ _ _ _ _ _ _ _ _ _ _ _ _ _ _ _ _ p q term ?_ 11 le_rfl).trans ?_
  · intro k
    show _ = dite _ _ _
    rw [dif_pos k.isLt]
    refine Finset.sum_congr rfl fun j _ => ?_
    show _ = _ * _
    rw [ref_hidden, chunk2]
    refine congrArg₂ (· * ·) (congrArg₂ gated (Finset.sum_congr rfl fun l _ => ?_) (Finset.sum_congr rfl fun l _ => ?_)) rfl
    · rw [chunk1, ← normed m c t p l r hr]
      rfl
    · rw [chunk3, ← normed m c t p l r hr]
      rfl
  · have e : ∑ k ∈ Finset.range 11, term k = ∑ j : Fin 2816, h j := by
      rw [← Fin.sum_univ_eq_sum_range]
      refine (Finset.sum_congr rfl fun k _ => ?_).trans (Fin.sum_mul_add_fin 11 256 h)
      show dite _ _ _ = _
      rw [dif_pos k.isLt]
    rw [e]
    have e24 : Cert.FfnReferenceIdeal.Read.val_main_v24 (F := Ideal) (X m c) (A m c) (B m c) (Wo m c) (G m c) (W1 m c) (W3 m c) (W2 m c) (ix2 r q)
        = Cert.FfnReferenceIdeal.Read.val_main_v5 (F := Ideal) (X m c) (A m c) (B m c) (Wo m c) (ix2 r q)
          + Cert.FfnReferenceIdeal.Read.val_main_v23 (F := Ideal) (X m c) (A m c) (B m c) (Wo m c) (G m c) (W1 m c) (W3 m c) (W2 m c) (ix2 r q) := by
      pointwise [Cert.FfnReferenceIdeal.Read.val_main_v24]
    rw [e24, Cert.FfnReferenceIdeal.Read.val_main_v23_apply]
    refine congrArg₂ (· + ·) ((pay4 _ _ _ _ _ p q).trans (residual m c t p q r hr)) ?_
    refine Finset.sum_congr rfl fun j _ => ?_
    refine congrArg₂ (· * ·) ?_ ?_
    · congr 1; funext a; match a with | ⟨0, _⟩ => rfl | ⟨1, _⟩ => rfl
    · congr 1; funext a; match a with | ⟨0, _⟩ => rfl | ⟨1, _⟩ => rfl

theorem final8 (c : Dev nD) : (dats m 0 c).arrAt 8 (cfgs 0).N
    = Cert.FfnReferenceIdeal.Read.val_main_v24 (F := Ideal) (X m c) (A m c) (B m c) (Wo m c) (G m c) (W1 m c) (W3 m c) (W2 m c) := by
  refine (dats m 0 c).arrAt_eq_of_covers 8 _ (by decide +kernel) fun t hf y => ?_
  have ht : t.val < 80 := lt_of_lt_of_eq t.isLt N_0
  have hy0 : (y 0).val < 832 := (y 0).isLt
  have hy1 : (y 1).val < 1024 := (y 1).isLt
  blk_simp
  rw [after0_8]
  have e : (((cfg0.win 8).blk t).view.emb y : S66560x1024.Idx) = ix2 (⟨t.val * 832 + (y 0).val, by omega⟩ : Fin 66560) (⟨(y 1).val, hy1⟩ : Fin 1024) := by
    blk_ext [idx t]
  rw [e]
  refine Eq.trans (congrArg (outsAt0 m c t) (eq_ix2 y)) ?_
  exact point8 m c t ⟨(y 0).val, hy0⟩ ⟨(y 1).val, hy1⟩ ⟨t.val * 832 + (y 0).val, by omega⟩ rfl

end Cert.FfnValue

end
-- ==== Proof.FfnClaims.lean ====
/- The claims about the output projection and feed-forward part after an even layer. -/
module

public import proofs.«01_k».proof.Defs
public import proofs.«01_k».proof.Proof.Gen.FfnKernel.Frame
public import proofs.«01_k».proof.Proof.FfnValue
public import Idealize.ShloMosaic.Adequacy
public import Idealize.ShloMosaic.Init

@[expose] public section

noncomputable section

namespace Cert.FfnClaims

open Idealize.ShloMosaic Idealize.SL.Sem

theorem frame_kernel : Cert.quiescent_FfnKernel (hFfnKernel := Cert.FfnKernel.Gen.facts) := fun m ρ _ => Cert.FfnKernel.Gen.frame m ρ

theorem frame_ideal : Cert.quiescent_FfnKernelIdeal (hFfnKernelIdeal := Cert.FfnKernelIdeal.Gen.facts) := fun m ρ _ => Cert.FfnKernelIdeal.Gen.frame m ρ

theorem frame_reference : Cert.quiescent_FfnReferenceIdeal (hFfnReferenceIdeal := Cert.FfnReferenceIdeal.Gen.facts) := by
  intro m g _
  exact (θ_run Cert.FfnReferenceIdeal.defs _ _).mono (fun r h => ⟨fun c => (h c).2, sem_eq_zero_of_no_sems (by decide) r.2⟩)
    (Cert.FfnReferenceIdeal.Value.run (F := Ideal) m g)

theorem algebraic : Cert.algebraic_FfnKernelIdeal_FfnReferenceIdeal (hFfnKernelIdeal := Cert.FfnKernelIdeal.Gen.facts)
    (hFfnReferenceIdeal := Cert.FfnReferenceIdeal.Gen.facts) := by
  pair_intro
  · run_from Cert.FfnKernelIdeal.Gen.run_main m g
  · run_from Cert.FfnReferenceIdeal.Value.run m' g'
    · obtain ⟨h0, h1, h2, h3, h4, h5, h6, h7⟩ := hagree c
      refine Eq.trans ?_ (Cert.FfnValue.final8 m c).symm
      refine (Cert.FfnReferenceIdeal.Read.val_main_v24_eq m' c).trans ?_
      refine congr (congr (congr (congr (congr (congr (congr (congrArg (Cert.FfnReferenceIdeal.Read.val_main_v24 (F := Ideal)) h0) h1) h2) h3) h4) h5) h6) h7

end Cert.FfnClaims

end
-- ==== Proof.InValue.lean ====
/- The even layer's input projection: what its output arrays, and the convolution's last rows, hold after the run. -/
module

public import proofs.«01_k».proof.Proof.Gen.InKernelIdeal.Frame
public import proofs.«01_k».proof.Proof.Gen.InReferenceIdeal.Read
public import Idealize.ShloMosaic.Lib.Pipeline.ValueKit
public import Idealize.ShloMosaic.Lib.Routing.OpsSet

@[expose] public section

set_option maxRecDepth 16384

noncomputable section

namespace Cert.InValue

open Idealize.ShloMosaic Idealize.ShloMosaic.TcCoe Idealize.SL.Sem
open Idealize.ShloMosaic.Pipeline (Dat)
open Cert.InKernelIdeal Cert.InKernelIdeal.Gen
open scoped BigOperators

variable (m : (ℓ : Loc nD τ sig) → Buf (Elt Ideal) ℓ)

/-- Columns `0 … 15` of a 128-column array written by a scatter at column word 0. -/
theorem scatter_cols (x0 : FVec Ideal S1024x128 .f32) (idx : IVec S1 32) (hidx : idx (ix1 0) = 0#32) (upd : FVec Ideal S1024x16 .f32)
    (k : Fin 1024) (j : Fin 128) :
    Host.scatter scatter_S1024x128_S1_S1024x16_01_n_1_0 (fun _ b => b) x0 idx upd (ix2 k j)
      = if h : j.val < 16 then upd (ix2 k ⟨j.val, h⟩) else x0 (ix2 k j) := by
  have lands : ∀ q : S1024x16.Idx, scatter_S1024x128_S1_S1024x16_01_n_1_0.resultIdx? q idx = some (ix2 k j) ↔ (q 0).val = k.val ∧ (q 1).val = j.val := by
    intro q
    have s1 : scatter_S1024x128_S1_S1024x16_01_n_1_0.start q idx 1 = 0 := by
      unfold ScatterDims.start
      rw [dif_pos (by decide)]
      have e : scatter_S1024x128_S1_S1024x16_01_n_1_0.siIdx q ⟨List.idxOf 1 scatter_S1024x128_S1_S1024x16_01_n_1_0.scatterDimsToOperandDims, by decide⟩ = ix1 0 := by
        funext b; match b with | ⟨0, _⟩ => exact Subsingleton.elim (α := Fin 1) _ _
      rw [e, hidx]; rfl
    have s0 : scatter_S1024x128_S1_S1024x16_01_n_1_0.start q idx 0 = 0 := by
      unfold ScatterDims.start
      rw [dif_neg (by decide)]
    have w0 : scatter_S1024x128_S1_S1024x16_01_n_1_0.window q 0 = (q 0).val := by
      unfold ScatterDims.window; rw [dif_pos (by decide)]; rfl
    have w1 : scatter_S1024x128_S1_S1024x16_01_n_1_0.window q 1 = (q 1).val := by
      unfold ScatterDims.window; rw [dif_pos (by decide)]; rfl
    refine (Routing.resultIdx?_ix2 _ q idx k j).trans ?_
    rw [s0, s1, w0, w1]
    omega
  split
  next h =>
    exact Routing.scatter_set_hit _ x0 idx upd _ _ (fun q hq => congrArg upd (by
      obtain ⟨h0, h1⟩ := (lands q).1 hq
      rw [eq_ix2 q]; exact congrArg₂ ix2 (Fin.ext h0) (Fin.ext h1))) (ix2 k ⟨j.val, h⟩) ((lands _).2 ⟨rfl, rfl⟩)
  next h =>
    exact Routing.scatter_set_miss _ x0 idx upd _ fun q hq => h (by
      obtain ⟨h0, h1⟩ := (lands q).1 hq
      have := (q 1).isLt
      exact lt_of_eq_of_lt h1.symm this)

/-- The gates' 16 weight columns, padded with zero columns to 128. -/
def gateW (W : FVec Ideal S1024x4624 .f32) : FVec Ideal S1024x128 .f32 :=
  Host.scatter scatter_S1024x128_S1_S1024x16_01_n_1_0 (fun _ b => b) (broadcastInDim S1024x128 ![] bcast_S_S1024x128 (constant (F := Ideal) S_ .f32 0x00000000#32))
    (broadcastInDim S1 ![] bcast_S_S1 (constantI S_ 32 0#32)) (extractStridedSlice S1024x16 ![0, 4096] W slices_S1024x4624_S1024x16_0_4096)

theorem gateW_apply (W : FVec Ideal S1024x4624 .f32) (k : Fin 1024) (j : Fin 128) :
    gateW W (ix2 k j) = if h : j.val < 16 then W (ix2 k ⟨4096 + j.val, by omega⟩) else (0 : EReal) := by
  unfold gateW
  rw [scatter_cols _ _ (by pointwise) _ k j]
  split
  · pointwise
    blk_ext []
  · pointwise

theorem V_v7 (c : Dev nD) : (V m c main_v7 : FVec Ideal S1024x4736 .bf16)
    = truncf .bf16 (concatenate S1024x4736 1
        [⟨S1024x4096, extractStridedSlice S1024x4096 ![0, 0] (m ((c : Thread nD τ).loc main_arg2)) slices_S1024x4624_S1024x4096_0_0⟩,
         ⟨S1024x128, gateW (m ((c : Thread nD τ).loc main_arg2))⟩,
         ⟨S1024x512, extractStridedSlice S1024x512 ![0, 4112] (m ((c : Thread nD τ).loc main_arg2)) slices_S1024x4624_S1024x512_0_4112⟩]
        concatenates_S1024x4096_S1024x128_S1024x512_S1024x4736_d1) bitsLt_bf16_f32 := by
  have cc : ∀ (a a' : FVec Ideal S1024x4096 .f32) (b b' : FVec Ideal S1024x128 .f32) (d d' : FVec Ideal S1024x512 .f32), a = a' → b = b' → d = d' →
      truncf .bf16 (concatenate S1024x4736 1 [⟨S1024x4096, a⟩, ⟨S1024x128, b⟩, ⟨S1024x512, d⟩] concatenates_S1024x4096_S1024x128_S1024x512_S1024x4736_d1) bitsLt_bf16_f32
        = truncf .bf16 (concatenate S1024x4736 1 [⟨S1024x4096, a'⟩, ⟨S1024x128, b'⟩, ⟨S1024x512, d'⟩] concatenates_S1024x4096_S1024x128_S1024x512_S1024x4736_d1) bitsLt_bf16_f32 := by
    rintro a _ b _ d _ rfl rfl rfl; rfl
  show StableHlo.after ([hostOps0].flatten) _ _ = _
  simp only [List.flatten_cons, List.flatten_nil, List.append_nil]
  after_results
  refine cc _ _ _ _ _ _ ?_ ?_ ?_
  · show StableHlo.after [] (HloOp.result _ _) (Proc.tc.devRef main_v4) = _
    after_results
  · show StableHlo.after [] (HloOp.result _ _) (Proc.tc.devRef main_v3) = _
    unfold gateW
    after_results
  · show StableHlo.after [] (HloOp.result _ _) (Proc.tc.devRef main_v5) = _
    after_results

/-- The packed weights: the weight's columns, with 112 zero columns between column 4111 and column 4112. -/
theorem packed (c : Dev nD) (k : Fin 1024) (j : Fin 4736) :
    V m c main_v7 (ix2 k j) = if h : j.val < 4112 then m ((c : Thread nD τ).loc main_arg2) (ix2 k ⟨j.val, by omega⟩)
      else if h : j.val < 4224 then (0 : EReal) else m ((c : Thread nD τ).loc main_arg2) (ix2 k ⟨j.val - 112, by omega⟩) := by
  rw [V_v7]
  generalize m ((c : Thread nD τ).loc main_arg2) = W
  pointwise
  by_cases h1 : j.val < 4096
  · rw [dif_pos h1, dif_pos (by omega)]
  · rw [dif_neg h1]
    by_cases h2 : j.val - 4096 < 128
    · rw [dif_pos h2, gateW_apply]
      by_cases h3 : j.val < 4112
      · rw [dif_pos h3, dif_pos (by show j.val - 4096 < 16; omega)]
        blk_ext []
      · refine (dif_neg (show ¬ j.val - 4096 < 16 by omega)).trans ?_
        rw [dif_neg h3, dif_pos (by omega)]
    · rw [dif_neg h2, dif_neg (by omega), dif_neg (by omega)]
      blk_ext []

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val % 5, t.val / 5] :=
  (by decide +kernel : ∀ t : Fin grid0.N, _)

theorem V_v8 (c : Dev nD) : (V m c main_v8 : FVec Ideal S1x1024 .f32) = shapeCast S1x1024 (m ((c : Thread nD τ).loc main_arg1)) shapeCasts_S1024_S1x1024 := by
  show StableHlo.after ([hostOps0].flatten) _ _ = _
  simp only [List.flatten_cons, List.flatten_nil, List.append_nil]
  after_results
  rfl

theorem V_x (c : Dev nD) : V m c main_arg0 = m ((c : Thread nD τ).loc main_arg0) := by
  show StableHlo.after ([hostOps0].flatten) _ _ = _
  simp only [List.flatten_cons, List.flatten_nil, List.append_nil]
  after_results

/-- The normalised rows of point `t`'s block are the reference's. -/
theorem xn (c : Dev nD) (t : Fin cfg0.N) (p : Fin 832) (k : Fin 1024) (r : Fin 66560) (hr : r.val = t.val * 832 + p.val) :
    k0_pay2 (F := Ideal) (iblk m c 0 t) (iblk m c 1 t) (ix2 p k)
      = Cert.InReferenceIdeal.Read.val_main_v12 (F := Ideal) (m ((c : Thread nD τ).loc main_arg0)) (m ((c : Thread nD τ).loc main_arg1)) (ix2 r k) := by
  pointwise [k0_pay2, Cert.InReferenceIdeal.Read.val_main_v12, Cert.InReferenceIdeal.Read.val_main_v11, Cert.InReferenceIdeal.Read.val_main_v10, Cert.InReferenceIdeal.Read.val_main_v9, Cert.InReferenceIdeal.Read.val_main_v8, Cert.InReferenceIdeal.Read.val_main_v7, Cert.InReferenceIdeal.Read.val_main_v6, Cert.InReferenceIdeal.Read.val_main_v5, Cert.InReferenceIdeal.Read.val_main_v4, Cert.InReferenceIdeal.Read.val_main_v3, Cert.InReferenceIdeal.Read.val_main_v2, Cert.InReferenceIdeal.Read.val_main_v1, Cert.InReferenceIdeal.Read.val_main_v0, Cert.InReferenceIdeal.Read.val_main_cst, Cert.InReferenceIdeal.Read.val_main_cst_0, Cert.InReferenceIdeal.Read.val_main_cst_1]
  blk_point [iblk, V_x, idx t]
  refine (congrFun (V_v8 m c) _).trans ?_
  pointwise
  blk_ext [idx t]

abbrev X (c : Dev nD) := m ((c : Thread nD τ).loc main_arg0)
abbrev G (c : Dev nD) := m ((c : Thread nD τ).loc main_arg1)
abbrev W (c : Dev nD) := m ((c : Thread nD τ).loc main_arg2)

theorem ref_dot (c : Dev nD) (r : Fin 66560) (j : Fin 4624) :
    Cert.InReferenceIdeal.Read.val_main_v13 (F := Ideal) (X m c) (G m c) (W m c) (ix2 r j)
      = ∑ k : Fin 1024, Cert.InReferenceIdeal.Read.val_main_v12 (F := Ideal) (X m c) (G m c) (ix2 r k) * (W m c) (ix2 k j) := by
  rw [Cert.InReferenceIdeal.Read.val_main_v13_apply]
  refine Finset.sum_congr rfl fun k _ => ?_
  congr 2 <;> (funext a; match a with | ⟨0, _⟩ => rfl | ⟨1, _⟩ => rfl)

/-- A product of the normalised block with the packed column that carries weight column `j` is the reference's entry. -/
theorem core (c : Dev nD) (t : Fin cfg0.N) (p : Fin 832) (q : Fin 4736) (r : Fin 66560) (j : Fin 4624)
    (hr : r.val = t.val * 832 + p.val) (hq : q.val < 4112 ∧ j.val = q.val ∨ 4224 ≤ q.val ∧ j.val + 112 = q.val) :
    ∑ k : Fin 1024, k0_pay2 (F := Ideal) (iblk m c 0 t) (iblk m c 1 t) (ix2 p k) * (iblk m c 2 t : FVec Ideal S1024x4736 .bf16) (ix2 k q)
      = Cert.InReferenceIdeal.Read.val_main_v13 (F := Ideal) (X m c) (G m c) (W m c) (ix2 r j) := by
  rw [ref_dot]
  refine Finset.sum_congr rfl fun k _ => ?_
  have e : (iblk m c 2 t : FVec Ideal S1024x4736 .bf16) (ix2 k q) = V m c main_v7 (ix2 k q) := by
    unfold iblk
    blk_simp [idx t]
    blk_ext [idx t]
  rw [xn m c t p k r hr, e, packed]
  rcases hq with ⟨h, hj⟩ | ⟨h, hj⟩
  · rw [dif_pos h]; congr 2; exact congrArg (ix2 k) (Fin.ext hj.symm)
  · rw [dif_neg (by omega), dif_neg (by omega)]; congr 2; exact congrArg (ix2 k) (Fin.ext (by show q.val - 112 = j.val; omega))

theorem core_zero (c : Dev nD) (t : Fin cfg0.N) (p : Fin 832) (q : Fin 4736) (hq : 4112 ≤ q.val ∧ q.val < 4224) :
    ∑ k : Fin 1024, k0_pay2 (F := Ideal) (iblk m c 0 t) (iblk m c 1 t) (ix2 p k) * (iblk m c 2 t : FVec Ideal S1024x4736 .bf16) (ix2 k q) = 0 := by
  refine Finset.sum_eq_zero fun k _ => ?_
  have e : (iblk m c 2 t : FVec Ideal S1024x4736 .bf16) (ix2 k q) = V m c main_v7 (ix2 k q) := by
    unfold iblk
    blk_simp [idx t]
    blk_ext [idx t]
  rw [e, packed, dif_neg (by omega), dif_pos (by omega)]
  exact mul_zero _

/-- The gates' array of the reference: 16 columns of the product, then zeros. -/
theorem ref_gate (c : Dev nD) (r : Fin 66560) (j : Fin 128) :
    Cert.InReferenceIdeal.Read.val_main_v18 (F := Ideal) (X m c) (G m c) (W m c) (ix2 r j)
      = if h : j.val < 16 then Cert.InReferenceIdeal.Read.val_main_v13 (F := Ideal) (X m c) (G m c) (W m c) (ix2 r ⟨4096 + j.val, by omega⟩) else (0 : EReal) := by
  pointwise [Cert.InReferenceIdeal.Read.val_main_v18]
  split
  · rw [Cert.InReferenceIdeal.Read.val_main_v16_apply]
    blk_ext []
  · rw [Cert.InReferenceIdeal.Read.val_main_v17_apply, Cert.InReferenceIdeal.Read.val_main_cst_2_apply]
    pointwise

theorem point3 (c : Dev nD) (t : Fin cfg0.N) (y : S832x3072.Idx) :
    out0_3 (iblk m c 0 t) (iblk m c 1 t) (iblk m c 2 t) y
      = Cert.InReferenceIdeal.Read.val_main_v19 (F := Ideal) (X m c) (G m c) (W m c) (((cfg0.win 3).blk t).view.emb y) := by
  have ht : t.val < 80 := lt_of_lt_of_eq t.isLt N_0
  have hy0 : (y 0).val < 832 := (y 0).isLt
  have hy1 : (y 1).val < 3072 := (y 1).isLt
  refine Eq.trans (b := ∑ k : Fin 1024, k0_pay2 (F := Ideal) (iblk m c 0 t) (iblk m c 1 t) (ix2 ⟨(y 0).val, hy0⟩ k)
      * (iblk m c 2 t : FVec Ideal S1024x4736 .bf16) (ix2 k ⟨0 + (y 1).val, by omega⟩)) ?_ ?_
  · canon_tiles x h
    all_goals (open_payloads; pointwise; blk_point [idx t])
  · refine (core m c t ⟨(y 0).val, hy0⟩ ⟨0 + (y 1).val, by omega⟩ ⟨t.val * 832 + (y 0).val, by omega⟩ ⟨(y 1).val, by omega⟩ rfl
      (.inl ⟨by show 0 + (y 1).val < 4112; omega, by show (y 1).val = 0 + (y 1).val; omega⟩)).trans ?_
    rw [Cert.InReferenceIdeal.Read.val_main_v19_apply]
    blk_ext [idx t]

theorem point4 (c : Dev nD) (t : Fin cfg0.N) (y : S832x1024.Idx) :
    out0_4 (iblk m c 0 t) (iblk m c 1 t) (iblk m c 2 t) y
      = Cert.InReferenceIdeal.Read.val_main_v20 (F := Ideal) (X m c) (G m c) (W m c) (((cfg0.win 4).blk t).view.emb y) := by
  have ht : t.val < 80 := lt_of_lt_of_eq t.isLt N_0
  have hy0 : (y 0).val < 832 := (y 0).isLt
  have hy1 : (y 1).val < 1024 := (y 1).isLt
  refine Eq.trans (b := ∑ k : Fin 1024, k0_pay2 (F := Ideal) (iblk m c 0 t) (iblk m c 1 t) (ix2 ⟨(y 0).val, hy0⟩ k)
      * (iblk m c 2 t : FVec Ideal S1024x4736 .bf16) (ix2 k ⟨3072 + (y 1).val, by omega⟩)) ?_ ?_
  · canon_tiles x h
    all_goals (open_payloads; pointwise; blk_point [idx t])
  · refine (core m c t ⟨(y 0).val, hy0⟩ ⟨3072 + (y 1).val, by omega⟩ ⟨t.val * 832 + (y 0).val, by omega⟩ ⟨3072 + (y 1).val, by omega⟩ rfl
      (.inl ⟨by show 3072 + (y 1).val < 4112; omega, rfl⟩)).trans ?_
    rw [Cert.InReferenceIdeal.Read.val_main_v20_apply]
    blk_ext [idx t]

theorem point5 (c : Dev nD) (t : Fin cfg0.N) (y : S832x128.Idx) :
    out0_5 (iblk m c 0 t) (iblk m c 1 t) (iblk m c 2 t) y
      = Cert.InReferenceIdeal.Read.val_main_v18 (F := Ideal) (X m c) (G m c) (W m c) (((cfg0.win 5).blk t).view.emb y) := by
  have ht : t.val < 80 := lt_of_lt_of_eq t.isLt N_0
  have hy0 : (y 0).val < 832 := (y 0).isLt
  have hy1 : (y 1).val < 128 := (y 1).isLt
  refine Eq.trans (b := ∑ k : Fin 1024, k0_pay2 (F := Ideal) (iblk m c 0 t) (iblk m c 1 t) (ix2 ⟨(y 0).val, hy0⟩ k)
      * (iblk m c 2 t : FVec Ideal S1024x4736 .bf16) (ix2 k ⟨4096 + (y 1).val, by omega⟩)) ?_ ?_
  · canon_tiles x h
    all_goals (open_payloads; pointwise; blk_point [idx t])
  · have e : (((cfg0.win 5).blk t).view.emb y : S66560x128.Idx) = ix2 (⟨t.val * 832 + (y 0).val, by omega⟩ : Fin 66560) (⟨(y 1).val, hy1⟩ : Fin 128) := by
      blk_ext [idx t]
    rw [e, ref_gate]
    by_cases h : (y 1).val < 16
    · rw [dif_pos h]
      exact core m c t ⟨(y 0).val, hy0⟩ ⟨4096 + (y 1).val, by omega⟩ ⟨t.val * 832 + (y 0).val, by omega⟩ ⟨4096 + (y 1).val, by omega⟩ rfl
        (.inl ⟨by show 4096 + (y 1).val < 4112; omega, rfl⟩)
    · rw [dif_neg h]
      exact core_zero m c t ⟨(y 0).val, hy0⟩ ⟨4096 + (y 1).val, by omega⟩ ⟨by show 4112 ≤ 4096 + (y 1).val; omega, by show 4096 + (y 1).val < 4224; omega⟩

theorem point6 (c : Dev nD) (t : Fin cfg0.N) (y : S832x512.Idx) :
    out0_6 (iblk m c 0 t) (iblk m c 1 t) (iblk m c 2 t) y
      = Cert.InReferenceIdeal.Read.val_main_v22 (F := Ideal) (X m c) (G m c) (W m c) (((cfg0.win 6).blk t).view.emb y) := by
  have ht : t.val < 80 := lt_of_lt_of_eq t.isLt N_0
  have hy0 : (y 0).val < 832 := (y 0).isLt
  have hy1 : (y 1).val < 512 := (y 1).isLt
  refine Eq.trans (b := ∑ k : Fin 1024, k0_pay2 (F := Ideal) (iblk m c 0 t) (iblk m c 1 t) (ix2 ⟨(y 0).val, hy0⟩ k)
      * (iblk m c 2 t : FVec Ideal S1024x4736 .bf16) (ix2 k ⟨4224 + (y 1).val, by omega⟩)) ?_ ?_
  · canon_tiles x h
    all_goals (open_payloads; pointwise; blk_point [idx t])
  · refine (core m c t ⟨(y 0).val, hy0⟩ ⟨4224 + (y 1).val, by omega⟩ ⟨t.val * 832 + (y 0).val, by omega⟩ ⟨4112 + (y 1).val, by omega⟩ rfl
      (.inr ⟨by show 4224 ≤ 4224 + (y 1).val; omega, by show 4112 + (y 1).val + 112 = 4224 + (y 1).val; omega⟩)).trans ?_
    rw [Cert.InReferenceIdeal.Read.val_main_v22_apply, Cert.InReferenceIdeal.Read.val_main_v21_apply, Cert.InReferenceIdeal.Read.val_main_v15_apply, Cert.InReferenceIdeal.Read.val_main_v14_apply]
    have e1 : ((t.val % 5 * 832 + (y 0).val) * 8192 + (t.val / 5 * 512 + (y 1).val)) / 8192 = t.val % 5 * 832 + (y 0).val := by omega
    have e2 : ((t.val % 5 * 832 + (y 0).val) * 8192 + (t.val / 5 * 512 + (y 1).val)) / 512 % 16 = t.val / 5 := by omega
    have e3 : ((t.val % 5 * 832 + (y 0).val) * 8192 + (t.val / 5 * 512 + (y 1).val)) % 512 = (y 1).val := by omega
    blk_ext [idx t]
    all_goals (rw [e1, e2, e3]; omega)

theorem final3 (c : Dev nD) : (dats m 0 c).arrAt 3 (cfgs 0).N = Cert.InReferenceIdeal.Read.val_main_v19 (F := Ideal) (X m c) (G m c) (W m c) := by
  refine (dats m 0 c).arrAt_eq_of_covers 3 _ (by decide +kernel) fun t hf y => ?_
  blk_simp
  rw [after0_3]
  exact point3 m c t y

theorem final4 (c : Dev nD) : (dats m 0 c).arrAt 4 (cfgs 0).N = Cert.InReferenceIdeal.Read.val_main_v20 (F := Ideal) (X m c) (G m c) (W m c) := by
  refine (dats m 0 c).arrAt_eq_of_covers 4 _ (by decide +kernel) fun t hf y => ?_
  blk_simp
  rw [after0_4]
  exact point4 m c t y

theorem final5 (c : Dev nD) : (dats m 0 c).arrAt 5 (cfgs 0).N = Cert.InReferenceIdeal.Read.val_main_v18 (F := Ideal) (X m c) (G m c) (W m c) := by
  refine (dats m 0 c).arrAt_eq_of_covers 5 _ (by decide +kernel) fun t hf y => ?_
  blk_simp
  rw [after0_5]
  exact point5 m c t y

theorem final6 (c : Dev nD) : (dats m 0 c).arrAt 6 (cfgs 0).N = Cert.InReferenceIdeal.Read.val_main_v22 (F := Ideal) (X m c) (G m c) (W m c) := by
  refine (dats m 0 c).arrAt_eq_of_covers 6 _ (by decide +kernel) fun t hf y => ?_
  blk_simp
  rw [after0_6]
  exact point6 m c t y

/-- The convolution's last rows, after the lines that follow the region: the last three rows of each sequence. -/
theorem tail (c : Dev nD) : (Pipeline.afterTail₀ cfgs (dats m) 0 (V0 m) [hostOps1] c main_v11 : FVec Ideal S16x3x3072 .f32)
    = Cert.InReferenceIdeal.Read.val_main_v25 (F := Ideal) (X m c) (G m c) (W m c) := by
  have e : Pipeline.withArrays spec0 c (V0 m c) (fun w => (dats m 0 c).arrAt w (cfgs 0).N) (Proc.devRef .tc main_v9_0)
      = Cert.InReferenceIdeal.Read.val_main_v19 (F := Ideal) (X m c) (G m c) (W m c) :=
    (Pipeline.withArrays_arr spec0 (by decide) c (V0 m c) _ 3).trans (final3 m c)
  unfold Pipeline.afterTail₀
  simp only [List.flatten_cons, List.flatten_nil, List.append_nil]
  after_results
  have cc : ∀ (a a' : FVec Ideal S66560x3072 .f32), a = a' →
      extractStridedSlice S16x3x3072 ![0, 4093, 0] (shapeCast S16x4160x3072 a shapeCasts_S66560x3072_S16x4160x3072) slices_S16x4160x3072_S16x3x3072_0_4093_0
        = extractStridedSlice S16x3x3072 ![0, 4093, 0] (shapeCast S16x4160x3072 a' shapeCasts_S66560x3072_S16x4160x3072) slices_S16x4160x3072_S16x3x3072_0_4093_0 := by
    rintro a _ rfl; rfl
  unfold Cert.InReferenceIdeal.Read.val_main_v25 Cert.InReferenceIdeal.Read.val_main_v24 Cert.InReferenceIdeal.Read.val_main_v23
  unfold Cert.InReferenceIdeal.Read.val_main_v19 at e
  exact cc _ _ e

/-- The gain is left as it was. -/
theorem kept_gain (c : Dev nD) : Pipeline.afterTail₀ cfgs (dats m) 0 (V0 m) [hostOps1] c main_arg1 = m ((c : Thread nD τ).loc main_arg1) := by
  unfold Pipeline.afterTail₀
  simp only [List.flatten_cons, List.flatten_nil, List.append_nil]
  after_results
  refine (Pipeline.withArrays_of_ne spec0 c (V0 m c) _ main_arg1 (by decide)).trans ?_
  show StableHlo.after ([hostOps0].flatten) _ _ = _
  simp only [List.flatten_cons, List.flatten_nil, List.append_nil]
  after_results

/-- The weight is left as it was. -/
theorem kept (c : Dev nD) : Pipeline.afterTail₀ cfgs (dats m) 0 (V0 m) [hostOps1] c main_arg2 = m ((c : Thread nD τ).loc main_arg2) := by
  unfold Pipeline.afterTail₀
  simp only [List.flatten_cons, List.flatten_nil, List.append_nil]
  after_results
  refine (Pipeline.withArrays_of_ne spec0 c (V0 m c) _ main_arg2 (by decide)).trans ?_
  show StableHlo.after ([hostOps0].flatten) _ _ = _
  simp only [List.flatten_cons, List.flatten_nil, List.append_nil]
  after_results

end Cert.InValue

end
-- ==== Proof.InClaims.lean ====
/- The claims about the even layer's input projection. -/
module

public import proofs.«01_k».proof.Defs
public import proofs.«01_k».proof.Proof.Gen.InKernel.Frame
public import proofs.«01_k».proof.Proof.InValue
public import Idealize.ShloMosaic.Adequacy
public import Idealize.ShloMosaic.Init

@[expose] public section

noncomputable section

namespace Cert.InClaims

open Idealize.ShloMosaic Idealize.SL.Sem

theorem frame_kernel : Cert.quiescent_InKernel (hInKernel := Cert.InKernel.Gen.facts) := fun m ρ _ => Cert.InKernel.Gen.frame m ρ

theorem frame_ideal : Cert.quiescent_InKernelIdeal (hInKernelIdeal := Cert.InKernelIdeal.Gen.facts) := fun m ρ _ => Cert.InKernelIdeal.Gen.frame m ρ

theorem frame_reference : Cert.quiescent_InReferenceIdeal (hInReferenceIdeal := Cert.InReferenceIdeal.Gen.facts) := by
  intro m g _
  exact (θ_run Cert.InReferenceIdeal.defs _ _).mono (fun r h => ⟨fun c => (h c).2.2.2.2.2, sem_eq_zero_of_no_sems (by decide) r.2⟩)
    (Cert.InReferenceIdeal.Value.run (F := Ideal) m g)

theorem algebraic : Cert.algebraic_InKernelIdeal_InReferenceIdeal (hInKernelIdeal := Cert.InKernelIdeal.Gen.facts)
    (hInReferenceIdeal := Cert.InReferenceIdeal.Gen.facts) := by
  pair_intro
  · run_from Cert.InKernelIdeal.Gen.run_main m g
    · exact Cert.InValue.kept_gain m c
    · exact Cert.InValue.kept m c
  · run_from Cert.InReferenceIdeal.Value.run m' g'
    · exact (Cert.InValue.final3 m c).symm
    · exact (Cert.InValue.final4 m c).symm
    · exact (congrArg (fun w => Cert.InReferenceIdeal.Read.val_main_v18 (F := Ideal) (Cert.InValue.X m c) (Cert.InValue.G m c) w) (hagree c).2.2).trans
        (Cert.InValue.final5 m c).symm
    · exact (Cert.InValue.final6 m c).symm
    · exact (Cert.InValue.tail m c).symm

end Cert.InClaims

end
-- ==== Proof.FfnOddLoop.lean ====
/- The loop over the chunks of the hidden layer: what the accumulator holds after it. -/
module

public import proofs.«01_k».proof.Proof.Gen.FfnOddKernelIdeal.Frame
public import Idealize.ShloMosaic.Lib.Pipeline.ValueKit
public import Idealize.ShloMosaic.Lib.VecWindow
public import Idealize.ShloMosaic.Lib.WholeRead

@[expose] public section

set_option maxRecDepth 16384

noncomputable section

namespace Cert.FfnOddLoop

open Idealize.ShloMosaic Idealize.ShloMosaic.TcCoe Idealize.SL.Sem
open Idealize.ShloMosaic.Pipeline (Dat)
open Cert.FfnOddKernelIdeal Cert.FfnOddKernelIdeal.Gen
open scoped BigOperators

theorem off1 : ∀ k : Fin k0_t1_loop.trips, k0_off1 k = ![k.val, 0, 0] := by decide +kernel
theorem off2 : ∀ k : Fin k0_t1_loop.trips, k0_off2 k = ![k.val, 0, 0] := by decide +kernel
theorem trips : k0_t1_loop.trips = 11 := by decide +kernel

/-- One entry of one chunk's hidden part: the gate of `s`, times `u`. -/
def gated (s u : EReal) : EReal := s * Ideal.div 1 (1 + Ideal.exp (-s)) * u

theorem pay1 (n : FVec Ideal S832x1024 .bf16) (a b : FVec Ideal S1x1024x256 .bf16) (acc : FVec Ideal S832x1024 .f32) (w : FVec Ideal S1x256x1024 .bf16)
    (p : Fin 832) (q : Fin 1024) : k0_pay4 (F := Ideal) n a b acc w (ix2 p q)
      = acc (ix2 p q) + ∑ j : Fin 256, gated (∑ l : Fin 1024, n (ix2 p l) * a (ix3 0 l j)) (∑ l : Fin 1024, n (ix2 p l) * b (ix3 0 l j)) * w (ix3 0 j q) := by
  pointwise [k0_pay4]
  unfold gated
  simp only [zero_sub]

/-- A whole block of rows. -/
abbrev rows : Rect S832x1024 := Rect.unit (s := S832x1024) ![0, 0] S832x1024.size inb_S832x1024_S832x1024_0_0

/-- The chunk of a hidden-layer weight that pass `k` loads. -/
def loadUp (a : Memref sig .tc .vmem S11x1024x256 .bf16) (f : BufTy.Contents (Elt Ideal) a.view.ty) (k : Fin k0_t1_loop.trips) : FVec Ideal S1x1024x256 .bf16 :=
  View.readAt (Elt Ideal) a.view (Rect.unit (s := S11x1024x256) (k0_off1 k) ![1, 1024, 256] (k0_off1_inb k)).toLoadRect f

/-- The chunk of the second weight that pass `k` loads. -/
def loadDown (a : Memref sig .tc .vmem S11x256x1024 .bf16) (f : BufTy.Contents (Elt Ideal) a.view.ty) (k : Fin k0_t1_loop.trips) : FVec Ideal S1x256x1024 .bf16 :=
  View.readAt (Elt Ideal) a.view (Rect.unit (s := S11x256x1024) (k0_off2 k) ![1, 256, 1024] (k0_off2_inb k)).toLoadRect f

theorem loadUp_apply (a : Memref sig .tc .vmem S11x1024x256 .bf16) (ha : a.IsWhole) (x : FVec Ideal S11x1024x256 .bf16) (k : Fin k0_t1_loop.trips) (k' : Fin 11) (hk : k.val = k'.val)
    (l : Fin 1024) (j : Fin 256) : loadUp a (ha.unread x) k (ix3 0 l j) = x (ix3 k' l j) := by
  refine Eq.trans (ha.readAt_unread (Val := Elt Ideal) x _ _) ?_
  refine congrArg x (funext fun b => Fin.ext ?_)
  have h := off1 k
  match b with
  | ⟨0, _⟩ => show k0_off1 k 0 + 1 * 0 = k'.val; rw [h]; exact hk
  | ⟨1, _⟩ => show k0_off1 k 1 + 1 * l.val = l.val; rw [h]; show 0 + 1 * l.val = l.val; omega
  | ⟨2, _⟩ => show k0_off1 k 2 + 1 * j.val = j.val; rw [h]; show 0 + 1 * j.val = j.val; omega

theorem loadDown_apply (a : Memref sig .tc .vmem S11x256x1024 .bf16) (ha : a.IsWhole) (x : FVec Ideal S11x256x1024 .bf16) (k : Fin k0_t1_loop.trips) (k' : Fin 11) (hk : k.val = k'.val)
    (j : Fin 256) (q : Fin 1024) : loadDown a (ha.unread x) k (ix3 0 j q) = x (ix3 k' j q) := by
  refine Eq.trans (ha.readAt_unread (Val := Elt Ideal) x _ _) ?_
  refine congrArg x (funext fun b => Fin.ext ?_)
  have h := off2 k
  match b with
  | ⟨0, _⟩ => show k0_off2 k 0 + 1 * 0 = k'.val; rw [h]; exact hk
  | ⟨1, _⟩ => show k0_off2 k 1 + 1 * j.val = j.val; rw [h]; show 0 + 1 * j.val = j.val; omega
  | ⟨2, _⟩ => show k0_off2 k 2 + 1 * q.val = q.val; rw [h]; show 0 + 1 * q.val = q.val; omega

/-- The piece that one pass over the chunks stores. -/
theorem trip_piece (c : Dev nD) (i : grid0.Coords) (arg2 : Memref sig .tc .vmem S832x1024 .f32) (harg2 : arg2.IsWhole) (arg3 : Memref sig .tc .vmem S832x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S11x1024x256 .bf16) (harg6 : arg6.IsWhole) (arg7 : Memref sig .tc .vmem S11x1024x256 .bf16) (harg7 : arg7.IsWhole)
    (arg8 : Memref sig .tc .vmem S11x256x1024 .bf16) (harg8 : arg8.IsWhole) (arg9 : Memref sig .tc .vmem S832x1024 .f32) (harg9 : arg9.IsWhole)
    (X7 : BufTy.Contents (Elt Ideal) arg6.view.ty) (X8 : BufTy.Contents (Elt Ideal) arg7.view.ty) (X9 : BufTy.Contents (Elt Ideal) arg8.view.ty)
    (X12 : BufTy.Contents (Elt Ideal) scM0_1.view.ty) (k : Fin k0_t1_loop.trips) (g : BufTy.Contents (Elt Ideal) scM0_0.view.ty) :
    tripL_k0_t1 Variants.none c none i arg2 harg2 arg3 harg3 arg4 harg4 arg5 harg5 arg6 harg6 arg7 harg7 arg8 harg8 arg9 harg9 scM0_0 (Memref.isWhole_whole _) scM0_1 (Memref.isWhole_whole _) X7 X8 X9 X12 k g
      = [⟨rows, k0_pay4 (F := Ideal)
          (View.readAt (Elt Ideal) (View.whole cc0_scratch1) rows.toLoadRect X12) (loadUp arg6 X7 k) (loadUp arg7 X8 k)
          (View.readAt (Elt Ideal) (View.whole cc0_scratch0) rows.toLoadRect g) (loadDown arg8 X9 k)⟩] := by
  unfold tripL_k0_t1 trip_k0_t1 loadUp loadDown
  dsimp only

/-- The accumulator after `k` chunks: what it held at the loop's entry, plus the chunks' terms. -/
theorem loop_read (c : Dev nD) (i : grid0.Coords) (arg2 : Memref sig .tc .vmem S832x1024 .f32) (harg2 : arg2.IsWhole) (arg3 : Memref sig .tc .vmem S832x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S11x1024x256 .bf16) (harg6 : arg6.IsWhole) (arg7 : Memref sig .tc .vmem S11x1024x256 .bf16) (harg7 : arg7.IsWhole)
    (arg8 : Memref sig .tc .vmem S11x256x1024 .bf16) (harg8 : arg8.IsWhole) (arg9 : Memref sig .tc .vmem S832x1024 .f32) (harg9 : arg9.IsWhole)
    (x5 x6 : FVec Ideal S11x1024x256 .bf16) (x7 : FVec Ideal S11x256x1024 .bf16) (n : FVec Ideal S832x1024 .bf16) (s0 : FVec Ideal S832x1024 .f32)
    (p : Fin 832) (q : Fin 1024) (term : ℕ → EReal)
    (hterm : ∀ k : Fin 11, ∑ j : Fin 256, gated (∑ l : Fin 1024, n (ix2 p l) * x5 (ix3 k l j)) (∑ l : Fin 1024, n (ix2 p l) * x6 (ix3 k l j)) * x7 (ix3 k j q) = term k.val) :
    ∀ k : ℕ, k ≤ 11 → (View.whole cc0_scratch0).readCov (Val := Elt Ideal)
        (pb_k0_t1 Variants.none c none i arg2 harg2 arg3 harg3 arg4 harg4 arg5 harg5 arg6 harg6 arg7 harg7 arg8 harg8 arg9 harg9 scM0_0 (Memref.isWhole_whole _) scM0_1 (Memref.isWhole_whole _) (harg6.unread x5) (harg7.unread x6) (harg8.unread x7)
          ((View.whole cc0_scratch1).writes (Elt Ideal) (View.whole cc0_scratch1).junk [⟨rows, n⟩])
          ((View.whole cc0_scratch0).writes (Elt Ideal) (View.whole cc0_scratch0).junk [⟨rows, s0⟩]) k
          ++ [⟨rows, s0⟩])
        rows.toLoadRect (ix2 p q)
      = s0 (ix2 p q) + ∑ kk ∈ Finset.range k, term kk := by
  have hfull := fun (w : FVec Ideal S832x1024 .f32) L => View.readCov_full (s := S832x1024) (Val := Elt Ideal) (View.whole cc0_scratch0) inb_S832x1024_S832x1024_0_0 inb_S832x1024_S832x1024_0_0 w L
  have hnorm := View.readCov_full (s := S832x1024) (Val := Elt Ideal) (View.whole cc0_scratch1) inb_S832x1024_S832x1024_0_0 inb_S832x1024_S832x1024_0_0 n []
  intro k
  induction k with
  | zero =>
    intro _
    rw [pb_k0_t1.eq_1, List.nil_append, Finset.sum_range_zero, add_zero]
    exact congrFun (hfull s0 []) (ix2 p q)
  | succ k ih =>
    intro hk
    have hkt : k < k0_t1_loop.trips := by rw [trips]; omega
    rw [pb_k0_t1_succ (k := ⟨k, hkt⟩), trip_piece, List.append_assoc, List.singleton_append]
    refine (congrFun (hfull _ _) (ix2 p q)).trans ?_
    refine (pay1 _ _ _ _ _ p q).trans ?_
    rw [Finset.sum_range_succ, ← add_assoc]
    refine congrArg₂ (· + ·) ?_ ?_
    · refine Eq.trans ?_ (ih (by omega))
      unfold View.readCov
      rw [View.writes_append]
    · refine Eq.trans ?_ (hterm ⟨k, by omega⟩)
      refine Finset.sum_congr rfl fun j _ => ?_
      refine congrArg₂ (· * ·) (congrArg₂ gated (Finset.sum_congr rfl fun l _ => ?_) (Finset.sum_congr rfl fun l _ => ?_)) ?_
      · exact congrArg₂ (· * ·) (congrFun hnorm (ix2 p l)) (loadUp_apply _ _ _ _ _ rfl l j)
      · exact congrArg₂ (· * ·) (congrFun hnorm (ix2 p l)) (loadUp_apply _ _ _ _ _ rfl l j)
      · exact loadDown_apply _ _ _ _ _ rfl j q

end Cert.FfnOddLoop

end
-- ==== Proof.FfnOddValue.lean ====
/- The output projection and the feed-forward part, after an odd layer: what the result array holds after the run. -/
module

public import proofs.«01_k».proof.Proof.Gen.FfnOddKernelIdeal.Frame
public import proofs.«01_k».proof.Proof.Gen.FfnOddReferenceIdeal.Read
public import proofs.«01_k».proof.Proof.Gen.FfnOddReferenceIdeal.Run
public import proofs.«01_k».proof.Proof.FfnOddLoop
public import Idealize.ShloMosaic.Lib.Pipeline.ValueKit
public import Idealize.ShloMosaic.Lib.VecWindow
public import Idealize.ShloMosaic.Lib.WholeRead

@[expose] public section

set_option maxRecDepth 16384

noncomputable section

namespace Cert.FfnOddValue

open Idealize.ShloMosaic Idealize.ShloMosaic.TcCoe Idealize.SL.Sem
open Idealize.ShloMosaic.Pipeline (Dat)
open Cert.FfnOddKernelIdeal Cert.FfnOddKernelIdeal.Gen
open Cert.FfnOddLoop (gated loop_read)
open scoped BigOperators

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0, 0] ∧ win0_6.index t = ![0, 0, 0]
    ∧ win0_7.index t = ![t.val, 0] :=
  (by decide +kernel : ∀ t : Fin grid0.N, _)

abbrev X (c : Dev nD) : FVec Ideal S66560x1024 .f32 := m ((c : Thread nD τ).loc main_arg0)
abbrev A (c : Dev nD) : FVec Ideal S66560x1024 .bf16 := m ((c : Thread nD τ).loc main_arg1)
abbrev Wo (c : Dev nD) : FVec Ideal S1024x1024 .f32 := m ((c : Thread nD τ).loc main_arg2)
abbrev G (c : Dev nD) : FVec Ideal S1024 .f32 := m ((c : Thread nD τ).loc main_arg3)
abbrev W1 (c : Dev nD) : FVec Ideal S1024x2816 .f32 := m ((c : Thread nD τ).loc main_arg4)
abbrev W3 (c : Dev nD) : FVec Ideal S1024x2816 .f32 := m ((c : Thread nD τ).loc main_arg5)
abbrev W2 (c : Dev nD) : FVec Ideal S2816x1024 .f32 := m ((c : Thread nD τ).loc main_arg6)

theorem ref_hidden (c : Dev nD) (r : Fin 66560) (j : Fin 2816) :
    Cert.FfnOddReferenceIdeal.Read.val_main_v19 (F := Ideal) (X m c) (A m c) (Wo m c) (G m c) (W1 m c) (W3 m c) (ix2 r j)
      = gated (∑ l : Fin 1024, Cert.FfnOddReferenceIdeal.Read.val_main_v15 (F := Ideal) (X m c) (A m c) (Wo m c) (G m c) (ix2 r l) * W1 m c (ix2 l j))
          (∑ l : Fin 1024, Cert.FfnOddReferenceIdeal.Read.val_main_v15 (F := Ideal) (X m c) (A m c) (Wo m c) (G m c) (ix2 r l) * W3 m c (ix2 l j)) := by
  pointwise [Cert.FfnOddReferenceIdeal.Read.val_main_v19, Cert.FfnOddReferenceIdeal.Read.val_main_v17, Cert.FfnOddReferenceIdeal.Read.val_main_call0_v5, Cert.FfnOddReferenceIdeal.Read.val_main_call0_v4, Cert.FfnOddReferenceIdeal.Read.val_main_call0_v3, Cert.FfnOddReferenceIdeal.Read.val_main_call0_v2, Cert.FfnOddReferenceIdeal.Read.val_main_call0_v1, Cert.FfnOddReferenceIdeal.Read.val_main_call0_v0, Cert.FfnOddReferenceIdeal.Read.val_main_call0_cst, Cert.FfnOddReferenceIdeal.Read.val_main_call0_cst_0]
  refine (rfl : _ = gated (Cert.FfnOddReferenceIdeal.Read.val_main_v16 (F := Ideal) (X m c) (A m c) (Wo m c) (G m c) (W1 m c) (ix2 r j))
    (Cert.FfnOddReferenceIdeal.Read.val_main_v18 (F := Ideal) (X m c) (A m c) (Wo m c) (G m c) (W3 m c) (ix2 r j))).trans ?_
  congr 1
  · rw [Cert.FfnOddReferenceIdeal.Read.val_main_v16_apply]
    refine Finset.sum_congr rfl fun k _ => ?_
    congr 2 <;> (funext a; match a with | ⟨0, _⟩ => rfl | ⟨1, _⟩ => rfl)
  · rw [Cert.FfnOddReferenceIdeal.Read.val_main_v18_apply]
    refine Finset.sum_congr rfl fun k _ => ?_
    congr 2 <;> (funext a; match a with | ⟨0, _⟩ => rfl | ⟨1, _⟩ => rfl)

/-- The residual rows of point `t`'s block are the reference's. -/
theorem residual (c : Dev nD) (t : Fin cfg0.N) (p : Fin 832) (q : Fin 1024) (r : Fin 66560) (hr : r.val = t.val * 832 + p.val) :
    k0_pay1 (F := Ideal) (iblk m c 0 t) (iblk m c 1 t) (iblk m c 2 t) (ix2 p q)
      = Cert.FfnOddReferenceIdeal.Read.val_main_v2 (F := Ideal) (X m c) (A m c) (Wo m c) (ix2 r q) := by
  have ht : t.val < 80 := lt_of_lt_of_eq t.isLt N_0
  pointwise [k0_pay1, Cert.FfnOddReferenceIdeal.Read.val_main_v2, Cert.FfnOddReferenceIdeal.Read.val_main_v1, Cert.FfnOddReferenceIdeal.Read.val_main_v0]
  refine congrArg₂ (· + ·) ?_ (Finset.sum_congr rfl fun k _ => congrArg₂ (· * ·) ?_ ?_)
  · blk_point [iblk, V, idx t]
  · blk_point [iblk, V, idx t]
  · blk_point [iblk, V, idx t]

/-- The normalised rows of point `t`'s block are the reference's. -/
theorem normed (c : Dev nD) (t : Fin cfg0.N) (p : Fin 832) (q : Fin 1024) (r : Fin 66560) (hr : r.val = t.val * 832 + p.val) :
    k0_pay2 (F := Ideal) (iblk m c 0 t) (iblk m c 1 t) (iblk m c 2 t) (iblk m c 3 t) (ix2 p q)
      = Cert.FfnOddReferenceIdeal.Read.val_main_v15 (F := Ideal) (X m c) (A m c) (Wo m c) (G m c) (ix2 r q) := by
  have ht : t.val < 80 := lt_of_lt_of_eq t.isLt N_0
  pointwise [k0_pay2, Cert.FfnOddReferenceIdeal.Read.val_main_v15, Cert.FfnOddReferenceIdeal.Read.val_main_v14, Cert.FfnOddReferenceIdeal.Read.val_main_v13, Cert.FfnOddReferenceIdeal.Read.val_main_v12, Cert.FfnOddReferenceIdeal.Read.val_main_v11, Cert.FfnOddReferenceIdeal.Read.val_main_v10, Cert.FfnOddReferenceIdeal.Read.val_main_v9, Cert.FfnOddReferenceIdeal.Read.val_main_v8, Cert.FfnOddReferenceIdeal.Read.val_main_v7, Cert.FfnOddReferenceIdeal.Read.val_main_v6, Cert.FfnOddReferenceIdeal.Read.val_main_v5, Cert.FfnOddReferenceIdeal.Read.val_main_v4, Cert.FfnOddReferenceIdeal.Read.val_main_v3, Cert.FfnOddReferenceIdeal.Read.val_main_cst, Cert.FfnOddReferenceIdeal.Read.val_main_cst_0, Cert.FfnOddReferenceIdeal.Read.val_main_cst_1]
  simp only [residual m c t p _ r hr]
  refine congrArg₂ (· * ·) rfl ?_
  blk_point [iblk, V, idx t]

/-- Chunk `k` of a hidden-layer weight, as the kernel's third-axis array holds it. -/
theorem chunk1 (c : Dev nD) (t : Fin cfg0.N) (k : Fin 11) (l : Fin 1024) (j : Fin 256) :
    (iblk m c 4 t : FVec Ideal S11x1024x256 .bf16) (ix3 k l j) = W1 m c (ix2 l ⟨k.val * 256 + j.val, by omega⟩) := by
  blk_point [iblk, V, idx t]

theorem chunk3 (c : Dev nD) (t : Fin cfg0.N) (k : Fin 11) (l : Fin 1024) (j : Fin 256) :
    (iblk m c 5 t : FVec Ideal S11x1024x256 .bf16) (ix3 k l j) = W3 m c (ix2 l ⟨k.val * 256 + j.val, by omega⟩) := by
  blk_point [iblk, V, idx t]

theorem chunk2 (c : Dev nD) (t : Fin cfg0.N) (k : Fin 11) (j : Fin 256) (q : Fin 1024) :
    (iblk m c 6 t : FVec Ideal S11x256x1024 .bf16) (ix3 k j q) = W2 m c (ix2 ⟨k.val * 256 + j.val, by omega⟩ q) := by
  blk_point [iblk, V, idx t]

/-- The accumulator's first contents are the residual rows. -/
theorem pay3 (a : FVec Ideal S832x1024 .f32) (b : FVec Ideal S832x1024 .bf16) (w : FVec Ideal S1024x1024 .bf16)
    (p : Fin 832) (q : Fin 1024) : k0_pay3 (F := Ideal) a b w (ix2 p q) = k0_pay1 (F := Ideal) a b w (ix2 p q) := by
  pointwise [k0_pay3]

/-- Window 7 at point `t` holds the reference's rows. -/
theorem point7 (c : Dev nD) (t : Fin cfg0.N) (p : Fin 832) (q : Fin 1024) (r : Fin 66560) (hr : r.val = t.val * 832 + p.val) :
    outsAt0 m c t (ix2 p q)
      = Cert.FfnOddReferenceIdeal.Read.val_main_v21 (F := Ideal) (X m c) (A m c) (Wo m c) (G m c) (W1 m c) (W3 m c) (W2 m c) (ix2 r q) := by
  unfold outsAt0
  frame_out
  let h : Fin 2816 → EReal := fun j =>
    Cert.FfnOddReferenceIdeal.Read.val_main_v19 (F := Ideal) (X m c) (A m c) (Wo m c) (G m c) (W1 m c) (W3 m c) (ix2 r j) * W2 m c (ix2 j q)
  let term : ℕ → EReal := fun k => if hk : k < 11 then ∑ j : Fin 256, h ⟨k * 256 + j.val, by omega⟩ else 0
  refine (loop_read c _ _ _ _ _ _ _ _ _ _ _ _ _ _ _ _ _ _ _ _ _ _ p q term ?_ 11 le_rfl).trans ?_
  · intro k
    show _ = dite _ _ _
    rw [dif_pos k.isLt]
    refine Finset.sum_congr rfl fun j _ => ?_
    show _ = _ * _
    rw [ref_hidden, chunk2]
    refine congrArg₂ (· * ·) (congrArg₂ gated (Finset.sum_congr rfl fun l _ => ?_) (Finset.sum_congr rfl fun l _ => ?_)) rfl
    · rw [chunk1, ← normed m c t p l r hr]
    · rw [chunk3, ← normed m c t p l r hr]
  · have e : ∑ k ∈ Finset.range 11, term k = ∑ j : Fin 2816, h j := by
      rw [← Fin.sum_univ_eq_sum_range]
      refine (Finset.sum_congr rfl fun k _ => ?_).trans (Fin.sum_mul_add_fin 11 256 h)
      show dite _ _ _ = _
      rw [dif_pos k.isLt]
    rw [e]
    have e24 : Cert.FfnOddReferenceIdeal.Read.val_main_v21 (F := Ideal) (X m c) (A m c) (Wo m c) (G m c) (W1 m c) (W3 m c) (W2 m c) (ix2 r q)
        = Cert.FfnOddReferenceIdeal.Read.val_main_v2 (F := Ideal) (X m c) (A m c) (Wo m c) (ix2 r q)
          + Cert.FfnOddReferenceIdeal.Read.val_main_v20 (F := Ideal) (X m c) (A m c) (Wo m c) (G m c) (W1 m c) (W3 m c) (W2 m c) (ix2 r q) := by
      pointwise [Cert.FfnOddReferenceIdeal.Read.val_main_v21]
    rw [e24, Cert.FfnOddReferenceIdeal.Read.val_main_v20_apply]
    refine congrArg₂ (· + ·) ((pay3 _ _ _ p q).trans (residual m c t p q r hr)) ?_
    refine Finset.sum_congr rfl fun j _ => ?_
    refine congrArg₂ (· * ·) ?_ ?_
    · congr 1; funext a; match a with | ⟨0, _⟩ => rfl | ⟨1, _⟩ => rfl
    · congr 1; funext a; match a with | ⟨0, _⟩ => rfl | ⟨1, _⟩ => rfl

theorem final7 (c : Dev nD) : (dats m 0 c).arrAt 7 (cfgs 0).N
    = Cert.FfnOddReferenceIdeal.Read.val_main_v21 (F := Ideal) (X m c) (A m c) (Wo m c) (G m c) (W1 m c) (W3 m c) (W2 m c) := by
  refine (dats m 0 c).arrAt_eq_of_covers 7 _ (by decide +kernel) fun t hf y => ?_
  have ht : t.val < 80 := lt_of_lt_of_eq t.isLt N_0
  have hy0 : (y 0).val < 832 := (y 0).isLt
  have hy1 : (y 1).val < 1024 := (y 1).isLt
  blk_simp
  rw [after0_7]
  have e : (((cfg0.win 7).blk t).view.emb y : S66560x1024.Idx) = ix2 (⟨t.val * 832 + (y 0).val, by omega⟩ : Fin 66560) (⟨(y 1).val, hy1⟩ : Fin 1024) := by
    blk_ext [idx t]
  rw [e]
  refine Eq.trans (congrArg (outsAt0 m c t) (eq_ix2 y)) ?_
  exact point7 m c t ⟨(y 0).val, hy0⟩ ⟨(y 1).val, hy1⟩ ⟨t.val * 832 + (y 0).val, by omega⟩ rfl

end Cert.FfnOddValue

end
-- ==== Proof.FfnOddClaims.lean ====
/- The claims about the output projection and feed-forward part after an odd layer. -/
module

public import proofs.«01_k».proof.Defs
public import proofs.«01_k».proof.Proof.Gen.FfnOddKernel.Frame
public import proofs.«01_k».proof.Proof.FfnOddValue
public import Idealize.ShloMosaic.Adequacy
public import Idealize.ShloMosaic.Init

@[expose] public section

noncomputable section

namespace Cert.FfnOddClaims

open Idealize.ShloMosaic Idealize.SL.Sem

theorem frame_kernel : Cert.quiescent_FfnOddKernel (hFfnOddKernel := Cert.FfnOddKernel.Gen.facts) := fun m ρ _ => Cert.FfnOddKernel.Gen.frame m ρ

theorem frame_ideal : Cert.quiescent_FfnOddKernelIdeal (hFfnOddKernelIdeal := Cert.FfnOddKernelIdeal.Gen.facts) := fun m ρ _ => Cert.FfnOddKernelIdeal.Gen.frame m ρ

theorem frame_reference : Cert.quiescent_FfnOddReferenceIdeal (hFfnOddReferenceIdeal := Cert.FfnOddReferenceIdeal.Gen.facts) := by
  intro m g _
  exact (θ_run Cert.FfnOddReferenceIdeal.defs _ _).mono (fun r h => ⟨fun c => (h c).2, sem_eq_zero_of_no_sems (by decide) r.2⟩)
    (Cert.FfnOddReferenceIdeal.Value.run (F := Ideal) m g)

theorem algebraic : Cert.algebraic_FfnOddKernelIdeal_FfnOddReferenceIdeal (hFfnOddKernelIdeal := Cert.FfnOddKernelIdeal.Gen.facts)
    (hFfnOddReferenceIdeal := Cert.FfnOddReferenceIdeal.Gen.facts) := by
  pair_intro
  · run_from Cert.FfnOddKernelIdeal.Gen.run_main m g
  · run_from Cert.FfnOddReferenceIdeal.Value.run m' g'
    · obtain ⟨h0, h1, h2, h3, h4, h5, h6⟩ := hagree c
      refine Eq.trans ?_ (Cert.FfnOddValue.final7 m c).symm
      refine (Cert.FfnOddReferenceIdeal.Read.val_main_v21_eq m' c).trans ?_
      refine (congr (congr (congr (congr (congr (congr (congrArg (Cert.FfnOddReferenceIdeal.Read.val_main_v21 (F := Ideal)) h0) h1) h2) h3) h4) h5) h6)

end Cert.FfnOddClaims

end
-- ==== Proof.InOddPack.lean ====
/- The odd layer's input projection: the packed weights and the rotary tables. -/
module

public import proofs.«01_k».proof.Proof.Gen.InOddKernelIdeal.Frame
public import proofs.«01_k».proof.Proof.Gen.InOddReferenceIdeal.Read
public import proofs.«01_k».proof.Proof.Gen.InOddReferenceIdeal.Run
public import Idealize.ShloMosaic.Lib.Pipeline.ValueKit
public import Idealize.ShloMosaic.Lib.VecWindow
public import Idealize.ShloMosaic.Lib.WholeRead
public import Idealize.ShloMosaic.Lib.Routing.OpsSet

@[expose] public section

set_option maxRecDepth 16384

noncomputable section

namespace Cert.InOddValue

open Idealize.ShloMosaic Idealize.ShloMosaic.TcCoe Idealize.SL.Sem
open Idealize.ShloMosaic.Pipeline (Dat)
open Cert.InOddKernelIdeal Cert.InOddKernelIdeal.Gen
open scoped BigOperators

variable (m : (ℓ : Loc nD τ sig) → Buf (Elt Ideal) ℓ)

abbrev X (c : Dev nD) : FVec Ideal S66560x1024 .f32 := m ((c : Thread nD τ).loc main_arg0)
abbrev G (c : Dev nD) : FVec Ideal S1024 .f32 := m ((c : Thread nD τ).loc main_arg1)
abbrev W (c : Dev nD) : FVec Ideal S1024x3080 .f32 := m ((c : Thread nD τ).loc main_arg2)

/-- Columns `0 … 7` of a 128-column array written by a scatter at column word 0. -/
theorem scatter_cols (x0 : FVec Ideal S1024x128 .f32) (idx : IVec S1 32) (hidx : idx (ix1 0) = 0#32) (upd : FVec Ideal S1024x8 .f32)
    (k : Fin 1024) (j : Fin 128) :
    Host.scatter scatter_S1024x128_S1_S1024x8_01_n_1_0 (fun _ b => b) x0 idx upd (ix2 k j)
      = if h : j.val < 8 then upd (ix2 k ⟨j.val, h⟩) else x0 (ix2 k j) := by
  have lands : ∀ q : S1024x8.Idx, scatter_S1024x128_S1_S1024x8_01_n_1_0.resultIdx? q idx = some (ix2 k j) ↔ (q 0).val = k.val ∧ (q 1).val = j.val := by
    intro q
    have s1 : scatter_S1024x128_S1_S1024x8_01_n_1_0.start q idx 1 = 0 := by
      unfold ScatterDims.start
      rw [dif_pos (by decide)]
      have e : scatter_S1024x128_S1_S1024x8_01_n_1_0.siIdx q ⟨List.idxOf 1 scatter_S1024x128_S1_S1024x8_01_n_1_0.scatterDimsToOperandDims, by decide⟩ = ix1 0 := by
        funext b; match b with | ⟨0, _⟩ => exact Subsingleton.elim (α := Fin 1) _ _
      rw [e, hidx]; rfl
    have s0 : scatter_S1024x128_S1_S1024x8_01_n_1_0.start q idx 0 = 0 := by
      unfold ScatterDims.start
      rw [dif_neg (by decide)]
    have w0 : scatter_S1024x128_S1_S1024x8_01_n_1_0.window q 0 = (q 0).val := by
      unfold ScatterDims.window; rw [dif_pos (by decide)]; rfl
    have w1 : scatter_S1024x128_S1_S1024x8_01_n_1_0.window q 1 = (q 1).val := by
      unfold ScatterDims.window; rw [dif_pos (by decide)]; rfl
    refine (Routing.resultIdx?_ix2 _ q idx k j).trans ?_
    rw [s0, s1, w0, w1]
    omega
  split
  next h =>
    exact Routing.scatter_set_hit _ x0 idx upd _ _ (fun q hq => congrArg upd (by
      obtain ⟨h0, h1⟩ := (lands q).1 hq
      rw [eq_ix2 q]; exact congrArg₂ ix2 (Fin.ext h0) (Fin.ext h1))) (ix2 k ⟨j.val, h⟩) ((lands _).2 ⟨rfl, rfl⟩)
  next h =>
    exact Routing.scatter_set_miss _ x0 idx upd _ fun q hq => h (by
      obtain ⟨h0, h1⟩ := (lands q).1 hq
      have := (q 1).isLt
      exact lt_of_eq_of_lt h1.symm this)

/-- The gates' 8 weight columns, padded with zero columns to 128. -/
def gateW (W : FVec Ideal S1024x3080 .f32) : FVec Ideal S1024x128 .f32 :=
  Host.scatter scatter_S1024x128_S1_S1024x8_01_n_1_0 (fun _ b => b) (broadcastInDim S1024x128 ![] bcast_S_S1024x128 (constant (F := Ideal) S_ .f32 0x00000000#32))
    (broadcastInDim S1 ![] bcast_S_S1 (constantI S_ 32 0#32)) (extractStridedSlice S1024x8 ![0, 1536] W slices_S1024x3080_S1024x8_0_1536)

theorem gateW_apply (W : FVec Ideal S1024x3080 .f32) (k : Fin 1024) (j : Fin 128) :
    gateW W (ix2 k j) = if h : j.val < 8 then W (ix2 k ⟨1536 + j.val, by omega⟩) else (0 : EReal) := by
  unfold gateW
  rw [scatter_cols _ _ (by pointwise) _ k j]
  split
  · pointwise
    blk_ext []
  · pointwise

theorem V_w (c : Dev nD) : (V m c main_v42 : FVec Ideal S1024x3200 .bf16)
    = truncf .bf16 (concatenate S1024x3200 1
        [⟨S1024x1536, extractStridedSlice S1024x1536 ![0, 0] (W m c) slices_S1024x3080_S1024x1536_0_0⟩,
         ⟨S1024x1536, extractStridedSlice S1024x1536 ![0, 1544] (W m c) slices_S1024x3080_S1024x1536_0_1544⟩,
         ⟨S1024x128, gateW (W m c)⟩]
        concatenates_S1024x1536_S1024x1536_S1024x128_S1024x3200_d1) bitsLt_bf16_f32 := by
  have cc : ∀ (a a' : FVec Ideal S1024x1536 .f32) (b b' : FVec Ideal S1024x1536 .f32) (d d' : FVec Ideal S1024x128 .f32), a = a' → b = b' → d = d' →
      truncf .bf16 (concatenate S1024x3200 1 [⟨S1024x1536, a⟩, ⟨S1024x1536, b⟩, ⟨S1024x128, d⟩] concatenates_S1024x1536_S1024x1536_S1024x128_S1024x3200_d1) bitsLt_bf16_f32
        = truncf .bf16 (concatenate S1024x3200 1 [⟨S1024x1536, a'⟩, ⟨S1024x1536, b'⟩, ⟨S1024x128, d'⟩] concatenates_S1024x1536_S1024x1536_S1024x128_S1024x3200_d1) bitsLt_bf16_f32 := by
    rintro a _ b _ d _ rfl rfl rfl; rfl
  unfold V
  after_results
  refine cc _ _ _ _ _ _ ?_ ?_ ?_
  · show StableHlo.after [] (HloOp.result _ _) (Proc.tc.devRef main_v39) = _
    after_results
  · show StableHlo.after [] (HloOp.result _ _) (Proc.tc.devRef main_v40) = _
    after_results
  · show StableHlo.after [] (HloOp.result _ _) (Proc.tc.devRef main_v38) = _
    unfold gateW
    after_results

/-- The packed weights: columns `0 … 1535`, then `1544 … 3079`, then the gates' columns and zeros. -/
theorem packed (c : Dev nD) (k : Fin 1024) (j : Fin 3200) :
    V m c main_v42 (ix2 k j) = if h : j.val < 1536 then W m c (ix2 k ⟨j.val, by omega⟩)
      else if h : j.val < 3072 then W m c (ix2 k ⟨j.val + 8, by omega⟩)
      else if h : j.val < 3080 then W m c (ix2 k ⟨j.val - 1536, by omega⟩) else (0 : EReal) := by
  rw [V_w]
  generalize W m c = W
  pointwise
  by_cases h1 : j.val < 1536
  · rw [dif_pos h1, dif_pos h1]
  · rw [dif_neg h1, dif_neg h1]
    by_cases h2 : j.val < 3072
    · rw [dif_pos (by omega), dif_pos h2]
      blk_ext []
    · rw [dif_neg (by omega), dif_neg h2]
      refine (gateW_apply _ _ _).trans ?_
      by_cases h3 : j.val < 3080
      · rw [dif_pos h3]
        refine (dif_pos (show j.val - 1536 - 1536 < 8 by omega)).trans ?_
        blk_ext []
      · rw [dif_neg h3]
        exact dif_neg (show ¬ j.val - 1536 - 1536 < 8 by omega)

theorem V_x (c : Dev nD) : (V m c main_v43 : FVec Ideal S16x4160x1024 .f32) = shapeCast S16x4160x1024 (X m c) shapeCasts_S66560x1024_S16x4160x1024 := by
  unfold V
  after_results
  rfl

theorem V_g (c : Dev nD) : (V m c main_v44 : FVec Ideal S1x1024 .f32) = shapeCast S1x1024 (G m c) shapeCasts_S1024_S1x1024 := by
  unfold V
  after_results
  rfl

/-- A table of 64 lanes a row, repeated over the eight heads. -/
def tiled (T : FVec Ideal S4160x64 .f32) : FVec Ideal S4160x512 .f32 :=
  shapeCast S4160x512 (broadcastInDim S1x4160x8x64 ![0, 1, 2, 3] bcast_S1x4160x1x64_S1x4160x8x64_0_1_2_3
    (shapeCast S1x4160x1x64 T shapeCasts_S4160x64_S1x4160x1x64)) shapeCasts_S1x4160x8x64_S4160x512

/-- Lane `i` of the repeated table is the table's lane `i % 64`. -/
theorem tiled_apply (T : FVec Ideal S4160x64 .f32) (r : Fin 4160) (i : Fin 512) :
    tiled T (ix2 r i) = T (ix2 r ⟨i.val % 64, by omega⟩) := by
  unfold tiled
  pointwise
  blk_ext []
  all_goals omega

/-- Three columns' groups side by side. -/
def row3 (a b : FVec Ideal S4160x8 .f32) (d : FVec Ideal S4160x48 .f32) : FVec Ideal S4160x64 .f32 :=
  concatenate S4160x64 1 [⟨S4160x8, a⟩, ⟨S4160x8, b⟩, ⟨S4160x48, d⟩] concatenates_S4160x8_S4160x8_S4160x48_S4160x64_d1

theorem row3_apply (a b : FVec Ideal S4160x8 .f32) (d : FVec Ideal S4160x48 .f32) (r : Fin 4160) (j : Fin 64) :
    row3 a b d (ix2 r j) = if h : j.val < 8 then a (ix2 r ⟨j.val, h⟩) else if h : j.val < 16 then b (ix2 r ⟨j.val - 8, by omega⟩)
      else d (ix2 r ⟨j.val - 16, by omega⟩) := by
  unfold row3
  pointwise
  by_cases h1 : j.val < 8
  · rw [dif_pos h1, dif_pos h1]
  · rw [dif_neg h1, dif_neg h1]
    by_cases h2 : j.val < 16
    · rw [dif_pos (by omega), dif_pos h2]
    · rw [dif_neg (by omega), dif_neg h2]
      blk_ext []

abbrev zeros8 : FVec Ideal S4160x8 .f32 := broadcastInDim S4160x8 ![] bcast_S_S4160x8 (constant (F := Ideal) S_ .f32 0x00000000#32)
abbrev zeros48 : FVec Ideal S4160x48 .f32 := broadcastInDim S4160x48 ![] bcast_S_S4160x48 (constant (F := Ideal) S_ .f32 0x00000000#32)
abbrev ones48 : FVec Ideal S4160x48 .f32 := broadcastInDim S4160x48 ![] bcast_S_S4160x48 (constant (F := Ideal) S_ .f32 0x3F800000#32)
abbrev POS (c : Dev nD) : IVec S4160 32 := m ((c : Thread nD τ).loc main_arg3)
abbrev COS (c : Dev nD) : FVec Ideal S4160x8 .f32 := Cert.InOddReferenceIdeal.Read.val_main_v33 (F := Ideal) (POS m c)
abbrev SIN (c : Dev nD) : FVec Ideal S4160x8 .f32 := Cert.InOddReferenceIdeal.Read.val_main_v35 (F := Ideal) (POS m c)

theorem tab_congr {a a' b b' : FVec Ideal S4160x8 .f32} {d d' : FVec Ideal S4160x48 .f32} (ha : a = a') (hb : b = b') (hd : d = d') :
    (fun i => shapeCast S4160x512 (broadcastInDim S1x4160x8x64 ![0, 1, 2, 3] bcast_S1x4160x1x64_S1x4160x8x64_0_1_2_3
    (fun i => shapeCast S1x4160x1x64 (concatenate S4160x64 1 [⟨S4160x8, a⟩, ⟨S4160x8, b⟩, ⟨S4160x48, d⟩] concatenates_S4160x8_S4160x8_S4160x48_S4160x64_d1) shapeCasts_S4160x64_S1x4160x1x64 i)) shapeCasts_S1x4160x8x64_S4160x512 i) = tiled (row3 a' b' d') := by
  subst ha hb hd; rfl

theorem V_c (c : Dev nD) : (V m c main_v28 : FVec Ideal S4160x512 .f32) = tiled (row3 (COS m c) (COS m c) (addf zeros48 ones48)) := by
  unfold V
  after_results
  refine tab_congr ?_ ?_ ?_
  · show StableHlo.after [] (HloOp.result _ _) (Proc.tc.devRef main_v16) = _
    after_results
    rfl
  · show StableHlo.after [] (HloOp.result _ _) (Proc.tc.devRef main_v16) = _
    after_results
    rfl
  · show StableHlo.after [] (HloOp.result _ _) (Proc.tc.devRef main_v21) = _
    after_results

theorem V_s1 (c : Dev nD) : (V m c main_v31 : FVec Ideal S4160x512 .f32) = tiled (row3 (Host.negf (SIN m c)) zeros8 zeros48) := by
  unfold V
  after_results
  refine tab_congr ?_ ?_ ?_
  · show StableHlo.after [] (HloOp.result _ _) (Proc.tc.devRef main_v23) = _
    after_results
    rfl
  · show StableHlo.after [] (HloOp.result _ _) (Proc.tc.devRef main_v19) = _
    after_results
  · show StableHlo.after [] (HloOp.result _ _) (Proc.tc.devRef main_v18) = _
    after_results

theorem V_s2 (c : Dev nD) : (V m c main_v34 : FVec Ideal S4160x512 .f32) = tiled (row3 zeros8 (SIN m c) zeros48) := by
  unfold V
  after_results
  refine tab_congr ?_ ?_ ?_
  · show StableHlo.after [] (HloOp.result _ _) (Proc.tc.devRef main_v19) = _
    after_results
  · show StableHlo.after [] (HloOp.result _ _) (Proc.tc.devRef main_v17) = _
    after_results
    rfl
  · show StableHlo.after [] (HloOp.result _ _) (Proc.tc.devRef main_v18) = _
    after_results

end Cert.InOddValue

end
-- ==== Proof.InOddValue.lean ====
/- The odd layer's input projection: what the result arrays hold after the run. -/
module

public import proofs.«01_k».proof.Proof.Gen.InOddKernelIdeal.Frame
public import proofs.«01_k».proof.Proof.Gen.InOddReferenceIdeal.Read
public import proofs.«01_k».proof.Proof.Gen.InOddReferenceIdeal.Run
public import proofs.«01_k».proof.Proof.InOddPack
public import Idealize.ShloMosaic.Lib.Pipeline.ValueKit
public import Idealize.ShloMosaic.Lib.VecWindow
public import Idealize.ShloMosaic.Lib.WholeRead

@[expose] public section

set_option maxRecDepth 16384

noncomputable section

namespace Cert.InOddValue

open Idealize.ShloMosaic Idealize.ShloMosaic.TcCoe Idealize.SL.Sem
open Idealize.ShloMosaic.Pipeline (Dat)
open Cert.InOddKernelIdeal Cert.InOddKernelIdeal.Gen
open scoped BigOperators

variable (m : (ℓ : Loc nD τ sig) → Buf (Elt Ideal) ℓ)

theorem idx : ∀ t : Fin cfg0.N, win0_0.index t = ![t.val % 16, t.val / 16, 0] ∧ win0_1.index t = ![0, 0] ∧ win0_2.index t = ![0, 0] ∧ win0_3.index t = ![t.val / 16, 0] ∧ win0_4.index t = ![t.val / 16, 0] ∧ win0_5.index t = ![t.val / 16, 0]
    ∧ win0_7.index t = ![t.val % 16, t.val / 16, 0] ∧ win0_8.index t = ![t.val % 16, t.val / 16, 0] ∧ win0_11.index t = ![t.val % 16, t.val / 16, 0] ∧ win0_13.index t = ![t.val % 16, t.val / 16, 0] ∧ win0_15.index t = ![t.val % 16, t.val / 16, 0] :=
  (by decide +kernel : ∀ t : Fin grid0.N, _)

/-- The normalised rows of point `t`'s block are the reference's. -/
theorem xn (c : Dev nD) (t : Fin cfg0.N) (p : Fin 416) (k : Fin 1024) (r : Fin 66560) (hr : r.val = t.val % 16 * 4160 + t.val / 16 * 416 + p.val) :
    k0_pay1 (F := Ideal) (iblk m c 0 t) (iblk m c 1 t) (ix2 p k)
      = Cert.InOddReferenceIdeal.Read.val_main_v12 (F := Ideal) (X m c) (G m c) (ix2 r k) := by
  pointwise [k0_pay1, Cert.InOddReferenceIdeal.Read.val_main_v12, Cert.InOddReferenceIdeal.Read.val_main_v11, Cert.InOddReferenceIdeal.Read.val_main_v10, Cert.InOddReferenceIdeal.Read.val_main_v9, Cert.InOddReferenceIdeal.Read.val_main_v8, Cert.InOddReferenceIdeal.Read.val_main_v7, Cert.InOddReferenceIdeal.Read.val_main_v6, Cert.InOddReferenceIdeal.Read.val_main_v5, Cert.InOddReferenceIdeal.Read.val_main_v4, Cert.InOddReferenceIdeal.Read.val_main_v3, Cert.InOddReferenceIdeal.Read.val_main_v2, Cert.InOddReferenceIdeal.Read.val_main_v1, Cert.InOddReferenceIdeal.Read.val_main_v0, Cert.InOddReferenceIdeal.Read.val_main_cst, Cert.InOddReferenceIdeal.Read.val_main_cst_0, Cert.InOddReferenceIdeal.Read.val_main_cst_1]
  blk_point [iblk, V_x, V_g, idx t]

theorem ref_dot (c : Dev nD) (r : Fin 66560) (j : Fin 3080) :
    Cert.InOddReferenceIdeal.Read.val_main_v13 (F := Ideal) (X m c) (G m c) (W m c) (ix2 r j)
      = ∑ k : Fin 1024, Cert.InOddReferenceIdeal.Read.val_main_v12 (F := Ideal) (X m c) (G m c) (ix2 r k) * (W m c) (ix2 k j) := by
  rw [Cert.InOddReferenceIdeal.Read.val_main_v13_apply]
  refine Finset.sum_congr rfl fun k _ => ?_
  congr 2 <;> (funext a; match a with | ⟨0, _⟩ => rfl | ⟨1, _⟩ => rfl)

/-- The product with the weights, by batch and row of the batch. -/
theorem ref_rows (c : Dev nD) (b : Fin 16) (r : Fin 4160) (j : Fin 3080) :
    Cert.InOddReferenceIdeal.Read.val_main_v14 (F := Ideal) (X m c) (G m c) (W m c) (ix3 b r j) = Cert.InOddReferenceIdeal.Read.val_main_v13 (F := Ideal) (X m c) (G m c) (W m c) (ix2 ⟨b.val * 4160 + r.val, by omega⟩ j) := by
  rw [Cert.InOddReferenceIdeal.Read.val_main_v14_apply]
  have hb := b.isLt
  have hr := r.isLt
  have hj := j.isLt
  have e1 : (b.val * 12812800 + r.val * 3080 + j.val) / 3080 = b.val * 4160 + r.val := by omega
  have e2 : (b.val * 12812800 + r.val * 3080 + j.val) % 3080 = j.val := by omega
  blk_ext []
  all_goals omega

/-- Entry `(p, q)` of the normalised block times the packed weights. -/
def dotAt (c : Dev nD) (t : Fin cfg0.N) (p : Fin 416) (q : Fin 3200) : EReal :=
  ∑ k : Fin 1024, k0_pay1 (F := Ideal) (iblk m c 0 t) (iblk m c 1 t) (ix2 p k) * (iblk m c 2 t : FVec Ideal S1024x3200 .bf16) (ix2 k q)

theorem w_block (c : Dev nD) (t : Fin cfg0.N) (k : Fin 1024) (q : Fin 3200) :
    (iblk m c 2 t : FVec Ideal S1024x3200 .bf16) (ix2 k q) = V m c main_v42 (ix2 k q) := by
  unfold iblk
  blk_simp [idx t]
  blk_ext [idx t]

/-- A product of the normalised block with the packed column that carries weight column `j` is the reference's entry. -/
theorem core (c : Dev nD) (t : Fin cfg0.N) (p : Fin 416) (q : Fin 3200) (b : Fin 16) (r : Fin 4160) (j : Fin 3080)
    (hb : b.val = t.val % 16) (hr : r.val = t.val / 16 * 416 + p.val)
    (hq : q.val < 1536 ∧ j.val = q.val ∨ 1536 ≤ q.val ∧ q.val < 3072 ∧ j.val = q.val + 8 ∨ 3072 ≤ q.val ∧ q.val < 3080 ∧ j.val = q.val - 1536) :
    dotAt m c t p q = Cert.InOddReferenceIdeal.Read.val_main_v14 (F := Ideal) (X m c) (G m c) (W m c) (ix3 b r j) := by
  unfold dotAt
  rw [ref_rows, ref_dot]
  refine Finset.sum_congr rfl fun k _ => ?_
  rw [xn m c t p k ⟨b.val * 4160 + r.val, by omega⟩ (by show b.val * 4160 + r.val = _; omega), w_block, packed]
  rcases hq with ⟨h, hj⟩ | ⟨h, h', hj⟩ | ⟨h, h', hj⟩
  · rw [dif_pos h]; congr 2; exact congrArg (ix2 k) (Fin.ext hj.symm)
  · rw [dif_neg (by omega), dif_pos h']; congr 2; exact congrArg (ix2 k) (Fin.ext hj.symm)
  · rw [dif_neg (by omega), dif_neg (by omega), dif_pos h']; congr 2; exact congrArg (ix2 k) (Fin.ext hj.symm)

theorem core_zero (c : Dev nD) (t : Fin cfg0.N) (p : Fin 416) (q : Fin 3200) (hq : 3080 ≤ q.val) : dotAt m c t p q = 0 := by
  refine Finset.sum_eq_zero fun k _ => ?_
  rw [w_block, packed, dif_neg (by omega), dif_neg (by omega), dif_neg (by omega)]
  exact mul_zero _

theorem ref_plain (c : Dev nD) (b : Fin 16) (r : Fin 4160) (i : Fin 512) :
    Cert.InOddReferenceIdeal.Read.val_main_v56 (F := Ideal) (X m c) (G m c) (W m c) (ix3 b r i) = Cert.InOddReferenceIdeal.Read.val_main_v14 (F := Ideal) (X m c) (G m c) (W m c) (ix3 b r ⟨512 + i.val, by omega⟩)
    ∧ Cert.InOddReferenceIdeal.Read.val_main_v57 (F := Ideal) (X m c) (G m c) (W m c) (ix3 b r i) = Cert.InOddReferenceIdeal.Read.val_main_v14 (F := Ideal) (X m c) (G m c) (W m c) (ix3 b r ⟨1024 + i.val, by omega⟩)
    ∧ Cert.InOddReferenceIdeal.Read.val_main_v59 (F := Ideal) (X m c) (G m c) (W m c) (ix3 b r i) = Cert.InOddReferenceIdeal.Read.val_main_v14 (F := Ideal) (X m c) (G m c) (W m c) (ix3 b r ⟨2568 + i.val, by omega⟩) := by
  refine ⟨?_, ?_, ?_⟩
  · rw [Cert.InOddReferenceIdeal.Read.val_main_v56_apply]; blk_ext []
  · rw [Cert.InOddReferenceIdeal.Read.val_main_v57_apply]; blk_ext []
  · rw [Cert.InOddReferenceIdeal.Read.val_main_v59_apply]; blk_ext []

theorem ref_gate (c : Dev nD) (b : Fin 16) (r : Fin 4160) (i : Fin 128) :
    Cert.InOddReferenceIdeal.Read.val_main_v55 (F := Ideal) (X m c) (G m c) (W m c) (ix3 b r i)
      = if h : i.val < 8 then Cert.InOddReferenceIdeal.Read.val_main_v14 (F := Ideal) (X m c) (G m c) (W m c) (ix3 b r ⟨1536 + i.val, by omega⟩) else (0 : EReal) := by
  pointwise [Cert.InOddReferenceIdeal.Read.val_main_v55]
  split
  · rw [Cert.InOddReferenceIdeal.Read.val_main_v53_apply]
    blk_ext []
  · rw [Cert.InOddReferenceIdeal.Read.val_main_v54_apply, Cert.InOddReferenceIdeal.Read.val_main_cst_6_apply]
    pointwise

theorem point7 (c : Dev nD) (t : Fin cfg0.N) (y : S1x416x512.Idx) (z : S16x4160x512.Idx)
    (hz : z = ix3 (⟨t.val % 16, by omega⟩ : Fin 16) (⟨t.val / 16 * 416 + (y 1).val, by have := lt_of_lt_of_eq t.isLt N_0; have : (y 1).val < 416 := (y 1).isLt; omega⟩ : Fin 4160) (⟨(y 2).val, (y 2).isLt⟩ : Fin 512)) :
    out0_7 (iblk m c 0 t) (iblk m c 1 t) (iblk m c 2 t) (iblk m c 3 t) (iblk m c 4 t) (iblk m c 5 t) y = Cert.InOddReferenceIdeal.Read.val_main_v56 (F := Ideal) (X m c) (G m c) (W m c) z := by
  have hy1 : (y 1).val < 416 := (y 1).isLt
  have hy2 : (y 2).val < 512 := (y 2).isLt
  subst hz
  refine Eq.trans (b := dotAt m c t ⟨(y 1).val, hy1⟩ ⟨512 + (y 2).val, by omega⟩) ?_ ?_
  · unfold dotAt
    canon_tiles x h
    all_goals (open_payloads; pointwise; blk_point [idx t])
  · rw [(ref_plain m c _ _ _).1]
    exact core m c t ⟨(y 1).val, hy1⟩ ⟨512 + (y 2).val, by omega⟩ _ _ _ rfl rfl (.inl ⟨by show 512 + (y 2).val < 1536; omega, rfl⟩)

theorem final7 (c : Dev nD) : (dats m 0 c).arrAt 7 (cfgs 0).N = Cert.InOddReferenceIdeal.Read.val_main_v56 (F := Ideal) (X m c) (G m c) (W m c) := by
  refine (dats m 0 c).arrAt_eq_of_covers 7 _ (by decide +kernel) fun t hf y => ?_
  blk_simp
  rw [after0_7]
  exact point7 m c t y _ (by blk_ext [idx t])

/-- The rotation of one lane of the keys, as the reference's slices and concatenations read it. -/
def kdOf (Y : Cert.InOddReferenceIdeal.S16x4160x3080.Idx → EReal) (C S : S4160x8.Idx → EReal) (b : Fin 16) (r : Fin 4160) (i : Fin 512) : EReal :=
  if h : i.val % 64 < 16 then
    if h_1 : i.val % 64 < 8 then
      Y (ix3 b r ⟨2056 + i.val, by omega⟩) * C (ix2 r ⟨i.val % 64, h_1⟩)
        - Y (ix3 b r ⟨2056 + (i.val / 64 * 64 + (8 + i.val % 64)), by omega⟩) * S (ix2 r ⟨i.val % 64, h_1⟩)
    else
      Y (ix3 b r ⟨2056 + (i.val / 64 * 64 + (8 + (i.val % 64 - 8))), by omega⟩) * C (ix2 r ⟨i.val % 64 - 8, by omega⟩)
        + Y (ix3 b r ⟨2056 + (i.val / 64 * 64 + (i.val % 64 - 8)), by omega⟩) * S (ix2 r ⟨i.val % 64 - 8, by omega⟩)
  else Y (ix3 b r ⟨2056 + (i.val / 64 * 64 + (16 + (i.val % 64 - 16))), by omega⟩)

/-- The same with the lanes simplified. -/
theorem kdOf_eq (Y : Cert.InOddReferenceIdeal.S16x4160x3080.Idx → EReal) (C S : S4160x8.Idx → EReal) (b : Fin 16) (r : Fin 4160) (i : Fin 512) :
    kdOf Y C S b r i =
      if h : i.val % 64 < 16 then
        if h' : i.val % 64 < 8 then
          Y (ix3 b r ⟨2056 + i.val, by omega⟩) * C (ix2 r ⟨i.val % 64, h'⟩) - Y (ix3 b r ⟨2056 + (i.val + 8), by omega⟩) * S (ix2 r ⟨i.val % 64, h'⟩)
        else
          Y (ix3 b r ⟨2056 + i.val, by omega⟩) * C (ix2 r ⟨i.val % 64 - 8, by omega⟩) + Y (ix3 b r ⟨2056 + (i.val - 8), by omega⟩) * S (ix2 r ⟨i.val % 64 - 8, by omega⟩)
      else Y (ix3 b r ⟨2056 + i.val, by omega⟩) := by
  have cg : ∀ (n n' : Nat) (h : 2056 + n < 3080) (h' : 2056 + n' < 3080), n = n' →
      Y (ix3 b r ⟨2056 + n, h⟩) = Y (ix3 b r ⟨2056 + n', h'⟩) := by
    rintro n _ h h' rfl; rfl
  unfold kdOf
  by_cases h : i.val % 64 < 16
  · rw [dif_pos h, dif_pos h]
    by_cases h' : i.val % 64 < 8
    · rw [dif_pos h', dif_pos h']
      exact congrArg₂ (· - ·) (congrArg₂ (· * ·) (cg _ _ _ _ (by omega)) rfl) (congrArg₂ (· * ·) (cg _ _ _ _ (by omega)) rfl)
    · rw [dif_neg h', dif_neg h']
      exact congrArg₂ (· + ·) (congrArg₂ (· * ·) (cg _ _ _ _ (by omega)) rfl) (congrArg₂ (· * ·) (cg _ _ _ _ (by omega)) rfl)
  · rw [dif_neg h, dif_neg h]
    exact cg _ _ _ _ (by omega)

/-- The rotated keys of the reference, lane by lane. -/
theorem ref_kd (c : Dev nD) (b : Fin 16) (r : Fin 4160) (i : Fin 512) :
    Cert.InOddReferenceIdeal.Read.val_main_v58 (F := Ideal) (X m c) (G m c) (W m c) (POS m c) (ix3 b r i) =
      if h : i.val % 64 < 16 then
        if h' : i.val % 64 < 8 then
          Cert.InOddReferenceIdeal.Read.val_main_v14 (F := Ideal) (X m c) (G m c) (W m c) (ix3 b r ⟨2056 + i.val, by omega⟩) * COS m c (ix2 r ⟨i.val % 64, h'⟩)
            - Cert.InOddReferenceIdeal.Read.val_main_v14 (F := Ideal) (X m c) (G m c) (W m c) (ix3 b r ⟨2056 + (i.val + 8), by omega⟩) * SIN m c (ix2 r ⟨i.val % 64, h'⟩)
        else
          Cert.InOddReferenceIdeal.Read.val_main_v14 (F := Ideal) (X m c) (G m c) (W m c) (ix3 b r ⟨2056 + i.val, by omega⟩) * COS m c (ix2 r ⟨i.val % 64 - 8, by omega⟩)
            + Cert.InOddReferenceIdeal.Read.val_main_v14 (F := Ideal) (X m c) (G m c) (W m c) (ix3 b r ⟨2056 + (i.val - 8), by omega⟩) * SIN m c (ix2 r ⟨i.val % 64 - 8, by omega⟩)
      else Cert.InOddReferenceIdeal.Read.val_main_v14 (F := Ideal) (X m c) (G m c) (W m c) (ix3 b r ⟨2056 + i.val, by omega⟩) := by
  refine Eq.trans ?_ (kdOf_eq (Cert.InOddReferenceIdeal.Read.val_main_v14 (F := Ideal) (X m c) (G m c) (W m c)) (COS m c) (SIN m c) b r i)
  generalize hZ : kdOf (Cert.InOddReferenceIdeal.Read.val_main_v14 (F := Ideal) (X m c) (G m c) (W m c)) (COS m c) (SIN m c) b r i = Z
  pointwise [Cert.InOddReferenceIdeal.Read.val_main_v58, Cert.InOddReferenceIdeal.Read.val_main_v52, Cert.InOddReferenceIdeal.Read.val_main_v51, Cert.InOddReferenceIdeal.Read.val_main_v50, Cert.InOddReferenceIdeal.Read.val_main_v49, Cert.InOddReferenceIdeal.Read.val_main_v48, Cert.InOddReferenceIdeal.Read.val_main_v47, Cert.InOddReferenceIdeal.Read.val_main_v46, Cert.InOddReferenceIdeal.Read.val_main_v45, Cert.InOddReferenceIdeal.Read.val_main_v44, Cert.InOddReferenceIdeal.Read.val_main_v43, Cert.InOddReferenceIdeal.Read.val_main_v42, Cert.InOddReferenceIdeal.Read.val_main_v41, Cert.InOddReferenceIdeal.Read.val_main_v40, Cert.InOddReferenceIdeal.Read.val_main_v39, Cert.InOddReferenceIdeal.Read.val_main_v38, Cert.InOddReferenceIdeal.Read.val_main_v37, Cert.InOddReferenceIdeal.Read.val_main_v36, Cert.InOddReferenceIdeal.Read.val_main_v34, Cert.InOddReferenceIdeal.Read.val_main_v16, Cert.InOddReferenceIdeal.Read.val_main_v15]
  exact hZ

theorem kd_block (c : Dev nD) (t : Fin cfg0.N) (y : S1x416x512.Idx) :
    out0_11 (iblk m c 0 t) (iblk m c 1 t) (iblk m c 2 t) (iblk m c 3 t) (iblk m c 4 t) (iblk m c 5 t) y = dotAt m c t ⟨(y 1).val, (y 1).isLt⟩ ⟨2048 + (y 2).val, by have : (y 2).val < 512 := (y 2).isLt; omega⟩ * (iblk m c 3 t : FVec Ideal S416x512 .f32) (ix2 (y 1) (y 2))
      + dotAt m c t ⟨(y 1).val, (y 1).isLt⟩ ⟨2048 + ((y 2).val + 512 - 504) % 512, by omega⟩ * (iblk m c 4 t : FVec Ideal S416x512 .f32) (ix2 (y 1) (y 2))
      + dotAt m c t ⟨(y 1).val, (y 1).isLt⟩ ⟨2048 + ((y 2).val + 512 - 8) % 512, by omega⟩ * (iblk m c 5 t : FVec Ideal S416x512 .f32) (ix2 (y 1) (y 2)) := by
  unfold dotAt
  canon_tiles x h
  all_goals (open_payloads; pointwise; blk_point [idx t])

theorem point8 (c : Dev nD) (t : Fin cfg0.N) (y : S1x416x512.Idx) (z : S16x4160x512.Idx)
    (hz : z = ix3 (⟨t.val % 16, by omega⟩ : Fin 16) (⟨t.val / 16 * 416 + (y 1).val, by have := lt_of_lt_of_eq t.isLt N_0; have : (y 1).val < 416 := (y 1).isLt; omega⟩ : Fin 4160) (⟨(y 2).val, (y 2).isLt⟩ : Fin 512)) :
    out0_8 (iblk m c 0 t) (iblk m c 1 t) (iblk m c 2 t) (iblk m c 3 t) (iblk m c 4 t) (iblk m c 5 t) y = Cert.InOddReferenceIdeal.Read.val_main_v57 (F := Ideal) (X m c) (G m c) (W m c) z := by
  have hy1 : (y 1).val < 416 := (y 1).isLt
  have hy2 : (y 2).val < 512 := (y 2).isLt
  subst hz
  refine Eq.trans (b := dotAt m c t ⟨(y 1).val, hy1⟩ ⟨1024 + (y 2).val, by omega⟩) ?_ ?_
  · unfold dotAt
    canon_tiles x h
    all_goals (open_payloads; pointwise [k0_pay70, k0_pay69, k0_pay34, k0_pay35, k0_pay36]; blk_point [idx t])
  · rw [(ref_plain m c _ _ _).2.1]
    exact core m c t ⟨(y 1).val, hy1⟩ ⟨1024 + (y 2).val, by omega⟩ _ _ _ rfl rfl (.inl ⟨by show 1024 + (y 2).val < 1536; omega, rfl⟩)

theorem final8 (c : Dev nD) : (dats m 0 c).arrAt 8 (cfgs 0).N = Cert.InOddReferenceIdeal.Read.val_main_v57 (F := Ideal) (X m c) (G m c) (W m c) := by
  refine (dats m 0 c).arrAt_eq_of_covers 8 _ (by decide +kernel) fun t hf y => ?_
  blk_simp
  rw [after0_8]
  exact point8 m c t y _ (by blk_ext [idx t])

theorem point13 (c : Dev nD) (t : Fin cfg0.N) (y : S1x416x512.Idx) (z : S16x4160x512.Idx)
    (hz : z = ix3 (⟨t.val % 16, by omega⟩ : Fin 16) (⟨t.val / 16 * 416 + (y 1).val, by have := lt_of_lt_of_eq t.isLt N_0; have : (y 1).val < 416 := (y 1).isLt; omega⟩ : Fin 4160) (⟨(y 2).val, (y 2).isLt⟩ : Fin 512)) :
    out0_13 (iblk m c 0 t) (iblk m c 1 t) (iblk m c 2 t) (iblk m c 3 t) (iblk m c 4 t) (iblk m c 5 t) y = Cert.InOddReferenceIdeal.Read.val_main_v59 (F := Ideal) (X m c) (G m c) (W m c) z := by
  have hy1 : (y 1).val < 416 := (y 1).isLt
  have hy2 : (y 2).val < 512 := (y 2).isLt
  subst hz
  refine Eq.trans (b := dotAt m c t ⟨(y 1).val, hy1⟩ ⟨2560 + (y 2).val, by omega⟩) ?_ ?_
  · unfold dotAt
    canon_tiles x h
    all_goals (open_payloads; pointwise; blk_point [idx t])
  · rw [(ref_plain m c _ _ _).2.2]
    exact core m c t ⟨(y 1).val, hy1⟩ ⟨2560 + (y 2).val, by omega⟩ _ _ _ rfl rfl
      (.inr (.inl ⟨by show 1536 ≤ 2560 + (y 2).val; omega, by show 2560 + (y 2).val < 3072; omega, by show 2568 + (y 2).val = 2560 + (y 2).val + 8; omega⟩))

theorem final13 (c : Dev nD) : (dats m 0 c).arrAt 13 (cfgs 0).N = Cert.InOddReferenceIdeal.Read.val_main_v59 (F := Ideal) (X m c) (G m c) (W m c) := by
  refine (dats m 0 c).arrAt_eq_of_covers 13 _ (by decide +kernel) fun t hf y => ?_
  blk_simp
  rw [after0_13]
  exact point13 m c t y _ (by blk_ext [idx t])

theorem point15 (c : Dev nD) (t : Fin cfg0.N) (y : S1x416x128.Idx) (z : S16x4160x128.Idx)
    (hz : z = ix3 (⟨t.val % 16, by omega⟩ : Fin 16) (⟨t.val / 16 * 416 + (y 1).val, by have := lt_of_lt_of_eq t.isLt N_0; have : (y 1).val < 416 := (y 1).isLt; omega⟩ : Fin 4160) (⟨(y 2).val, (y 2).isLt⟩ : Fin 128)) :
    out0_15 (iblk m c 0 t) (iblk m c 1 t) (iblk m c 2 t) (iblk m c 3 t) (iblk m c 4 t) (iblk m c 5 t) y = Cert.InOddReferenceIdeal.Read.val_main_v55 (F := Ideal) (X m c) (G m c) (W m c) z := by
  have hy1 : (y 1).val < 416 := (y 1).isLt
  have hy2 : (y 2).val < 128 := (y 2).isLt
  subst hz
  refine Eq.trans (b := dotAt m c t ⟨(y 1).val, hy1⟩ ⟨3072 + (y 2).val, by omega⟩) ?_ ?_
  · unfold dotAt
    canon_tiles x h
    all_goals (open_payloads; pointwise; blk_point [idx t])
  · rw [ref_gate]
    by_cases h : (y 2).val < 8
    · refine Eq.trans ?_ (dif_pos h).symm
      exact core m c t ⟨(y 1).val, hy1⟩ ⟨3072 + (y 2).val, by omega⟩ _ _ _ rfl rfl
        (.inr (.inr ⟨by show 3072 ≤ 3072 + (y 2).val; omega, by show 3072 + (y 2).val < 3080; omega, by show 1536 + (y 2).val = 3072 + (y 2).val - 1536; omega⟩))
    · refine Eq.trans ?_ (dif_neg h).symm
      exact core_zero m c t _ _ (by show 3080 ≤ 3072 + (y 2).val; omega)

theorem final15 (c : Dev nD) : (dats m 0 c).arrAt 15 (cfgs 0).N = Cert.InOddReferenceIdeal.Read.val_main_v55 (F := Ideal) (X m c) (G m c) (W m c) := by
  refine (dats m 0 c).arrAt_eq_of_covers 15 _ (by decide +kernel) fun t hf y => ?_
  blk_simp
  rw [after0_15]
  exact point15 m c t y _ (by blk_ext [idx t])

theorem tables (c : Dev nD) (t : Fin cfg0.N) (p : Fin 416) (i : Fin 512) (r : Fin 4160) (hr : r.val = t.val / 16 * 416 + p.val) :
    (iblk m c 3 t : FVec Ideal S416x512 .f32) (ix2 p i) = row3 (COS m c) (COS m c) (addf zeros48 ones48) (ix2 r ⟨i.val % 64, by omega⟩)
    ∧ (iblk m c 4 t : FVec Ideal S416x512 .f32) (ix2 p i) = row3 (Host.negf (SIN m c)) zeros8 zeros48 (ix2 r ⟨i.val % 64, by omega⟩)
    ∧ (iblk m c 5 t : FVec Ideal S416x512 .f32) (ix2 p i) = row3 zeros8 (SIN m c) zeros48 (ix2 r ⟨i.val % 64, by omega⟩) := by
  have e3 : (iblk m c 3 t : FVec Ideal S416x512 .f32) (ix2 p i) = V m c main_v28 (ix2 r i) := by
    unfold iblk
    blk_simp [idx t]
    blk_ext [idx t]
    all_goals omega
  have e4 : (iblk m c 4 t : FVec Ideal S416x512 .f32) (ix2 p i) = V m c main_v31 (ix2 r i) := by
    unfold iblk
    blk_simp [idx t]
    blk_ext [idx t]
    all_goals omega
  have e5 : (iblk m c 5 t : FVec Ideal S416x512 .f32) (ix2 p i) = V m c main_v34 (ix2 r i) := by
    unfold iblk
    blk_simp [idx t]
    blk_ext [idx t]
    all_goals omega
  rw [e3, e4, e5, V_c, V_s1, V_s2, tiled_apply, tiled_apply, tiled_apply]
  exact ⟨rfl, rfl, rfl⟩

theorem zeros8_apply (i : S4160x8.Idx) : zeros8 i = (0 : EReal) := by
  rw [eq_ix2 i]; pointwise

theorem zeros48_apply (i : S4160x48.Idx) : zeros48 i = (0 : EReal) := by
  rw [eq_ix2 i]; pointwise

theorem ones_apply (i : S4160x48.Idx) : addf zeros48 ones48 i = (1 : EReal) := by
  rw [eq_ix2 i]; pointwise

theorem point11 (c : Dev nD) (t : Fin cfg0.N) (y : S1x416x512.Idx) (z : S16x4160x512.Idx)
    (hz : z = ix3 (⟨t.val % 16, by omega⟩ : Fin 16) (⟨t.val / 16 * 416 + (y 1).val, by have := lt_of_lt_of_eq t.isLt N_0; have : (y 1).val < 416 := (y 1).isLt; omega⟩ : Fin 4160) (⟨(y 2).val, (y 2).isLt⟩ : Fin 512)) :
    out0_11 (iblk m c 0 t) (iblk m c 1 t) (iblk m c 2 t) (iblk m c 3 t) (iblk m c 4 t) (iblk m c 5 t) y = Cert.InOddReferenceIdeal.Read.val_main_v58 (F := Ideal) (X m c) (G m c) (W m c) (POS m c) z := by
  have ht : t.val < 160 := lt_of_lt_of_eq t.isLt N_0
  have hy1 : (y 1).val < 416 := (y 1).isLt
  have hy2 : (y 2).val < 512 := (y 2).isLt
  subst hz
  have core' : ∀ (n : Nat) (hn : 2048 + n < 3200) (n' : Nat) (hn' : 2056 + n' < 3080), n = n' → dotAt m c t ⟨(y 1).val, hy1⟩ ⟨2048 + n, hn⟩
      = Cert.InOddReferenceIdeal.Read.val_main_v14 (F := Ideal) (X m c) (G m c) (W m c) (ix3 (⟨t.val % 16, by omega⟩ : Fin 16) (⟨t.val / 16 * 416 + (y 1).val, by omega⟩ : Fin 4160) ⟨2056 + n', hn'⟩) := by
    rintro n hn _ hn' rfl
    exact core m c t ⟨(y 1).val, hy1⟩ ⟨2048 + n, hn⟩ _ _ ⟨2056 + n, hn'⟩ rfl rfl
      (.inr (.inl ⟨by show 1536 ≤ 2048 + n; omega, by show 2048 + n < 3072; omega, by show 2056 + n = 2048 + n + 8; omega⟩))
  obtain ⟨e3, e4, e5⟩ := tables m c t ⟨(y 1).val, hy1⟩ ⟨(y 2).val, hy2⟩ ⟨t.val / 16 * 416 + (y 1).val, by omega⟩ rfl
  rw [kd_block, ref_kd]
  refine (congrArg₂ (· + ·) (congrArg₂ (· + ·) (congrArg₂ (· * ·) rfl e3) (congrArg₂ (· * ·) rfl e4)) (congrArg₂ (· * ·) rfl e5)).trans ?_
  rw [row3_apply, row3_apply, row3_apply]
  by_cases h : (y 2).val % 64 < 16
  · rw [dif_pos h]
    by_cases h' : (y 2).val % 64 < 8
    · rw [dif_pos h', dif_pos h', dif_pos h', dif_pos h', zeros8_apply, mul_zero, add_zero]
      refine congrArg₂ (· + ·) (congrArg₂ (· * ·) (core' _ _ _ _ rfl) rfl) ?_
      refine (congrArg₂ (· * ·) (core' _ _ ((y 2).val + 8) (by omega) ?_) rfl).trans (mul_neg _ _)
      show ((y 2).val + 512 - 504) % 512 = (y 2).val + 8
      omega
    · rw [dif_neg h', dif_neg h', dif_neg h', dif_neg h', dif_pos h, dif_pos h, dif_pos h, zeros8_apply, mul_zero, add_zero]
      refine congrArg₂ (· + ·) (congrArg₂ (· * ·) (core' _ _ _ _ rfl) rfl) (congrArg₂ (· * ·) (core' _ _ ((y 2).val - 8) (by omega) ?_) rfl)
      show ((y 2).val + 512 - 8) % 512 = (y 2).val - 8
      omega
  · have h' : ¬ (y 2).val % 64 < 8 := by omega
    rw [dif_neg h, dif_neg h', dif_neg h', dif_neg h', dif_neg h, dif_neg h, dif_neg h, ones_apply, zeros48_apply, mul_zero, mul_zero, add_zero, add_zero, mul_one]
    exact core' _ _ _ _ rfl

theorem final11 (c : Dev nD) : (dats m 0 c).arrAt 11 (cfgs 0).N = Cert.InOddReferenceIdeal.Read.val_main_v58 (F := Ideal) (X m c) (G m c) (W m c) (POS m c) := by
  refine (dats m 0 c).arrAt_eq_of_covers 11 _ (by decide +kernel) fun t hf y => ?_
  blk_simp
  rw [after0_11]
  exact point11 m c t y _ (by blk_ext [idx t])

end Cert.InOddValue

end
-- ==== Proof.InOddClaims.lean ====
/- The claims about an odd layer's input projection. -/
module

public import proofs.«01_k».proof.Defs
public import proofs.«01_k».proof.Proof.Gen.InOddKernel.Frame
public import proofs.«01_k».proof.Proof.InOddValue
public import Idealize.ShloMosaic.Adequacy
public import Idealize.ShloMosaic.Init

@[expose] public section

noncomputable section

namespace Cert.InOddClaims

open Idealize.ShloMosaic Idealize.SL.Sem

theorem frame_kernel : Cert.quiescent_InOddKernel (hInOddKernel := Cert.InOddKernel.Gen.facts) := fun m ρ _ => Cert.InOddKernel.Gen.frame m ρ

theorem frame_ideal : Cert.quiescent_InOddKernelIdeal (hInOddKernelIdeal := Cert.InOddKernelIdeal.Gen.facts) := fun m ρ _ => Cert.InOddKernelIdeal.Gen.frame m ρ

theorem frame_reference : Cert.quiescent_InOddReferenceIdeal (hInOddReferenceIdeal := Cert.InOddReferenceIdeal.Gen.facts) := by
  intro m g _
  exact (θ_run Cert.InOddReferenceIdeal.defs _ _).mono (fun r h => ⟨fun c => (h c).2.2.2.2.2, sem_eq_zero_of_no_sems (by decide) r.2⟩)
    (Cert.InOddReferenceIdeal.Value.run (F := Ideal) m g)

/-- What the kernel's run leaves in the five results. -/
theorem kernel_run (m : (ℓ : Loc Cert.InOddKernelIdeal.nD Cert.InOddKernelIdeal.τ Cert.InOddKernelIdeal.sig) → Buf (Elt Ideal) ℓ) (g : Dev Cert.InOddKernelIdeal.nD → PrngReg) :
    θ_run (Cert.InOddKernelIdeal.defs (F := Ideal)) (onTc (τ := Cert.InOddKernelIdeal.τ) (Cert.InOddKernelIdeal.main (F := Ideal))) ⟨m, fun _ => 0, g⟩ (fun r => ∀ c : Dev Cert.InOddKernelIdeal.nD,
      r.2.mem ((c.tc : Thread Cert.InOddKernelIdeal.nD Cert.InOddKernelIdeal.τ).loc Cert.InOddKernelIdeal.main_v45_1) = Cert.InOddReferenceIdeal.Read.val_main_v56 (F := Ideal) (Cert.InOddValue.X m c) (Cert.InOddValue.G m c) (Cert.InOddValue.W m c)
      ∧ r.2.mem ((c.tc : Thread Cert.InOddKernelIdeal.nD Cert.InOddKernelIdeal.τ).loc Cert.InOddKernelIdeal.main_v45_2) = Cert.InOddReferenceIdeal.Read.val_main_v57 (F := Ideal) (Cert.InOddValue.X m c) (Cert.InOddValue.G m c) (Cert.InOddValue.W m c)
      ∧ r.2.mem ((c.tc : Thread Cert.InOddKernelIdeal.nD Cert.InOddKernelIdeal.τ).loc Cert.InOddKernelIdeal.main_v45_5) = Cert.InOddReferenceIdeal.Read.val_main_v58 (F := Ideal) (Cert.InOddValue.X m c) (Cert.InOddValue.G m c) (Cert.InOddValue.W m c) (Cert.InOddValue.POS m c)
      ∧ r.2.mem ((c.tc : Thread Cert.InOddKernelIdeal.nD Cert.InOddKernelIdeal.τ).loc Cert.InOddKernelIdeal.main_v45_7) = Cert.InOddReferenceIdeal.Read.val_main_v59 (F := Ideal) (Cert.InOddValue.X m c) (Cert.InOddValue.G m c) (Cert.InOddValue.W m c)
      ∧ r.2.mem ((c.tc : Thread Cert.InOddKernelIdeal.nD Cert.InOddKernelIdeal.τ).loc Cert.InOddKernelIdeal.main_v45_9) = Cert.InOddReferenceIdeal.Read.val_main_v55 (F := Ideal) (Cert.InOddValue.X m c) (Cert.InOddValue.G m c) (Cert.InOddValue.W m c)
      ∧ r.2.mem ((c.tc : Thread Cert.InOddKernelIdeal.nD Cert.InOddKernelIdeal.τ).loc Cert.InOddKernelIdeal.main_arg0) = m ((c.tc : Thread Cert.InOddKernelIdeal.nD Cert.InOddKernelIdeal.τ).loc Cert.InOddKernelIdeal.main_arg0)
      ∧ r.2.mem ((c.tc : Thread Cert.InOddKernelIdeal.nD Cert.InOddKernelIdeal.τ).loc Cert.InOddKernelIdeal.main_arg1) = m ((c.tc : Thread Cert.InOddKernelIdeal.nD Cert.InOddKernelIdeal.τ).loc Cert.InOddKernelIdeal.main_arg1)
      ∧ r.2.mem ((c.tc : Thread Cert.InOddKernelIdeal.nD Cert.InOddKernelIdeal.τ).loc Cert.InOddKernelIdeal.main_arg2) = m ((c.tc : Thread Cert.InOddKernelIdeal.nD Cert.InOddKernelIdeal.τ).loc Cert.InOddKernelIdeal.main_arg2)
      ∧ r.2.mem ((c.tc : Thread Cert.InOddKernelIdeal.nD Cert.InOddKernelIdeal.τ).loc Cert.InOddKernelIdeal.main_arg3) = m ((c.tc : Thread Cert.InOddKernelIdeal.nD Cert.InOddKernelIdeal.τ).loc Cert.InOddKernelIdeal.main_arg3)) :=
  θ_run_mono (θ_run_and (Cert.InOddKernelIdeal.Gen.unchanged m g) (Cert.InOddKernelIdeal.Gen.run_main m g)) fun r hr c =>
    ⟨((hr.2 c).1 7).trans (Cert.InOddValue.final7 m c),
     ((hr.2 c).1 8).trans (Cert.InOddValue.final8 m c),
     ((hr.2 c).1 11).trans (Cert.InOddValue.final11 m c),
     ((hr.2 c).1 13).trans (Cert.InOddValue.final13 m c),
     ((hr.2 c).1 15).trans (Cert.InOddValue.final15 m c),
     hr.1 c⟩

theorem algebraic : Cert.algebraic_InOddKernelIdeal_InOddReferenceIdeal (hInOddKernelIdeal := Cert.InOddKernelIdeal.Gen.facts)
    (hInOddReferenceIdeal := Cert.InOddReferenceIdeal.Gen.facts) := by
  intro m g m' g' _ hagree
  refine ⟨_, _, _, _, _, kernel_run m g, θ_run_mono (Cert.InOddReferenceIdeal.Value.run (F := Ideal) m' g') fun r hr c => ?_⟩
  obtain ⟨h0, h1, h2, h3⟩ := hagree c
  obtain ⟨r0, r1, r2, r3, r4, rest⟩ := hr c
  exact ⟨(r0.trans (Cert.InOddReferenceIdeal.Read.val_main_v56_eq _ _ _)).trans (congr (congr (congrArg (Cert.InOddReferenceIdeal.Read.val_main_v56 (F := Ideal)) h0) h1) h2),
    (r1.trans (Cert.InOddReferenceIdeal.Read.val_main_v57_eq _ _ _)).trans (congr (congr (congrArg (Cert.InOddReferenceIdeal.Read.val_main_v57 (F := Ideal)) h0) h1) h2),
    (r2.trans (Cert.InOddReferenceIdeal.Read.val_main_v58_eq m' c)).trans (congr (congr (congr (congrArg (Cert.InOddReferenceIdeal.Read.val_main_v58 (F := Ideal)) h0) h1) h2) h3),
    (r3.trans (Cert.InOddReferenceIdeal.Read.val_main_v59_eq _ _ _)).trans (congr (congr (congrArg (Cert.InOddReferenceIdeal.Read.val_main_v59 (F := Ideal)) h0) h1) h2),
    (r4.trans (Cert.InOddReferenceIdeal.Read.val_main_v55_eq _ _ _)).trans (congr (congr (congrArg (Cert.InOddReferenceIdeal.Read.val_main_v55 (F := Ideal)) h0) h1) h2),
    rest⟩

end Cert.InOddClaims

end
-- ==== Proof.OrderValue.lean ====
/- The learned rows first: what the result array holds after the run. -/
module

public import proofs.«01_k».proof.Proof.Gen.OrderKernelIdeal.Frame
public import proofs.«01_k».proof.Proof.Gen.OrderReferenceIdeal.Read
public import proofs.«01_k».proof.Proof.Gen.OrderReferenceIdeal.Run
public import Idealize.ShloMosaic.Lib.Pipeline.ValueKit
public import Idealize.ShloMosaic.Lib.VecWindow
public import Idealize.ShloMosaic.Lib.WholeRead

@[expose] public section

set_option maxRecDepth 16384

noncomputable section

namespace Cert.OrderValue

open Idealize.ShloMosaic Idealize.ShloMosaic.TcCoe Idealize.SL.Sem
open Idealize.ShloMosaic.Pipeline (Dat)
open Cert.OrderKernelIdeal Cert.OrderKernelIdeal.Gen
open scoped BigOperators

variable (m : (ℓ : Loc nD τ sig) → Buf (Elt Ideal) ℓ)

theorem idx : ∀ t : Fin cfg0.N, win0_0.index t = ![t.val, 0, 0] ∧ win0_1.index t = ![0, t.val, 0, 0] :=
  (by decide +kernel : ∀ t : Fin grid0.N, _)

abbrev X (c : Dev nD) : FVec Ideal S16x4160x512 .f32 := m ((c : Thread nD τ).loc main_arg0)

/-- The result's block at point `t` holds the reference's rows. -/
theorem pt (c : Dev nD) (t : Fin cfg0.N) (y : S1x1x4112x512.Idx) (z : S1x16x4112x512.Idx)
    (hz : z = ix4 (0 : Fin 1) (⟨t.val, lt_of_lt_of_eq t.isLt N_0⟩ : Fin 16) (y 2) (y 3)) :
    outsAt0 m c t y = Cert.OrderReferenceIdeal.Read.val_main_v3 (F := Ideal) (X m c) z := by
  have ht : t.val < 16 := lt_of_lt_of_eq t.isLt N_0
  subst hz
  unfold outsAt0
  frame_out
  canon_tiles x h using (View.cover_of_tiledBy _ ![1, 1, 16, 512] (by sl_kernel_rfl) y)
  all_goals (open_payloads; pointwise [Cert.OrderReferenceIdeal.Read.val_main_v3, Cert.OrderReferenceIdeal.Read.val_main_v2, Cert.OrderReferenceIdeal.Read.val_main_v1, Cert.OrderReferenceIdeal.Read.val_main_v0]; blk_point [iblk, V, idx t])

theorem final1 (c : Dev nD) : (dats m 0 c).arrAt 1 (cfgs 0).N = Cert.OrderReferenceIdeal.Read.val_main_v3 (F := Ideal) (X m c) := by
  refine (dats m 0 c).arrAt_eq_of_covers 1 _ (by decide +kernel) fun t hf y => ?_
  blk_simp
  rw [after0_1]
  exact pt m c t y _ (by blk_ext [idx t])

end Cert.OrderValue

end
-- ==== Proof.OrderClaims.lean ====
/- The claims about the order of a prompt's key or value rows. -/
module

public import proofs.«01_k».proof.Defs
public import proofs.«01_k».proof.Proof.Gen.OrderKernel.Frame
public import proofs.«01_k».proof.Proof.OrderValue
public import Idealize.ShloMosaic.Adequacy
public import Idealize.ShloMosaic.Init

@[expose] public section

noncomputable section

namespace Cert.OrderClaims

open Idealize.ShloMosaic Idealize.SL.Sem

theorem frame_kernel : Cert.quiescent_OrderKernel (hOrderKernel := Cert.OrderKernel.Gen.facts) := fun m ρ _ => Cert.OrderKernel.Gen.frame m ρ

theorem frame_ideal : Cert.quiescent_OrderKernelIdeal (hOrderKernelIdeal := Cert.OrderKernelIdeal.Gen.facts) := fun m ρ _ => Cert.OrderKernelIdeal.Gen.frame m ρ

theorem frame_reference : Cert.quiescent_OrderReferenceIdeal (hOrderReferenceIdeal := Cert.OrderReferenceIdeal.Gen.facts) := by
  intro m g _
  exact (θ_run Cert.OrderReferenceIdeal.defs _ _).mono (fun r h => ⟨fun c => (h c).2, sem_eq_zero_of_no_sems (by decide) r.2⟩)
    (Cert.OrderReferenceIdeal.Value.run (F := Ideal) m g)

theorem algebraic : Cert.algebraic_OrderKernelIdeal_OrderReferenceIdeal (hOrderKernelIdeal := Cert.OrderKernelIdeal.Gen.facts) (hOrderReferenceIdeal := Cert.OrderReferenceIdeal.Gen.facts) := by
  pair_intro
  · run_from Cert.OrderKernelIdeal.Gen.run_main m g
  · run_from Cert.OrderReferenceIdeal.Value.run m' g'
    · refine Eq.trans ?_ (Cert.OrderValue.final1 m c).symm
      exact (Cert.OrderReferenceIdeal.Read.val_main_v3_eq _).trans (congrArg (Cert.OrderReferenceIdeal.Read.val_main_v3 (F := Ideal)) (hagree c))

end Cert.OrderClaims

end
-- ==== Proof.NormValue.lean ====
/- The last normalisation: what the result array holds after the run. -/
module

public import proofs.«01_k».proof.Proof.Gen.NormKernelIdeal.Frame
public import proofs.«01_k».proof.Proof.Gen.NormReferenceIdeal.Read
public import proofs.«01_k».proof.Proof.Gen.NormReferenceIdeal.Run
public import Idealize.ShloMosaic.Lib.Pipeline.ValueKit
public import Idealize.ShloMosaic.Lib.VecWindow
public import Idealize.ShloMosaic.Lib.WholeRead

@[expose] public section

set_option maxRecDepth 16384

noncomputable section

namespace Cert.NormValue

open Idealize.ShloMosaic Idealize.ShloMosaic.TcCoe Idealize.SL.Sem
open Idealize.ShloMosaic.Pipeline (Dat)
open Cert.NormKernelIdeal Cert.NormKernelIdeal.Gen
open scoped BigOperators

variable (m : (ℓ : Loc nD τ sig) → Buf (Elt Ideal) ℓ)

theorem idx : ∀ t : Fin cfg0.N, win0_0.index t = ![t.val / 8, t.val % 8, 0] ∧ win0_1.index t = ![0, 0] ∧ win0_2.index t = ![t.val / 8, t.val % 8, 0] :=
  (by decide +kernel : ∀ t : Fin grid0.N, _)

abbrev X (c : Dev nD) : FVec Ideal S66560x1024 .f32 := m ((c : Thread nD τ).loc main_arg0)
abbrev G (c : Dev nD) : FVec Ideal S1024 .f32 := m ((c : Thread nD τ).loc main_arg1)

/-- The rows' block at point `t`, at an index. -/
theorem rows (c : Dev nD) (t : Fin cfg0.N) (r : Fin 512) (l : Fin 1024) :
    X0_0 m c t (ix3 (0 : Fin 1) r l) = X m c (ix2 (⟨t.val / 8 * 4160 + (t.val % 8 * 512 + r.val), by
      have := lt_of_lt_of_eq t.isLt N_0; omega⟩ : Fin 66560) l) := by
  have ht : t.val < 128 := lt_of_lt_of_eq t.isLt N_0
  unfold X0_0 Pipeline.Window.fill
  rw [dif_pos (moved0_0 t _)]
  blk_point [iblk, V, idx t]

/-- The result's block at point `t` holds the reference's rows. -/
theorem pt (c : Dev nD) (t : Fin cfg0.N) (y : S1x512x1024.Idx) (z : S16x4096x1024.Idx)
    (hz : z = ix3 (⟨t.val / 8, by have := lt_of_lt_of_eq t.isLt N_0; omega⟩ : Fin 16)
      (⟨t.val % 8 * 512 + (y 1).val, by have h1 : (y 1).val < 512 := (y 1).isLt; omega⟩ : Fin 4096) (y 2)) :
    outsAt0 m c t y = Cert.NormReferenceIdeal.Read.val_main_v14 (F := Ideal) (X m c) (G m c) z := by
  have ht : t.val < 128 := lt_of_lt_of_eq t.isLt N_0
  subst hz
  unfold outsAt0
  frame_out
  have ex := rows m c t
  generalize X0_0 m c t = xs at ex ⊢
  have ey : xs y = xs (ix3 (0 : Fin 1) (y 1) (y 2)) := congrArg xs (by
    funext a; match a with | ⟨0, _⟩ => exact Subsingleton.elim (α := Fin 1) _ _ | ⟨1, _⟩ => rfl | ⟨2, _⟩ => rfl)
  open_payloads
  pointwise [Cert.NormReferenceIdeal.Read.val_main_v14, Cert.NormReferenceIdeal.Read.val_main_v13, Cert.NormReferenceIdeal.Read.val_main_v12, Cert.NormReferenceIdeal.Read.val_main_v11, Cert.NormReferenceIdeal.Read.val_main_v10, Cert.NormReferenceIdeal.Read.val_main_v9, Cert.NormReferenceIdeal.Read.val_main_v8, Cert.NormReferenceIdeal.Read.val_main_v7, Cert.NormReferenceIdeal.Read.val_main_v6, Cert.NormReferenceIdeal.Read.val_main_v5, Cert.NormReferenceIdeal.Read.val_main_v4, Cert.NormReferenceIdeal.Read.val_main_v3, Cert.NormReferenceIdeal.Read.val_main_v2, Cert.NormReferenceIdeal.Read.val_main_v1, Cert.NormReferenceIdeal.Read.val_main_v0, Cert.NormReferenceIdeal.Read.val_main_cst, Cert.NormReferenceIdeal.Read.val_main_cst_0, Cert.NormReferenceIdeal.Read.val_main_cst_1]
  rw [ey]
  refine congrArg₂ (· * ·) (congrArg₂ (· * ·) (ex _ _) (congrArg Ideal.rsqrt (congrArg₂ (· + ·) (congrArg₂ Ideal.div
    (Finset.sum_congr rfl fun l _ => congrArg₂ (· * ·) (ex _ _) (ex _ _)) rfl) rfl))) ?_
  blk_point [iblk, V, idx t]

theorem final2 (c : Dev nD) : (dats m 0 c).arrAt 2 (cfgs 0).N = Cert.NormReferenceIdeal.Read.val_main_v14 (F := Ideal) (X m c) (G m c) := by
  refine (dats m 0 c).arrAt_eq_of_covers 2 _ (by decide +kernel) fun t hf y => ?_
  blk_simp
  rw [after0_2]
  exact pt m c t y _ (by blk_ext [idx t])

end Cert.NormValue

end
-- ==== Proof.NormClaims.lean ====
/- The claims about the last normalisation of the prompt. -/
module

public import proofs.«01_k».proof.Defs
public import proofs.«01_k».proof.Proof.Gen.NormKernel.Frame
public import proofs.«01_k».proof.Proof.NormValue
public import Idealize.ShloMosaic.Adequacy
public import Idealize.ShloMosaic.Init

@[expose] public section

noncomputable section

namespace Cert.NormClaims

open Idealize.ShloMosaic Idealize.SL.Sem

theorem frame_kernel : Cert.quiescent_NormKernel (hNormKernel := Cert.NormKernel.Gen.facts) := fun m ρ _ => Cert.NormKernel.Gen.frame m ρ

theorem frame_ideal : Cert.quiescent_NormKernelIdeal (hNormKernelIdeal := Cert.NormKernelIdeal.Gen.facts) := fun m ρ _ => Cert.NormKernelIdeal.Gen.frame m ρ

theorem frame_reference : Cert.quiescent_NormReferenceIdeal (hNormReferenceIdeal := Cert.NormReferenceIdeal.Gen.facts) := by
  intro m g _
  exact (θ_run Cert.NormReferenceIdeal.defs _ _).mono (fun r h => ⟨fun c => (h c).2, sem_eq_zero_of_no_sems (by decide) r.2⟩)
    (Cert.NormReferenceIdeal.Value.run (F := Ideal) m g)

theorem algebraic : Cert.algebraic_NormKernelIdeal_NormReferenceIdeal (hNormKernelIdeal := Cert.NormKernelIdeal.Gen.facts) (hNormReferenceIdeal := Cert.NormReferenceIdeal.Gen.facts) := by
  pair_intro
  · run_from Cert.NormKernelIdeal.Gen.run_main m g
  · run_from Cert.NormReferenceIdeal.Value.run m' g'
    · exact (Cert.NormValue.final2 m c).symm

end Cert.NormClaims

end
-- ==== Proof.GateValue.lean ====
/- The log forget gates: what the result array holds after the run. -/
module

public import proofs.«01_k».proof.Proof.Gen.GateKernelIdeal.Frame
public import proofs.«01_k».proof.Proof.Gen.GateReferenceIdeal.Read
public import proofs.«01_k».proof.Proof.Gen.GateReferenceIdeal.Run
public import Idealize.ShloMosaic.Lib.Pipeline.ValueKit
public import Idealize.ShloMosaic.Lib.VecWindow
public import Idealize.ShloMosaic.Lib.WholeRead
public import Idealize.ShloMosaic.Lib.Routing.OpsSet

@[expose] public section

set_option maxRecDepth 16384

noncomputable section

namespace Cert.GateValue

open Idealize.ShloMosaic Idealize.ShloMosaic.TcCoe Idealize.SL.Sem
open Idealize.ShloMosaic.Pipeline (Dat)
open Cert.GateKernelIdeal Cert.GateKernelIdeal.Gen
open scoped BigOperators

variable (m : (ℓ : Loc nD τ sig) → Buf (Elt Ideal) ℓ)

theorem idx : ∀ t : Fin cfg0.N, win0_0.index t = ![t.val, 0, 0] ∧ win0_1.index t = ![0, 0] ∧ win0_2.index t = ![t.val, 0, 0] ∧ win0_3.index t = ![t.val, 0, 0] :=
  (by decide +kernel : ∀ t : Fin grid0.N, _)

abbrev X (c : Dev nD) : FVec Ideal S16x4160x128 .f32 := m ((c : Thread nD τ).loc main_arg0)
abbrev G (c : Dev nD) : FVec Ideal S8 .f32 := m ((c : Thread nD τ).loc main_arg1)

/-- The bias row at one of its first eight lanes. -/
theorem bias (c : Dev nD) (j : Fin 8) : V m c main_v4 (ix2 (0 : Fin 1) (⟨j.val, by omega⟩ : Fin 128)) = m ((c : Thread nD τ).loc main_arg1) (ix1 j) := by
  have e : (V m c main_v4 : FVec Ideal S1x128 .f32) = Host.scatter scatter_S1x128_S2_S8_0_0_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (m ((c : Thread nD τ).loc main_arg1)) := by
    show StableHlo.after ([hostOps0].flatten) _ _ = _
    simp only [List.flatten_cons, List.flatten_nil, List.append_nil]
    after_results
  rw [e]
  generalize hx : concatenate S2 0 [⟨S1, broadcastInDim S1 ![] bcast_S_S1 (constantI S_ 32 0#32)⟩, ⟨S1, broadcastInDim S1 ![] bcast_S_S1 (constantI S_ 32 0#32)⟩] concatenates_S1_S1_S2_d0 = ix
  have h0 : ∀ j, ix j = 0#32 := by subst hx; intro j; pointwise; split <;> rfl
  have lands : ∀ q : S8.Idx, scatter_S1x128_S2_S8_0_0_01_0.resultIdx? q ix = some (ix2 (0 : Fin 1) (⟨j.val, by omega⟩ : Fin 128)) ↔ (q 0).val = j.val := by
    intro q
    have s1 : scatter_S1x128_S2_S8_0_0_01_0.start q ix 1 = 0 := by
      unfold ScatterDims.start; rw [dif_pos (by decide), h0]; rfl
    have s0 : scatter_S1x128_S2_S8_0_0_01_0.start q ix 0 = 0 := by
      unfold ScatterDims.start; rw [dif_pos (by decide), h0]; rfl
    have w0 : scatter_S1x128_S2_S8_0_0_01_0.window q 0 = 0 := by
      unfold ScatterDims.window; rw [dif_neg (by decide)]
    have w1 : scatter_S1x128_S2_S8_0_0_01_0.window q 1 = (q 0).val := by
      unfold ScatterDims.window; rw [dif_pos (by decide)]; rfl
    refine (Routing.resultIdx?_ix2 _ q ix _ _).trans ?_
    rw [s0, s1, w0, w1]
    show _ ∧ _ + (((q 0).val : ℕ) : ℤ) = ((j.val : ℕ) : ℤ) ↔ _
    constructor
    · rintro ⟨_, h⟩; omega
    · intro h; exact ⟨by decide, by omega⟩
  exact Routing.scatter_set_hit _ _ ix _ _ _ (fun q hq => congrArg _ (by
    rw [eq_ix1 q]; exact congrArg ix1 (Fin.ext ((lands q).1 hq)))) (ix1 j) ((lands _).2 rfl)

/-- The comparison that keeps a row of the last sixteen. -/
theorem keep (r : Fin 64) (h : 48 ≤ r.val) : IntOp.cmpi CmpIPredicate.sge (BitVec.ofNat 32 r.val) 48#32 = 1#1 :=
  (by decide +kernel : ∀ r : Fin 64, 48 ≤ r.val → IntOp.cmpi CmpIPredicate.sge (BitVec.ofNat 32 r.val) 48#32 = 1#1) r h

/-- The comparison that drops a row of padding. -/
theorem drop (r : Fin 64) (h : ¬ 48 ≤ r.val) : ¬ IntOp.cmpi CmpIPredicate.sge (BitVec.ofNat 32 r.val) 48#32 = 1#1 :=
  (by decide +kernel : ∀ r : Fin 64, ¬ 48 ≤ r.val → ¬ IntOp.cmpi CmpIPredicate.sge (BitVec.ofNat 32 r.val) 48#32 = 1#1) r h

/-- One log forget gate. -/
def logSig (x : EReal) : EReal := min x 0 - Ideal.log (1 + Ideal.exp (0 - max x (-x)))

/-- The gates of the rows that the prompt has; the rows of padding are zero. -/
def gates (x : FVec Ideal S16x4160x128 .f32) (b : FVec Ideal S1x128 .f32) : FVec Ideal S16x4160x128 .f32 := fun i =>
  if (i 1).val < 4096 ∨ 4144 ≤ (i 1).val then logSig (x i + b (ix2 (0 : Fin 1) (i 2))) else (0 : EReal)

/-- The gates' block at point `t`. -/
theorem pt (c : Dev nD) (t : Fin cfg0.N) (y : S1x4160x128.Idx) (z : S16x4160x128.Idx)
    (hz : z = ix3 (⟨t.val, lt_of_lt_of_eq t.isLt N_0⟩ : Fin 16) (y 1) (y 2)) :
    (outsAt0 m c t).1 y = gates (X m c) (V m c main_v4) z := by
  have ht : t.val < 16 := lt_of_lt_of_eq t.isLt N_0
  subst hz
  unfold outsAt0
  frame_out
  canon_tiles x h using (View.cover_of_tiledBy _ ![1, 64, 128] (by sl_kernel_rfl) y)
  iterate 8
    · have hy : (y 1).val < 4096 := by omega
      have e : gates (X m c) (V m c main_v4) (ix3 (⟨t.val, lt_of_lt_of_eq t.isLt N_0⟩ : Fin 16) (y 1) (y 2))
          = logSig (X m c (ix3 (⟨t.val, lt_of_lt_of_eq t.isLt N_0⟩ : Fin 16) (y 1) (y 2)) + V m c main_v4 (ix2 (0 : Fin 1) (y 2))) := if_pos (.inl hy)
      refine Eq.trans ?_ e.symm
      open_payloads
      pointwise
      refine congrArg logSig (congrArg₂ (· + ·) ?_ ?_)
      all_goals blk_point [iblk, idx t]
  · by_cases hr : 48 ≤ (x 1).val
    · have e : gates (X m c) (V m c main_v4) (ix3 (⟨t.val, lt_of_lt_of_eq t.isLt N_0⟩ : Fin 16) (y 1) (y 2))
          = logSig (X m c (ix3 (⟨t.val, lt_of_lt_of_eq t.isLt N_0⟩ : Fin 16) (y 1) (y 2)) + V m c main_v4 (ix2 (0 : Fin 1) (y 2))) :=
        if_pos (.inr (by show 4144 ≤ (y 1).val; omega))
      refine Eq.trans ?_ e.symm
      open_payloads
      pointwise
      refine (if_pos (keep (x 1) hr)).trans ?_
      refine congrArg logSig (congrArg₂ (· + ·) ?_ ?_)
      all_goals blk_point [iblk, idx t]
    · have e : gates (X m c) (V m c main_v4) (ix3 (⟨t.val, lt_of_lt_of_eq t.isLt N_0⟩ : Fin 16) (y 1) (y 2)) = (0 : EReal) :=
        if_neg (by show ¬ ((y 1).val < 4096 ∨ 4144 ≤ (y 1).val); omega)
      refine Eq.trans ?_ e.symm
      open_payloads
      pointwise
      exact if_neg (drop (x 1) hr)

theorem final3 (c : Dev nD) : (dats m 0 c).arrAt 3 (cfgs 0).N = gates (X m c) (V m c main_v4) := by
  refine (dats m 0 c).arrAt_eq_of_covers 3 _ (by decide +kernel) fun t hf y => ?_
  blk_simp
  rw [after0_3]
  exact pt m c t y _ (by blk_ext [idx t])

/-- `-softplus(-x)`, as the reference writes it, is the kernel's gate. -/
theorem logSig_eq (x : EReal) : -(max (-x) 0 + Ideal.log1p (Ideal.exp (-(max (-x) (- -x))))) = logSig x := by
  have e1 : max (-x) (- -x) = max x (-x) := by rw [neg_neg, max_comm]
  rw [e1]
  unfold logSig Ideal.log1p
  rw [zero_sub]
  have hb : Ideal.log (1 + Ideal.exp (-(max x (-x)))) ≠ ⊥ := by
    generalize -(max x (-x)) = z
    induction z with
    | bot => rw [Ideal.exp_bot, add_zero]; show Ideal.log ((1 : ℝ) : EReal) ≠ ⊥; rw [Ideal.log_coe, if_neg (by norm_num)]; exact EReal.coe_ne_bot _
    | top => rw [Ideal.exp_top, EReal.add_top_of_ne_bot (by decide)]; decide
    | coe r =>
      rw [Ideal.exp_coe]
      show Ideal.log (((1 : ℝ) : EReal) + ((Real.exp r : ℝ) : EReal)) ≠ ⊥
      rw [← EReal.coe_add, Ideal.log_coe, if_neg (by have := Real.exp_pos r; linarith)]
      exact EReal.coe_ne_bot _
  have hm : max (-x) 0 ≠ ⊥ := fun h => by
    have : (0 : EReal) ≤ ⊥ := h ▸ le_max_right _ _
    exact absurd this (by decide)
  rw [EReal.neg_add (.inl hm) (.inr hb), ← EReal.min_neg_neg, neg_neg, neg_zero]

/-- The reference's way of writing the logarithm of the sigmoid: minus the softplus of the negated number. -/
theorem softplus_eq (x : Ideal .f32) :
    -(if -x ≠ -x then -x else max (-x) 0 + Ideal.log1p (Ideal.exp (-(FloatOps.absf (-x))))) = logSig x := by
  rw [if_neg (fun h => h rfl)]
  exact logSig_eq x

/-- The result after the lines that follow the region: the gates' rows in the sequence's order, eight lanes. -/
theorem tail (c : Dev nD) : (Pipeline.afterTail₀ cfgs (dats m) 0 (V0 m) [hostOps1] c main_v10 : FVec Ideal S16x4112x8 .f32)
    = extractStridedSlice S16x4112x8 ![0, 0, 0] (concatenate S16x4112x128 1
        [⟨S16x16x128, extractStridedSlice S16x16x128 ![0, 4144, 0] (gates (X m c) (V m c main_v4)) slices_S16x4160x128_S16x16x128_0_4144_0⟩,
         ⟨S16x4096x128, extractStridedSlice S16x4096x128 ![0, 0, 0] (gates (X m c) (V m c main_v4)) slices_S16x4160x128_S16x4096x128_0_0_0⟩]
        concatenates_S16x16x128_S16x4096x128_S16x4112x128_d1) slices_S16x4112x128_S16x4112x8_0_0_0 := by
  have e : Pipeline.withArrays spec0 c (V0 m c) (fun w => (dats m 0 c).arrAt w (cfgs 0).N) (Proc.devRef .tc main_v6_0) = gates (X m c) (V m c main_v4) :=
    (Pipeline.withArrays_arr spec0 (by decide) c (V0 m c) _ 3).trans (final3 m c)
  unfold Pipeline.afterTail₀
  simp only [List.flatten_cons, List.flatten_nil, List.append_nil]
  after_results
  have cc : ∀ a a' : FVec Ideal S16x4160x128 .f32, a = gates (X m c) (V m c main_v4) → a' = gates (X m c) (V m c main_v4) →
      extractStridedSlice S16x4112x8 ![0, 0, 0] (concatenate S16x4112x128 1
        [⟨S16x16x128, extractStridedSlice S16x16x128 ![0, 4144, 0] a slices_S16x4160x128_S16x16x128_0_4144_0⟩,
         ⟨S16x4096x128, extractStridedSlice S16x4096x128 ![0, 0, 0] a' slices_S16x4160x128_S16x4096x128_0_0_0⟩]
        concatenates_S16x16x128_S16x4096x128_S16x4112x128_d1) slices_S16x4112x128_S16x4112x8_0_0_0
      = extractStridedSlice S16x4112x8 ![0, 0, 0] (concatenate S16x4112x128 1
        [⟨S16x16x128, extractStridedSlice S16x16x128 ![0, 4144, 0] (gates (X m c) (V m c main_v4)) slices_S16x4160x128_S16x16x128_0_4144_0⟩,
         ⟨S16x4096x128, extractStridedSlice S16x4096x128 ![0, 0, 0] (gates (X m c) (V m c main_v4)) slices_S16x4160x128_S16x4096x128_0_0_0⟩]
        concatenates_S16x16x128_S16x4096x128_S16x4112x128_d1) slices_S16x4112x128_S16x4112x8_0_0_0 := by rintro _ _ rfl rfl; rfl
  exact cc _ _ e e

/-- The bias is left as it was. -/
theorem kept (c : Dev nD) : Pipeline.afterTail₀ cfgs (dats m) 0 (V0 m) [hostOps1] c main_arg1 = m ((c : Thread nD τ).loc main_arg1) := by
  unfold Pipeline.afterTail₀
  simp only [List.flatten_cons, List.flatten_nil, List.append_nil]
  after_results
  refine (Pipeline.withArrays_of_ne spec0 c (V0 m c) _ main_arg1 (by decide)).trans ?_
  show StableHlo.after ([hostOps0].flatten) _ _ = _
  simp only [List.flatten_cons, List.flatten_nil, List.append_nil]
  after_results

theorem result (c : Dev nD) : (Pipeline.afterTail₀ cfgs (dats m) 0 (V0 m) [hostOps1] c main_v10 : FVec Ideal S16x4112x8 .f32)
    = Cert.GateReferenceIdeal.Read.val_main_v7 (F := Ideal) (X m c) (m ((c : Thread nD τ).loc main_arg1)) := by
  rw [tail]
  funext i
  rw [eq_ix3 i]
  have h2 : (i 2).val < 8 := (i 2).isLt
  have hb := bias m c ⟨(i 2).val, h2⟩
  generalize i 0 = i0, i 1 = i1, i 2 = i2 at *
  pointwise [Cert.GateReferenceIdeal.Read.val_main_v7, Cert.GateReferenceIdeal.Read.val_main_call0_v1, Cert.GateReferenceIdeal.Read.val_main_call0_call0_v11, Cert.GateReferenceIdeal.Read.val_main_call0_call0_v10, Cert.GateReferenceIdeal.Read.val_main_call0_call0_v9, Cert.GateReferenceIdeal.Read.val_main_call0_call0_v8, Cert.GateReferenceIdeal.Read.val_main_call0_call0_v7, Cert.GateReferenceIdeal.Read.val_main_call0_call0_v6, Cert.GateReferenceIdeal.Read.val_main_call0_call0_v5, Cert.GateReferenceIdeal.Read.val_main_call0_call0_v4, Cert.GateReferenceIdeal.Read.val_main_call0_call0_v3, Cert.GateReferenceIdeal.Read.val_main_call0_call0_v2, Cert.GateReferenceIdeal.Read.val_main_call0_call0_v1, Cert.GateReferenceIdeal.Read.val_main_call0_call0_v0, Cert.GateReferenceIdeal.Read.val_main_call0_call0_cst, Cert.GateReferenceIdeal.Read.val_main_call0_v0, Cert.GateReferenceIdeal.Read.val_main_v6, Cert.GateReferenceIdeal.Read.val_main_v5, Cert.GateReferenceIdeal.Read.val_main_v4, Cert.GateReferenceIdeal.Read.val_main_v3, Cert.GateReferenceIdeal.Read.val_main_v2, Cert.GateReferenceIdeal.Read.val_main_v1, Cert.GateReferenceIdeal.Read.val_main_v0]
  refine Eq.trans ?_ (softplus_eq _).symm
  by_cases h : i1.val < 16
  · rw [dif_pos h, dif_pos h]
    exact (if_pos (.inr (by show 4144 ≤ 4144 + i1.val; omega))).trans (congrArg logSig (congrArg₂ (· + ·) rfl hb))
  · have h1 : i1.val < 4112 := i1.isLt
    rw [dif_neg h, dif_neg h]
    exact (if_pos (.inl (by show i1.val - 16 < 4096; omega))).trans (congrArg logSig (congrArg₂ (· + ·) rfl hb))

end Cert.GateValue

end
-- ==== Proof.GateClaims.lean ====
/- The claims about the log forget gates of the prompt. -/
module

public import proofs.«01_k».proof.Defs
public import proofs.«01_k».proof.Proof.Gen.GateKernel.Frame
public import proofs.«01_k».proof.Proof.GateValue
public import Idealize.ShloMosaic.Adequacy
public import Idealize.ShloMosaic.Init

@[expose] public section

noncomputable section

namespace Cert.GateClaims

open Idealize.ShloMosaic Idealize.SL.Sem

theorem frame_kernel : Cert.quiescent_GateKernel (hGateKernel := Cert.GateKernel.Gen.facts) := fun m ρ _ => Cert.GateKernel.Gen.frame m ρ

theorem frame_ideal : Cert.quiescent_GateKernelIdeal (hGateKernelIdeal := Cert.GateKernelIdeal.Gen.facts) := fun m ρ _ => Cert.GateKernelIdeal.Gen.frame m ρ

theorem frame_reference : Cert.quiescent_GateReferenceIdeal (hGateReferenceIdeal := Cert.GateReferenceIdeal.Gen.facts) := by
  intro m g _
  exact (θ_run Cert.GateReferenceIdeal.defs _ _).mono (fun r h => ⟨fun c => (h c).2, sem_eq_zero_of_no_sems (by decide) r.2⟩)
    (Cert.GateReferenceIdeal.Value.run (F := Ideal) m g)

theorem algebraic : Cert.algebraic_GateKernelIdeal_GateReferenceIdeal (hGateKernelIdeal := Cert.GateKernelIdeal.Gen.facts) (hGateReferenceIdeal := Cert.GateReferenceIdeal.Gen.facts) := by
  pair_intro
  · run_from Cert.GateKernelIdeal.Gen.run_main m g
    exact Cert.GateValue.kept m c
  · run_from Cert.GateReferenceIdeal.Value.run m' g'
    · exact (Cert.GateValue.result m c).symm

end Cert.GateClaims

end
-- ==== Proof.SampleNormValue.lean ====
/- The last normalisation: what the result array holds after the run. -/
module

public import proofs.«01_k».proof.Proof.Gen.SampleNormKernelIdeal.Frame
public import proofs.«01_k».proof.Proof.Gen.SampleNormReferenceIdeal.Read
public import proofs.«01_k».proof.Proof.Gen.SampleNormReferenceIdeal.Run
public import Idealize.ShloMosaic.Lib.Pipeline.ValueKit
public import Idealize.ShloMosaic.Lib.VecWindow
public import Idealize.ShloMosaic.Lib.WholeRead

@[expose] public section

set_option maxRecDepth 16384

noncomputable section

namespace Cert.SampleNormValue

open Idealize.ShloMosaic Idealize.ShloMosaic.TcCoe Idealize.SL.Sem
open Idealize.ShloMosaic.Pipeline (Dat)
open Cert.SampleNormKernelIdeal Cert.SampleNormKernelIdeal.Gen
open scoped BigOperators

variable (m : (ℓ : Loc nD τ sig) → Buf (Elt Ideal) ℓ)

theorem idx : ∀ t : Fin cfg0.N, win0_0.index t = ![t.val, 0, 0] ∧ win0_1.index t = ![0, 0] ∧ win0_2.index t = ![t.val, 0, 0] :=
  (by decide +kernel : ∀ t : Fin grid0.N, _)

abbrev X (c : Dev nD) : FVec Ideal S256x1024 .f32 := m ((c : Thread nD τ).loc main_arg0)
abbrev G (c : Dev nD) : FVec Ideal S1024 .f32 := m ((c : Thread nD τ).loc main_arg1)

/-- The result's block at point `t` holds the reference's rows. -/
theorem pt (c : Dev nD) (t : Fin cfg0.N) (y : S1x32x1024.Idx) (z : S8x32x1024.Idx)
    (hz : z = ix3 (⟨t.val, by have := lt_of_lt_of_eq t.isLt N_0; omega⟩ : Fin 8) (⟨(y 1).val, (y 1).isLt⟩ : Fin 32) (y 2)) :
    out0_2 (iblk m c 0 t) (iblk m c 1 t) y = Cert.SampleNormReferenceIdeal.Read.val_main_v13 (F := Ideal) (X m c) (G m c) z := by
  have ht : t.val < 8 := lt_of_lt_of_eq t.isLt N_0
  subst hz
  canon_tiles x h
  all_goals
    open_payloads
    pointwise [Cert.SampleNormReferenceIdeal.Read.val_main_v13, Cert.SampleNormReferenceIdeal.Read.val_main_v12, Cert.SampleNormReferenceIdeal.Read.val_main_v11, Cert.SampleNormReferenceIdeal.Read.val_main_v10, Cert.SampleNormReferenceIdeal.Read.val_main_v9, Cert.SampleNormReferenceIdeal.Read.val_main_v8, Cert.SampleNormReferenceIdeal.Read.val_main_v7, Cert.SampleNormReferenceIdeal.Read.val_main_v6, Cert.SampleNormReferenceIdeal.Read.val_main_v5, Cert.SampleNormReferenceIdeal.Read.val_main_cst_1, Cert.SampleNormReferenceIdeal.Read.val_main_v4, Cert.SampleNormReferenceIdeal.Read.val_main_v3, Cert.SampleNormReferenceIdeal.Read.val_main_cst_0, Cert.SampleNormReferenceIdeal.Read.val_main_v2, Cert.SampleNormReferenceIdeal.Read.val_main_v1, Cert.SampleNormReferenceIdeal.Read.val_main_cst, Cert.SampleNormReferenceIdeal.Read.val_main_v0]
    refine congrArg₂ (· * ·) (congrArg₂ (· * ·) ?_ (congrArg Ideal.rsqrt (congrArg₂ (· + ·) (congrArg₂ Ideal.div
      (Finset.sum_congr rfl fun l _ => congrArg₂ (· * ·) ?_ ?_) rfl) rfl))) ?_
    all_goals blk_point [iblk, V, idx t]

theorem final2 (c : Dev nD) : (dats m 0 c).arrAt 2 (cfgs 0).N = Cert.SampleNormReferenceIdeal.Read.val_main_v13 (F := Ideal) (X m c) (G m c) := by
  refine (dats m 0 c).arrAt_eq_of_covers 2 _ (by decide +kernel) fun t hf y => ?_
  blk_simp
  rw [after0_2]
  exact pt m c t y _ (by blk_ext [idx t])

end Cert.SampleNormValue

end
-- ==== Proof.SampleNormClaims.lean ====
/- The claims about the last normalisation of the sample. -/
module

public import proofs.«01_k».proof.Defs
public import proofs.«01_k».proof.Proof.Gen.SampleNormKernel.Frame
public import proofs.«01_k».proof.Proof.SampleNormValue
public import Idealize.ShloMosaic.Adequacy
public import Idealize.ShloMosaic.Init

@[expose] public section

noncomputable section

namespace Cert.SampleNormClaims

open Idealize.ShloMosaic Idealize.SL.Sem

theorem frame_kernel : Cert.quiescent_SampleNormKernel (hSampleNormKernel := Cert.SampleNormKernel.Gen.facts) := fun m ρ _ => Cert.SampleNormKernel.Gen.frame m ρ

theorem frame_ideal : Cert.quiescent_SampleNormKernelIdeal (hSampleNormKernelIdeal := Cert.SampleNormKernelIdeal.Gen.facts) := fun m ρ _ => Cert.SampleNormKernelIdeal.Gen.frame m ρ

theorem frame_reference : Cert.quiescent_SampleNormReferenceIdeal (hSampleNormReferenceIdeal := Cert.SampleNormReferenceIdeal.Gen.facts) := by
  intro m g _
  exact (θ_run Cert.SampleNormReferenceIdeal.defs _ _).mono (fun r h => ⟨fun c => (h c).2, sem_eq_zero_of_no_sems (by decide) r.2⟩)
    (Cert.SampleNormReferenceIdeal.Value.run (F := Ideal) m g)

theorem algebraic : Cert.algebraic_SampleNormKernelIdeal_SampleNormReferenceIdeal (hSampleNormKernelIdeal := Cert.SampleNormKernelIdeal.Gen.facts) (hSampleNormReferenceIdeal := Cert.SampleNormReferenceIdeal.Gen.facts) := by
  pair_intro
  · run_from Cert.SampleNormKernelIdeal.Gen.run_main m g
  · run_from Cert.SampleNormReferenceIdeal.Value.run m' g'
    · exact (Cert.SampleNormValue.final2 m c).symm

end Cert.SampleNormClaims

end
-- ==== Proof.SampleGateValue.lean ====
/- The log forget gates: what the result array holds after the run. -/
module

public import proofs.«01_k».proof.Proof.Gen.SampleGateKernelIdeal.Frame
public import proofs.«01_k».proof.Proof.Gen.SampleGateReferenceIdeal.Read
public import proofs.«01_k».proof.Proof.Gen.SampleGateReferenceIdeal.Run
public import Idealize.ShloMosaic.Lib.Pipeline.ValueKit
public import Idealize.ShloMosaic.Lib.VecWindow
public import Idealize.ShloMosaic.Lib.WholeRead
public import Idealize.ShloMosaic.Lib.Routing.OpsSet

@[expose] public section

set_option maxRecDepth 16384

noncomputable section

namespace Cert.SampleGateValue

open Idealize.ShloMosaic Idealize.ShloMosaic.TcCoe Idealize.SL.Sem
open Idealize.ShloMosaic.Pipeline (Dat)
open Cert.SampleGateKernelIdeal Cert.SampleGateKernelIdeal.Gen
open scoped BigOperators

variable (m : (ℓ : Loc nD τ sig) → Buf (Elt Ideal) ℓ)

theorem idx : ∀ t : Fin cfg0.N, win0_0.index t = ![t.val, 0, 0] ∧ win0_1.index t = ![0, 0] ∧ win0_2.index t = ![t.val, 0, 0] ∧ win0_3.index t = ![t.val, 0, 0] :=
  (by decide +kernel : ∀ t : Fin grid0.N, _)

abbrev X (c : Dev nD) : FVec Ideal S8x32x128 .f32 := m ((c : Thread nD τ).loc main_arg0)
abbrev G (c : Dev nD) : FVec Ideal S8 .f32 := m ((c : Thread nD τ).loc main_arg1)

/-- The bias row at one of its first eight lanes. -/
theorem bias (c : Dev nD) (j : Fin 8) : V m c main_v4 (ix2 (0 : Fin 1) (⟨j.val, by omega⟩ : Fin 128)) = m ((c : Thread nD τ).loc main_arg1) (ix1 j) := by
  have e : (V m c main_v4 : FVec Ideal S1x128 .f32) = Host.scatter scatter_S1x128_S2_S8_0_0_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (m ((c : Thread nD τ).loc main_arg1)) := by
    show StableHlo.after ([hostOps0].flatten) _ _ = _
    simp only [List.flatten_cons, List.flatten_nil, List.append_nil]
    after_results
  rw [e]
  generalize hx : concatenate S2 0 [⟨S1, broadcastInDim S1 ![] bcast_S_S1 (constantI S_ 32 0#32)⟩, ⟨S1, broadcastInDim S1 ![] bcast_S_S1 (constantI S_ 32 0#32)⟩] concatenates_S1_S1_S2_d0 = ix
  have h0 : ∀ j, ix j = 0#32 := by subst hx; intro j; pointwise; split <;> rfl
  have lands : ∀ q : S8.Idx, scatter_S1x128_S2_S8_0_0_01_0.resultIdx? q ix = some (ix2 (0 : Fin 1) (⟨j.val, by omega⟩ : Fin 128)) ↔ (q 0).val = j.val := by
    intro q
    have s1 : scatter_S1x128_S2_S8_0_0_01_0.start q ix 1 = 0 := by
      unfold ScatterDims.start; rw [dif_pos (by decide), h0]; rfl
    have s0 : scatter_S1x128_S2_S8_0_0_01_0.start q ix 0 = 0 := by
      unfold ScatterDims.start; rw [dif_pos (by decide), h0]; rfl
    have w0 : scatter_S1x128_S2_S8_0_0_01_0.window q 0 = 0 := by
      unfold ScatterDims.window; rw [dif_neg (by decide)]
    have w1 : scatter_S1x128_S2_S8_0_0_01_0.window q 1 = (q 0).val := by
      unfold ScatterDims.window; rw [dif_pos (by decide)]; rfl
    refine (Routing.resultIdx?_ix2 _ q ix _ _).trans ?_
    rw [s0, s1, w0, w1]
    show _ ∧ _ + (((q 0).val : ℕ) : ℤ) = ((j.val : ℕ) : ℤ) ↔ _
    constructor
    · rintro ⟨_, h⟩; omega
    · intro h; exact ⟨by decide, by omega⟩
  exact Routing.scatter_set_hit _ _ ix _ _ _ (fun q hq => congrArg _ (by
    rw [eq_ix1 q]; exact congrArg ix1 (Fin.ext ((lands q).1 hq)))) (ix1 j) ((lands _).2 rfl)

/-- One log forget gate. -/
def logSig (x : EReal) : EReal := min x 0 - Ideal.log (1 + Ideal.exp (0 - max x (-x)))

/-- The gates of the rows, 128 lanes a row. -/
def gates (x : FVec Ideal S8x32x128 .f32) (b : FVec Ideal S1x128 .f32) : FVec Ideal S8x32x128 .f32 := fun i =>
  logSig (x i + b (ix2 (0 : Fin 1) (i 2)))

/-- The gates' block at point `t`. -/
theorem pt (c : Dev nD) (t : Fin cfg0.N) (y : S1x32x128.Idx) (z : S8x32x128.Idx)
    (hz : z = ix3 (⟨t.val, lt_of_lt_of_eq t.isLt N_0⟩ : Fin 8) (y 1) (y 2)) :
    out0_3 (iblk m c 0 t) (iblk m c 1 t) (iblk m c 2 t) y = gates (X m c) (V m c main_v4) z := by
  have ht : t.val < 8 := lt_of_lt_of_eq t.isLt N_0
  subst hz
  unfold gates
  canon_tiles x h
  all_goals
    open_payloads
    pointwise
    refine congrArg logSig (congrArg₂ (· + ·) ?_ ?_)
    all_goals blk_point [iblk, idx t]

theorem final3 (c : Dev nD) : (dats m 0 c).arrAt 3 (cfgs 0).N = gates (X m c) (V m c main_v4) := by
  refine (dats m 0 c).arrAt_eq_of_covers 3 _ (by decide +kernel) fun t hf y => ?_
  blk_simp
  rw [after0_3]
  exact pt m c t y _ (by blk_ext [idx t])

/-- `-softplus(-x)`, as the reference writes it, is the kernel's gate. -/
theorem logSig_eq (x : EReal) : -(max (-x) 0 + Ideal.log1p (Ideal.exp (-(max (-x) (- -x))))) = logSig x := by
  have e1 : max (-x) (- -x) = max x (-x) := by rw [neg_neg, max_comm]
  rw [e1]
  unfold logSig Ideal.log1p
  rw [zero_sub]
  have hb : Ideal.log (1 + Ideal.exp (-(max x (-x)))) ≠ ⊥ := by
    generalize -(max x (-x)) = z
    induction z with
    | bot => rw [Ideal.exp_bot, add_zero]; show Ideal.log ((1 : ℝ) : EReal) ≠ ⊥; rw [Ideal.log_coe, if_neg (by norm_num)]; exact EReal.coe_ne_bot _
    | top => rw [Ideal.exp_top, EReal.add_top_of_ne_bot (by decide)]; decide
    | coe r =>
      rw [Ideal.exp_coe]
      show Ideal.log (((1 : ℝ) : EReal) + ((Real.exp r : ℝ) : EReal)) ≠ ⊥
      rw [← EReal.coe_add, Ideal.log_coe, if_neg (by have := Real.exp_pos r; linarith)]
      exact EReal.coe_ne_bot _
  have hm : max (-x) 0 ≠ ⊥ := fun h => by
    have : (0 : EReal) ≤ ⊥ := h ▸ le_max_right _ _
    exact absurd this (by decide)
  rw [EReal.neg_add (.inl hm) (.inr hb), ← EReal.min_neg_neg, neg_neg, neg_zero]

/-- The reference's way of writing the logarithm of the sigmoid: minus the softplus of the negated number. -/
theorem softplus_eq (x : Ideal .f32) :
    -(if -x ≠ -x then -x else max (-x) 0 + Ideal.log1p (Ideal.exp (-(FloatOps.absf (-x))))) = logSig x := by
  rw [if_neg (fun h => h rfl)]
  exact logSig_eq x

/-- The result after the line that follows the region: the first eight lanes of the gates. -/
theorem tail (c : Dev nD) : (Pipeline.afterTail₀ cfgs (dats m) 0 (V0 m) [hostOps1] c main_v7 : FVec Ideal S8x32x8 .f32)
    = extractStridedSlice S8x32x8 ![0, 0, 0] (gates (X m c) (V m c main_v4)) slices_S8x32x128_S8x32x8_0_0_0 := by
  have e : Pipeline.withArrays spec0 c (V0 m c) (fun w => (dats m 0 c).arrAt w (cfgs 0).N) (Proc.devRef .tc main_v6_0) = gates (X m c) (V m c main_v4) :=
    (Pipeline.withArrays_arr spec0 (by decide) c (V0 m c) _ 3).trans (final3 m c)
  unfold Pipeline.afterTail₀
  simp only [List.flatten_cons, List.flatten_nil, List.append_nil]
  after_results
  exact congrArg (fun a : FVec Ideal S8x32x128 .f32 => extractStridedSlice S8x32x8 ![0, 0, 0] a slices_S8x32x128_S8x32x8_0_0_0) e

/-- The bias is left as it was. -/
theorem kept (c : Dev nD) : Pipeline.afterTail₀ cfgs (dats m) 0 (V0 m) [hostOps1] c main_arg1 = m ((c : Thread nD τ).loc main_arg1) := by
  unfold Pipeline.afterTail₀
  simp only [List.flatten_cons, List.flatten_nil, List.append_nil]
  after_results
  refine (Pipeline.withArrays_of_ne spec0 c (V0 m c) _ main_arg1 (by decide)).trans ?_
  show StableHlo.after ([hostOps0].flatten) _ _ = _
  simp only [List.flatten_cons, List.flatten_nil, List.append_nil]
  after_results

theorem result (c : Dev nD) : (Pipeline.afterTail₀ cfgs (dats m) 0 (V0 m) [hostOps1] c main_v7 : FVec Ideal S8x32x8 .f32)
    = Cert.SampleGateReferenceIdeal.Read.val_main_v4 (F := Ideal) (X m c) (m ((c : Thread nD τ).loc main_arg1)) := by
  rw [tail]
  funext i
  rw [eq_ix3 i]
  have h2 : (i 2).val < 8 := (i 2).isLt
  have hb := bias m c ⟨(i 2).val, h2⟩
  generalize i 0 = i0, i 1 = i1, i 2 = i2 at *
  pointwise [Cert.SampleGateReferenceIdeal.Read.val_main_v4, Cert.SampleGateReferenceIdeal.Read.val_main_call0_v1, Cert.SampleGateReferenceIdeal.Read.val_main_call0_call0_v11, Cert.SampleGateReferenceIdeal.Read.val_main_call0_call0_v10, Cert.SampleGateReferenceIdeal.Read.val_main_call0_call0_v9, Cert.SampleGateReferenceIdeal.Read.val_main_call0_call0_v8, Cert.SampleGateReferenceIdeal.Read.val_main_call0_call0_v7, Cert.SampleGateReferenceIdeal.Read.val_main_call0_call0_v6, Cert.SampleGateReferenceIdeal.Read.val_main_call0_call0_v5, Cert.SampleGateReferenceIdeal.Read.val_main_call0_call0_v4, Cert.SampleGateReferenceIdeal.Read.val_main_call0_call0_v3, Cert.SampleGateReferenceIdeal.Read.val_main_call0_call0_v2, Cert.SampleGateReferenceIdeal.Read.val_main_call0_call0_v1, Cert.SampleGateReferenceIdeal.Read.val_main_call0_call0_v0, Cert.SampleGateReferenceIdeal.Read.val_main_call0_call0_cst, Cert.SampleGateReferenceIdeal.Read.val_main_call0_v0, Cert.SampleGateReferenceIdeal.Read.val_main_v3, Cert.SampleGateReferenceIdeal.Read.val_main_v2, Cert.SampleGateReferenceIdeal.Read.val_main_v1, Cert.SampleGateReferenceIdeal.Read.val_main_v0]
  refine Eq.trans ?_ (softplus_eq _).symm
  exact congrArg logSig (congrArg₂ (· + ·) rfl hb)

end Cert.SampleGateValue

end
-- ==== Proof.SampleGateClaims.lean ====
/- The claims about the log forget gates of the sample. -/
module

public import proofs.«01_k».proof.Defs
public import proofs.«01_k».proof.Proof.Gen.SampleGateKernel.Frame
public import proofs.«01_k».proof.Proof.SampleGateValue
public import Idealize.ShloMosaic.Adequacy
public import Idealize.ShloMosaic.Init

@[expose] public section

noncomputable section

namespace Cert.SampleGateClaims

open Idealize.ShloMosaic Idealize.SL.Sem

theorem frame_kernel : Cert.quiescent_SampleGateKernel (hSampleGateKernel := Cert.SampleGateKernel.Gen.facts) := fun m ρ _ => Cert.SampleGateKernel.Gen.frame m ρ

theorem frame_ideal : Cert.quiescent_SampleGateKernelIdeal (hSampleGateKernelIdeal := Cert.SampleGateKernelIdeal.Gen.facts) := fun m ρ _ => Cert.SampleGateKernelIdeal.Gen.frame m ρ

theorem frame_reference : Cert.quiescent_SampleGateReferenceIdeal (hSampleGateReferenceIdeal := Cert.SampleGateReferenceIdeal.Gen.facts) := by
  intro m g _
  exact (θ_run Cert.SampleGateReferenceIdeal.defs _ _).mono (fun r h => ⟨fun c => (h c).2, sem_eq_zero_of_no_sems (by decide) r.2⟩)
    (Cert.SampleGateReferenceIdeal.Value.run (F := Ideal) m g)

theorem algebraic : Cert.algebraic_SampleGateKernelIdeal_SampleGateReferenceIdeal (hSampleGateKernelIdeal := Cert.SampleGateKernelIdeal.Gen.facts) (hSampleGateReferenceIdeal := Cert.SampleGateReferenceIdeal.Gen.facts) := by
  pair_intro
  · run_from Cert.SampleGateKernelIdeal.Gen.run_main m g
    exact Cert.SampleGateValue.kept m c
  · run_from Cert.SampleGateReferenceIdeal.Value.run m' g'
    · exact (Cert.SampleGateValue.result m c).symm

end Cert.SampleGateClaims

end
-- ==== Proof.SampleInOddPack.lean ====
/- The sample's input projection in an odd layer: the packed weights and the rotary tables. -/
module

public import proofs.«01_k».proof.Proof.Gen.SampleInOddKernelIdeal.Frame
public import proofs.«01_k».proof.Proof.Gen.SampleInOddReferenceIdeal.Read
public import proofs.«01_k».proof.Proof.Gen.SampleInOddReferenceIdeal.Run
public import Idealize.ShloMosaic.Lib.Pipeline.ValueKit
public import Idealize.ShloMosaic.Lib.VecWindow
public import Idealize.ShloMosaic.Lib.WholeRead
public import Idealize.ShloMosaic.Lib.Routing.OpsSet

@[expose] public section

set_option maxRecDepth 16384

noncomputable section

namespace Cert.SampleInOddValue

open Idealize.ShloMosaic Idealize.ShloMosaic.TcCoe Idealize.SL.Sem
open Idealize.ShloMosaic.Pipeline (Dat)
open Cert.SampleInOddKernelIdeal Cert.SampleInOddKernelIdeal.Gen
open scoped BigOperators

variable (m : (ℓ : Loc nD τ sig) → Buf (Elt Ideal) ℓ)

abbrev X (c : Dev nD) : FVec Ideal S256x1024 .f32 := m ((c : Thread nD τ).loc main_arg0)
abbrev G (c : Dev nD) : FVec Ideal S1024 .f32 := m ((c : Thread nD τ).loc main_arg1)
abbrev W (c : Dev nD) : FVec Ideal S1024x3080 .f32 := m ((c : Thread nD τ).loc main_arg2)

/-- Columns `0 … 7` of a 128-column array written by a scatter at column word 0. -/
theorem scatter_cols (x0 : FVec Ideal S1024x128 .f32) (idx : IVec S1 32) (hidx : idx (ix1 0) = 0#32) (upd : FVec Ideal S1024x8 .f32)
    (k : Fin 1024) (j : Fin 128) :
    Host.scatter scatter_S1024x128_S1_S1024x8_01_n_1_0 (fun _ b => b) x0 idx upd (ix2 k j)
      = if h : j.val < 8 then upd (ix2 k ⟨j.val, h⟩) else x0 (ix2 k j) := by
  have lands : ∀ q : S1024x8.Idx, scatter_S1024x128_S1_S1024x8_01_n_1_0.resultIdx? q idx = some (ix2 k j) ↔ (q 0).val = k.val ∧ (q 1).val = j.val := by
    intro q
    have s1 : scatter_S1024x128_S1_S1024x8_01_n_1_0.start q idx 1 = 0 := by
      unfold ScatterDims.start
      rw [dif_pos (by decide)]
      have e : scatter_S1024x128_S1_S1024x8_01_n_1_0.siIdx q ⟨List.idxOf 1 scatter_S1024x128_S1_S1024x8_01_n_1_0.scatterDimsToOperandDims, by decide⟩ = ix1 0 := by
        funext b; match b with | ⟨0, _⟩ => exact Subsingleton.elim (α := Fin 1) _ _
      rw [e, hidx]; rfl
    have s0 : scatter_S1024x128_S1_S1024x8_01_n_1_0.start q idx 0 = 0 := by
      unfold ScatterDims.start
      rw [dif_neg (by decide)]
    have w0 : scatter_S1024x128_S1_S1024x8_01_n_1_0.window q 0 = (q 0).val := by
      unfold ScatterDims.window; rw [dif_pos (by decide)]; rfl
    have w1 : scatter_S1024x128_S1_S1024x8_01_n_1_0.window q 1 = (q 1).val := by
      unfold ScatterDims.window; rw [dif_pos (by decide)]; rfl
    refine (Routing.resultIdx?_ix2 _ q idx k j).trans ?_
    rw [s0, s1, w0, w1]
    omega
  split
  next h =>
    exact Routing.scatter_set_hit _ x0 idx upd _ _ (fun q hq => congrArg upd (by
      obtain ⟨h0, h1⟩ := (lands q).1 hq
      rw [eq_ix2 q]; exact congrArg₂ ix2 (Fin.ext h0) (Fin.ext h1))) (ix2 k ⟨j.val, h⟩) ((lands _).2 ⟨rfl, rfl⟩)
  next h =>
    exact Routing.scatter_set_miss _ x0 idx upd _ fun q hq => h (by
      obtain ⟨h0, h1⟩ := (lands q).1 hq
      have := (q 1).isLt
      exact lt_of_eq_of_lt h1.symm this)

/-- The gates' 8 weight columns, padded with zero columns to 128. -/
def gateW (W : FVec Ideal S1024x3080 .f32) : FVec Ideal S1024x128 .f32 :=
  Host.scatter scatter_S1024x128_S1_S1024x8_01_n_1_0 (fun _ b => b) (broadcastInDim S1024x128 ![] bcast_S_S1024x128 (constant (F := Ideal) S_ .f32 0x00000000#32))
    (broadcastInDim S1 ![] bcast_S_S1 (constantI S_ 32 0#32)) (extractStridedSlice S1024x8 ![0, 1536] W slices_S1024x3080_S1024x8_0_1536)

theorem gateW_apply (W : FVec Ideal S1024x3080 .f32) (k : Fin 1024) (j : Fin 128) :
    gateW W (ix2 k j) = if h : j.val < 8 then W (ix2 k ⟨1536 + j.val, by omega⟩) else (0 : EReal) := by
  unfold gateW
  rw [scatter_cols _ _ (by pointwise) _ k j]
  split
  · pointwise
    blk_ext []
  · pointwise

theorem V_w (c : Dev nD) : (V m c main_v42 : FVec Ideal S1024x3200 .bf16)
    = truncf .bf16 (concatenate S1024x3200 1
        [⟨S1024x1536, extractStridedSlice S1024x1536 ![0, 0] (W m c) slices_S1024x3080_S1024x1536_0_0⟩,
         ⟨S1024x1536, extractStridedSlice S1024x1536 ![0, 1544] (W m c) slices_S1024x3080_S1024x1536_0_1544⟩,
         ⟨S1024x128, gateW (W m c)⟩]
        concatenates_S1024x1536_S1024x1536_S1024x128_S1024x3200_d1) bitsLt_bf16_f32 := by
  have cc : ∀ (a a' : FVec Ideal S1024x1536 .f32) (b b' : FVec Ideal S1024x1536 .f32) (d d' : FVec Ideal S1024x128 .f32), a = a' → b = b' → d = d' →
      truncf .bf16 (concatenate S1024x3200 1 [⟨S1024x1536, a⟩, ⟨S1024x1536, b⟩, ⟨S1024x128, d⟩] concatenates_S1024x1536_S1024x1536_S1024x128_S1024x3200_d1) bitsLt_bf16_f32
        = truncf .bf16 (concatenate S1024x3200 1 [⟨S1024x1536, a'⟩, ⟨S1024x1536, b'⟩, ⟨S1024x128, d'⟩] concatenates_S1024x1536_S1024x1536_S1024x128_S1024x3200_d1) bitsLt_bf16_f32 := by
    rintro a _ b _ d _ rfl rfl rfl; rfl
  unfold V
  after_results
  refine cc _ _ _ _ _ _ ?_ ?_ ?_
  · show StableHlo.after [] (HloOp.result _ _) (Proc.tc.devRef main_v39) = _
    after_results
  · show StableHlo.after [] (HloOp.result _ _) (Proc.tc.devRef main_v40) = _
    after_results
  · show StableHlo.after [] (HloOp.result _ _) (Proc.tc.devRef main_v38) = _
    unfold gateW
    after_results

/-- The packed weights: columns `0 … 1535`, then `1544 … 3079`, then the gates' columns and zeros. -/
theorem packed (c : Dev nD) (k : Fin 1024) (j : Fin 3200) :
    V m c main_v42 (ix2 k j) = if h : j.val < 1536 then W m c (ix2 k ⟨j.val, by omega⟩)
      else if h : j.val < 3072 then W m c (ix2 k ⟨j.val + 8, by omega⟩)
      else if h : j.val < 3080 then W m c (ix2 k ⟨j.val - 1536, by omega⟩) else (0 : EReal) := by
  rw [V_w]
  generalize W m c = W
  pointwise
  by_cases h1 : j.val < 1536
  · rw [dif_pos h1, dif_pos h1]
  · rw [dif_neg h1, dif_neg h1]
    by_cases h2 : j.val < 3072
    · rw [dif_pos (by omega), dif_pos h2]
      blk_ext []
    · rw [dif_neg (by omega), dif_neg h2]
      refine (gateW_apply _ _ _).trans ?_
      by_cases h3 : j.val < 3080
      · rw [dif_pos h3]
        refine (dif_pos (show j.val - 1536 - 1536 < 8 by omega)).trans ?_
        blk_ext []
      · rw [dif_neg h3]
        exact dif_neg (show ¬ j.val - 1536 - 1536 < 8 by omega)

theorem V_x (c : Dev nD) : (V m c main_v43 : FVec Ideal S8x32x1024 .f32) = shapeCast S8x32x1024 (X m c) shapeCasts_S256x1024_S8x32x1024 := by
  unfold V
  after_results
  rfl

theorem V_g (c : Dev nD) : (V m c main_v44 : FVec Ideal S1x1024 .f32) = shapeCast S1x1024 (G m c) shapeCasts_S1024_S1x1024 := by
  unfold V
  after_results
  rfl

/-- A table of 64 lanes a row, repeated over the eight heads. -/
def tiled (T : FVec Ideal S32x64 .f32) : FVec Ideal S32x512 .f32 :=
  shapeCast S32x512 (broadcastInDim S1x32x8x64 ![0, 1, 2, 3] bcast_S1x32x1x64_S1x32x8x64_0_1_2_3
    (shapeCast S1x32x1x64 T shapeCasts_S32x64_S1x32x1x64)) shapeCasts_S1x32x8x64_S32x512

/-- Lane `i` of the repeated table is the table's lane `i % 64`. -/
theorem tiled_apply (T : FVec Ideal S32x64 .f32) (r : Fin 32) (i : Fin 512) :
    tiled T (ix2 r i) = T (ix2 r ⟨i.val % 64, by omega⟩) := by
  unfold tiled
  pointwise
  blk_ext []
  all_goals omega

/-- Three columns' groups side by side. -/
def row3 (a b : FVec Ideal S32x8 .f32) (d : FVec Ideal S32x48 .f32) : FVec Ideal S32x64 .f32 :=
  concatenate S32x64 1 [⟨S32x8, a⟩, ⟨S32x8, b⟩, ⟨S32x48, d⟩] concatenates_S32x8_S32x8_S32x48_S32x64_d1

theorem row3_apply (a b : FVec Ideal S32x8 .f32) (d : FVec Ideal S32x48 .f32) (r : Fin 32) (j : Fin 64) :
    row3 a b d (ix2 r j) = if h : j.val < 8 then a (ix2 r ⟨j.val, h⟩) else if h : j.val < 16 then b (ix2 r ⟨j.val - 8, by omega⟩)
      else d (ix2 r ⟨j.val - 16, by omega⟩) := by
  unfold row3
  pointwise
  by_cases h1 : j.val < 8
  · rw [dif_pos h1, dif_pos h1]
  · rw [dif_neg h1, dif_neg h1]
    by_cases h2 : j.val < 16
    · rw [dif_pos (by omega), dif_pos h2]
    · rw [dif_neg (by omega), dif_neg h2]
      blk_ext []

abbrev zeros8 : FVec Ideal S32x8 .f32 := broadcastInDim S32x8 ![] bcast_S_S32x8 (constant (F := Ideal) S_ .f32 0x00000000#32)
abbrev zeros48 : FVec Ideal S32x48 .f32 := broadcastInDim S32x48 ![] bcast_S_S32x48 (constant (F := Ideal) S_ .f32 0x00000000#32)
abbrev ones48 : FVec Ideal S32x48 .f32 := broadcastInDim S32x48 ![] bcast_S_S32x48 (constant (F := Ideal) S_ .f32 0x3F800000#32)
abbrev POS (c : Dev nD) : IVec S32 32 := m ((c : Thread nD τ).loc main_arg3)
abbrev COS (c : Dev nD) : FVec Ideal S32x8 .f32 := Cert.SampleInOddReferenceIdeal.Read.val_main_v33 (F := Ideal) (POS m c)
abbrev SIN (c : Dev nD) : FVec Ideal S32x8 .f32 := Cert.SampleInOddReferenceIdeal.Read.val_main_v35 (F := Ideal) (POS m c)

theorem tab_congr {a a' b b' : FVec Ideal S32x8 .f32} {d d' : FVec Ideal S32x48 .f32} (ha : a = a') (hb : b = b') (hd : d = d') :
    (fun i => shapeCast S32x512 (broadcastInDim S1x32x8x64 ![0, 1, 2, 3] bcast_S1x32x1x64_S1x32x8x64_0_1_2_3
    (fun i => shapeCast S1x32x1x64 (concatenate S32x64 1 [⟨S32x8, a⟩, ⟨S32x8, b⟩, ⟨S32x48, d⟩] concatenates_S32x8_S32x8_S32x48_S32x64_d1) shapeCasts_S32x64_S1x32x1x64 i)) shapeCasts_S1x32x8x64_S32x512 i) = tiled (row3 a' b' d') := by
  subst ha hb hd; rfl

theorem V_c (c : Dev nD) : (V m c main_v28 : FVec Ideal S32x512 .f32) = tiled (row3 (COS m c) (COS m c) (addf zeros48 ones48)) := by
  unfold V
  after_results
  refine tab_congr ?_ ?_ ?_
  · show StableHlo.after [] (HloOp.result _ _) (Proc.tc.devRef main_v16) = _
    after_results
    rfl
  · show StableHlo.after [] (HloOp.result _ _) (Proc.tc.devRef main_v16) = _
    after_results
    rfl
  · show StableHlo.after [] (HloOp.result _ _) (Proc.tc.devRef main_v21) = _
    after_results

theorem V_s1 (c : Dev nD) : (V m c main_v31 : FVec Ideal S32x512 .f32) = tiled (row3 (Host.negf (SIN m c)) zeros8 zeros48) := by
  unfold V
  after_results
  refine tab_congr ?_ ?_ ?_
  · show StableHlo.after [] (HloOp.result _ _) (Proc.tc.devRef main_v23) = _
    after_results
    rfl
  · show StableHlo.after [] (HloOp.result _ _) (Proc.tc.devRef main_v19) = _
    after_results
  · show StableHlo.after [] (HloOp.result _ _) (Proc.tc.devRef main_v18) = _
    after_results

theorem V_s2 (c : Dev nD) : (V m c main_v34 : FVec Ideal S32x512 .f32) = tiled (row3 zeros8 (SIN m c) zeros48) := by
  unfold V
  after_results
  refine tab_congr ?_ ?_ ?_
  · show StableHlo.after [] (HloOp.result _ _) (Proc.tc.devRef main_v19) = _
    after_results
  · show StableHlo.after [] (HloOp.result _ _) (Proc.tc.devRef main_v17) = _
    after_results
    rfl
  · show StableHlo.after [] (HloOp.result _ _) (Proc.tc.devRef main_v18) = _
    after_results

end Cert.SampleInOddValue

end
-- ==== Proof.SampleInOddValue.lean ====
/- The sample's input projection in an odd layer: what the result arrays hold after the run. -/
module

public import proofs.«01_k».proof.Proof.Gen.SampleInOddKernelIdeal.Frame
public import proofs.«01_k».proof.Proof.Gen.SampleInOddReferenceIdeal.Read
public import proofs.«01_k».proof.Proof.Gen.SampleInOddReferenceIdeal.Run
public import proofs.«01_k».proof.Proof.SampleInOddPack
public import Idealize.ShloMosaic.Lib.Pipeline.ValueKit
public import Idealize.ShloMosaic.Lib.VecWindow
public import Idealize.ShloMosaic.Lib.WholeRead

@[expose] public section

set_option maxRecDepth 16384

noncomputable section

namespace Cert.SampleInOddValue

open Idealize.ShloMosaic Idealize.ShloMosaic.TcCoe Idealize.SL.Sem
open Idealize.ShloMosaic.Pipeline (Dat)
open Cert.SampleInOddKernelIdeal Cert.SampleInOddKernelIdeal.Gen
open scoped BigOperators

variable (m : (ℓ : Loc nD τ sig) → Buf (Elt Ideal) ℓ)

theorem idx : ∀ t : Fin cfg0.N, win0_0.index t = ![t.val % 8, t.val / 8, 0] ∧ win0_1.index t = ![0, 0] ∧ win0_2.index t = ![0, 0] ∧ win0_3.index t = ![t.val / 8, 0] ∧ win0_4.index t = ![t.val / 8, 0] ∧ win0_5.index t = ![t.val / 8, 0]
    ∧ win0_7.index t = ![t.val % 8, t.val / 8, 0] ∧ win0_8.index t = ![t.val % 8, t.val / 8, 0] ∧ win0_11.index t = ![t.val % 8, t.val / 8, 0] ∧ win0_13.index t = ![t.val % 8, t.val / 8, 0] ∧ win0_15.index t = ![t.val % 8, t.val / 8, 0] :=
  (by decide +kernel : ∀ t : Fin grid0.N, _)

/-- The normalised rows of point `t`'s block are the reference's. -/
theorem xn (c : Dev nD) (t : Fin cfg0.N) (p : Fin 32) (k : Fin 1024) (r : Fin 256) (hr : r.val = t.val % 8 * 32 + t.val / 8 * 32 + p.val) :
    k0_pay1 (F := Ideal) (iblk m c 0 t) (iblk m c 1 t) (ix2 p k)
      = Cert.SampleInOddReferenceIdeal.Read.val_main_v12 (F := Ideal) (X m c) (G m c) (ix2 r k) := by
  pointwise [k0_pay1, Cert.SampleInOddReferenceIdeal.Read.val_main_v12, Cert.SampleInOddReferenceIdeal.Read.val_main_v11, Cert.SampleInOddReferenceIdeal.Read.val_main_v10, Cert.SampleInOddReferenceIdeal.Read.val_main_v9, Cert.SampleInOddReferenceIdeal.Read.val_main_v8, Cert.SampleInOddReferenceIdeal.Read.val_main_v7, Cert.SampleInOddReferenceIdeal.Read.val_main_v6, Cert.SampleInOddReferenceIdeal.Read.val_main_v5, Cert.SampleInOddReferenceIdeal.Read.val_main_v4, Cert.SampleInOddReferenceIdeal.Read.val_main_v3, Cert.SampleInOddReferenceIdeal.Read.val_main_v2, Cert.SampleInOddReferenceIdeal.Read.val_main_v1, Cert.SampleInOddReferenceIdeal.Read.val_main_v0, Cert.SampleInOddReferenceIdeal.Read.val_main_cst, Cert.SampleInOddReferenceIdeal.Read.val_main_cst_0, Cert.SampleInOddReferenceIdeal.Read.val_main_cst_1]
  blk_point [iblk, V_x, V_g, idx t]

theorem ref_dot (c : Dev nD) (r : Fin 256) (j : Fin 3080) :
    Cert.SampleInOddReferenceIdeal.Read.val_main_v13 (F := Ideal) (X m c) (G m c) (W m c) (ix2 r j)
      = ∑ k : Fin 1024, Cert.SampleInOddReferenceIdeal.Read.val_main_v12 (F := Ideal) (X m c) (G m c) (ix2 r k) * (W m c) (ix2 k j) := by
  rw [Cert.SampleInOddReferenceIdeal.Read.val_main_v13_apply]
  refine Finset.sum_congr rfl fun k _ => ?_
  congr 2 <;> (funext a; match a with | ⟨0, _⟩ => rfl | ⟨1, _⟩ => rfl)

/-- The product with the weights, by batch and row of the batch. -/
theorem ref_rows (c : Dev nD) (b : Fin 8) (r : Fin 32) (j : Fin 3080) :
    Cert.SampleInOddReferenceIdeal.Read.val_main_v14 (F := Ideal) (X m c) (G m c) (W m c) (ix3 b r j) = Cert.SampleInOddReferenceIdeal.Read.val_main_v13 (F := Ideal) (X m c) (G m c) (W m c) (ix2 ⟨b.val * 32 + r.val, by omega⟩ j) := by
  rw [Cert.SampleInOddReferenceIdeal.Read.val_main_v14_apply]
  have hb := b.isLt
  have hr := r.isLt
  have hj := j.isLt
  have e1 : (b.val * 98560 + r.val * 3080 + j.val) / 3080 = b.val * 32 + r.val := by omega
  have e2 : (b.val * 98560 + r.val * 3080 + j.val) % 3080 = j.val := by omega
  blk_ext []
  all_goals omega

/-- Entry `(p, q)` of the normalised block times the packed weights. -/
def dotAt (c : Dev nD) (t : Fin cfg0.N) (p : Fin 32) (q : Fin 3200) : EReal :=
  ∑ k : Fin 1024, k0_pay1 (F := Ideal) (iblk m c 0 t) (iblk m c 1 t) (ix2 p k) * (iblk m c 2 t : FVec Ideal S1024x3200 .bf16) (ix2 k q)

theorem w_block (c : Dev nD) (t : Fin cfg0.N) (k : Fin 1024) (q : Fin 3200) :
    (iblk m c 2 t : FVec Ideal S1024x3200 .bf16) (ix2 k q) = V m c main_v42 (ix2 k q) := by
  unfold iblk
  blk_simp [idx t]
  blk_ext [idx t]

/-- A product of the normalised block with the packed column that carries weight column `j` is the reference's entry. -/
theorem core (c : Dev nD) (t : Fin cfg0.N) (p : Fin 32) (q : Fin 3200) (b : Fin 8) (r : Fin 32) (j : Fin 3080)
    (hb : b.val = t.val % 8) (hr : r.val = t.val / 8 * 32 + p.val)
    (hq : q.val < 1536 ∧ j.val = q.val ∨ 1536 ≤ q.val ∧ q.val < 3072 ∧ j.val = q.val + 8 ∨ 3072 ≤ q.val ∧ q.val < 3080 ∧ j.val = q.val - 1536) :
    dotAt m c t p q = Cert.SampleInOddReferenceIdeal.Read.val_main_v14 (F := Ideal) (X m c) (G m c) (W m c) (ix3 b r j) := by
  unfold dotAt
  rw [ref_rows, ref_dot]
  refine Finset.sum_congr rfl fun k _ => ?_
  rw [xn m c t p k ⟨b.val * 32 + r.val, by omega⟩ (by show b.val * 32 + r.val = _; omega), w_block, packed]
  rcases hq with ⟨h, hj⟩ | ⟨h, h', hj⟩ | ⟨h, h', hj⟩
  · rw [dif_pos h]; congr 2; exact congrArg (ix2 k) (Fin.ext hj.symm)
  · rw [dif_neg (by omega), dif_pos h']; congr 2; exact congrArg (ix2 k) (Fin.ext hj.symm)
  · rw [dif_neg (by omega), dif_neg (by omega), dif_pos h']; congr 2; exact congrArg (ix2 k) (Fin.ext hj.symm)

theorem core_zero (c : Dev nD) (t : Fin cfg0.N) (p : Fin 32) (q : Fin 3200) (hq : 3080 ≤ q.val) : dotAt m c t p q = 0 := by
  refine Finset.sum_eq_zero fun k _ => ?_
  rw [w_block, packed, dif_neg (by omega), dif_neg (by omega), dif_neg (by omega)]
  exact mul_zero _

theorem ref_plain (c : Dev nD) (b : Fin 8) (r : Fin 32) (i : Fin 512) :
    Cert.SampleInOddReferenceIdeal.Read.val_main_v56 (F := Ideal) (X m c) (G m c) (W m c) (ix3 b r i) = Cert.SampleInOddReferenceIdeal.Read.val_main_v14 (F := Ideal) (X m c) (G m c) (W m c) (ix3 b r ⟨512 + i.val, by omega⟩)
    ∧ Cert.SampleInOddReferenceIdeal.Read.val_main_v57 (F := Ideal) (X m c) (G m c) (W m c) (ix3 b r i) = Cert.SampleInOddReferenceIdeal.Read.val_main_v14 (F := Ideal) (X m c) (G m c) (W m c) (ix3 b r ⟨1024 + i.val, by omega⟩)
    ∧ Cert.SampleInOddReferenceIdeal.Read.val_main_v59 (F := Ideal) (X m c) (G m c) (W m c) (ix3 b r i) = Cert.SampleInOddReferenceIdeal.Read.val_main_v14 (F := Ideal) (X m c) (G m c) (W m c) (ix3 b r ⟨2568 + i.val, by omega⟩) := by
  refine ⟨?_, ?_, ?_⟩
  · rw [Cert.SampleInOddReferenceIdeal.Read.val_main_v56_apply]; blk_ext []
  · rw [Cert.SampleInOddReferenceIdeal.Read.val_main_v57_apply]; blk_ext []
  · rw [Cert.SampleInOddReferenceIdeal.Read.val_main_v59_apply]; blk_ext []

theorem ref_gate (c : Dev nD) (b : Fin 8) (r : Fin 32) (i : Fin 128) :
    Cert.SampleInOddReferenceIdeal.Read.val_main_v55 (F := Ideal) (X m c) (G m c) (W m c) (ix3 b r i)
      = if h : i.val < 8 then Cert.SampleInOddReferenceIdeal.Read.val_main_v14 (F := Ideal) (X m c) (G m c) (W m c) (ix3 b r ⟨1536 + i.val, by omega⟩) else (0 : EReal) := by
  pointwise [Cert.SampleInOddReferenceIdeal.Read.val_main_v55]
  split
  · rw [Cert.SampleInOddReferenceIdeal.Read.val_main_v53_apply]
    blk_ext []
  · rw [Cert.SampleInOddReferenceIdeal.Read.val_main_v54_apply, Cert.SampleInOddReferenceIdeal.Read.val_main_cst_6_apply]
    pointwise

theorem point7 (c : Dev nD) (t : Fin cfg0.N) (y : S1x32x512.Idx) (z : S8x32x512.Idx)
    (hz : z = ix3 (⟨t.val % 8, by omega⟩ : Fin 8) (⟨t.val / 8 * 32 + (y 1).val, by have := lt_of_lt_of_eq t.isLt N_0; have : (y 1).val < 32 := (y 1).isLt; omega⟩ : Fin 32) (⟨(y 2).val, (y 2).isLt⟩ : Fin 512)) :
    out0_7 (iblk m c 0 t) (iblk m c 1 t) (iblk m c 2 t) (iblk m c 3 t) (iblk m c 4 t) (iblk m c 5 t) y = Cert.SampleInOddReferenceIdeal.Read.val_main_v56 (F := Ideal) (X m c) (G m c) (W m c) z := by
  have hy1 : (y 1).val < 32 := (y 1).isLt
  have hy2 : (y 2).val < 512 := (y 2).isLt
  subst hz
  refine Eq.trans (b := dotAt m c t ⟨(y 1).val, hy1⟩ ⟨512 + (y 2).val, by omega⟩) ?_ ?_
  · unfold dotAt
    canon_tiles x h
    all_goals (open_payloads; pointwise; blk_point [idx t])
  · rw [(ref_plain m c _ _ _).1]
    exact core m c t ⟨(y 1).val, hy1⟩ ⟨512 + (y 2).val, by omega⟩ _ _ _ rfl rfl (.inl ⟨by show 512 + (y 2).val < 1536; omega, rfl⟩)

theorem final7 (c : Dev nD) : (dats m 0 c).arrAt 7 (cfgs 0).N = Cert.SampleInOddReferenceIdeal.Read.val_main_v56 (F := Ideal) (X m c) (G m c) (W m c) := by
  refine (dats m 0 c).arrAt_eq_of_covers 7 _ (by decide +kernel) fun t hf y => ?_
  blk_simp
  rw [after0_7]
  exact point7 m c t y _ (by blk_ext [idx t])

/-- The rotation of one lane of the keys, as the reference's slices and concatenations read it. -/
def kdOf (Y : Cert.SampleInOddReferenceIdeal.S8x32x3080.Idx → EReal) (C S : S32x8.Idx → EReal) (b : Fin 8) (r : Fin 32) (i : Fin 512) : EReal :=
  if h : i.val % 64 < 16 then
    if h_1 : i.val % 64 < 8 then
      Y (ix3 b r ⟨2056 + i.val, by omega⟩) * C (ix2 r ⟨i.val % 64, h_1⟩)
        - Y (ix3 b r ⟨2056 + (i.val / 64 * 64 + (8 + i.val % 64)), by omega⟩) * S (ix2 r ⟨i.val % 64, h_1⟩)
    else
      Y (ix3 b r ⟨2056 + (i.val / 64 * 64 + (8 + (i.val % 64 - 8))), by omega⟩) * C (ix2 r ⟨i.val % 64 - 8, by omega⟩)
        + Y (ix3 b r ⟨2056 + (i.val / 64 * 64 + (i.val % 64 - 8)), by omega⟩) * S (ix2 r ⟨i.val % 64 - 8, by omega⟩)
  else Y (ix3 b r ⟨2056 + (i.val / 64 * 64 + (16 + (i.val % 64 - 16))), by omega⟩)

/-- The same with the lanes simplified. -/
theorem kdOf_eq (Y : Cert.SampleInOddReferenceIdeal.S8x32x3080.Idx → EReal) (C S : S32x8.Idx → EReal) (b : Fin 8) (r : Fin 32) (i : Fin 512) :
    kdOf Y C S b r i =
      if h : i.val % 64 < 16 then
        if h' : i.val % 64 < 8 then
          Y (ix3 b r ⟨2056 + i.val, by omega⟩) * C (ix2 r ⟨i.val % 64, h'⟩) - Y (ix3 b r ⟨2056 + (i.val + 8), by omega⟩) * S (ix2 r ⟨i.val % 64, h'⟩)
        else
          Y (ix3 b r ⟨2056 + i.val, by omega⟩) * C (ix2 r ⟨i.val % 64 - 8, by omega⟩) + Y (ix3 b r ⟨2056 + (i.val - 8), by omega⟩) * S (ix2 r ⟨i.val % 64 - 8, by omega⟩)
      else Y (ix3 b r ⟨2056 + i.val, by omega⟩) := by
  have cg : ∀ (n n' : Nat) (h : 2056 + n < 3080) (h' : 2056 + n' < 3080), n = n' →
      Y (ix3 b r ⟨2056 + n, h⟩) = Y (ix3 b r ⟨2056 + n', h'⟩) := by
    rintro n _ h h' rfl; rfl
  unfold kdOf
  by_cases h : i.val % 64 < 16
  · rw [dif_pos h, dif_pos h]
    by_cases h' : i.val % 64 < 8
    · rw [dif_pos h', dif_pos h']
      exact congrArg₂ (· - ·) (congrArg₂ (· * ·) (cg _ _ _ _ (by omega)) rfl) (congrArg₂ (· * ·) (cg _ _ _ _ (by omega)) rfl)
    · rw [dif_neg h', dif_neg h']
      exact congrArg₂ (· + ·) (congrArg₂ (· * ·) (cg _ _ _ _ (by omega)) rfl) (congrArg₂ (· * ·) (cg _ _ _ _ (by omega)) rfl)
  · rw [dif_neg h, dif_neg h]
    exact cg _ _ _ _ (by omega)

/-- The rotated keys of the reference, lane by lane. -/
theorem ref_kd (c : Dev nD) (b : Fin 8) (r : Fin 32) (i : Fin 512) :
    Cert.SampleInOddReferenceIdeal.Read.val_main_v58 (F := Ideal) (X m c) (G m c) (W m c) (POS m c) (ix3 b r i) =
      if h : i.val % 64 < 16 then
        if h' : i.val % 64 < 8 then
          Cert.SampleInOddReferenceIdeal.Read.val_main_v14 (F := Ideal) (X m c) (G m c) (W m c) (ix3 b r ⟨2056 + i.val, by omega⟩) * COS m c (ix2 r ⟨i.val % 64, h'⟩)
            - Cert.SampleInOddReferenceIdeal.Read.val_main_v14 (F := Ideal) (X m c) (G m c) (W m c) (ix3 b r ⟨2056 + (i.val + 8), by omega⟩) * SIN m c (ix2 r ⟨i.val % 64, h'⟩)
        else
          Cert.SampleInOddReferenceIdeal.Read.val_main_v14 (F := Ideal) (X m c) (G m c) (W m c) (ix3 b r ⟨2056 + i.val, by omega⟩) * COS m c (ix2 r ⟨i.val % 64 - 8, by omega⟩)
            + Cert.SampleInOddReferenceIdeal.Read.val_main_v14 (F := Ideal) (X m c) (G m c) (W m c) (ix3 b r ⟨2056 + (i.val - 8), by omega⟩) * SIN m c (ix2 r ⟨i.val % 64 - 8, by omega⟩)
      else Cert.SampleInOddReferenceIdeal.Read.val_main_v14 (F := Ideal) (X m c) (G m c) (W m c) (ix3 b r ⟨2056 + i.val, by omega⟩) := by
  refine Eq.trans ?_ (kdOf_eq (Cert.SampleInOddReferenceIdeal.Read.val_main_v14 (F := Ideal) (X m c) (G m c) (W m c)) (COS m c) (SIN m c) b r i)
  generalize hZ : kdOf (Cert.SampleInOddReferenceIdeal.Read.val_main_v14 (F := Ideal) (X m c) (G m c) (W m c)) (COS m c) (SIN m c) b r i = Z
  pointwise [Cert.SampleInOddReferenceIdeal.Read.val_main_v58, Cert.SampleInOddReferenceIdeal.Read.val_main_v52, Cert.SampleInOddReferenceIdeal.Read.val_main_v51, Cert.SampleInOddReferenceIdeal.Read.val_main_v50, Cert.SampleInOddReferenceIdeal.Read.val_main_v49, Cert.SampleInOddReferenceIdeal.Read.val_main_v48, Cert.SampleInOddReferenceIdeal.Read.val_main_v47, Cert.SampleInOddReferenceIdeal.Read.val_main_v46, Cert.SampleInOddReferenceIdeal.Read.val_main_v45, Cert.SampleInOddReferenceIdeal.Read.val_main_v44, Cert.SampleInOddReferenceIdeal.Read.val_main_v43, Cert.SampleInOddReferenceIdeal.Read.val_main_v42, Cert.SampleInOddReferenceIdeal.Read.val_main_v41, Cert.SampleInOddReferenceIdeal.Read.val_main_v40, Cert.SampleInOddReferenceIdeal.Read.val_main_v39, Cert.SampleInOddReferenceIdeal.Read.val_main_v38, Cert.SampleInOddReferenceIdeal.Read.val_main_v37, Cert.SampleInOddReferenceIdeal.Read.val_main_v36, Cert.SampleInOddReferenceIdeal.Read.val_main_v34, Cert.SampleInOddReferenceIdeal.Read.val_main_v16, Cert.SampleInOddReferenceIdeal.Read.val_main_v15]
  exact hZ

theorem kd_block (c : Dev nD) (t : Fin cfg0.N) (y : S1x32x512.Idx) :
    out0_11 (iblk m c 0 t) (iblk m c 1 t) (iblk m c 2 t) (iblk m c 3 t) (iblk m c 4 t) (iblk m c 5 t) y = dotAt m c t ⟨(y 1).val, (y 1).isLt⟩ ⟨2048 + (y 2).val, by have : (y 2).val < 512 := (y 2).isLt; omega⟩ * (iblk m c 3 t : FVec Ideal S32x512 .f32) (ix2 (y 1) (y 2))
      + dotAt m c t ⟨(y 1).val, (y 1).isLt⟩ ⟨2048 + ((y 2).val + 512 - 504) % 512, by omega⟩ * (iblk m c 4 t : FVec Ideal S32x512 .f32) (ix2 (y 1) (y 2))
      + dotAt m c t ⟨(y 1).val, (y 1).isLt⟩ ⟨2048 + ((y 2).val + 512 - 8) % 512, by omega⟩ * (iblk m c 5 t : FVec Ideal S32x512 .f32) (ix2 (y 1) (y 2)) := by
  unfold dotAt
  canon_tiles x h
  all_goals (open_payloads; pointwise; blk_point [idx t])

theorem point8 (c : Dev nD) (t : Fin cfg0.N) (y : S1x32x512.Idx) (z : S8x32x512.Idx)
    (hz : z = ix3 (⟨t.val % 8, by omega⟩ : Fin 8) (⟨t.val / 8 * 32 + (y 1).val, by have := lt_of_lt_of_eq t.isLt N_0; have : (y 1).val < 32 := (y 1).isLt; omega⟩ : Fin 32) (⟨(y 2).val, (y 2).isLt⟩ : Fin 512)) :
    out0_8 (iblk m c 0 t) (iblk m c 1 t) (iblk m c 2 t) (iblk m c 3 t) (iblk m c 4 t) (iblk m c 5 t) y = Cert.SampleInOddReferenceIdeal.Read.val_main_v57 (F := Ideal) (X m c) (G m c) (W m c) z := by
  have hy1 : (y 1).val < 32 := (y 1).isLt
  have hy2 : (y 2).val < 512 := (y 2).isLt
  subst hz
  refine Eq.trans (b := dotAt m c t ⟨(y 1).val, hy1⟩ ⟨1024 + (y 2).val, by omega⟩) ?_ ?_
  · unfold dotAt
    canon_tiles x h
    all_goals (open_payloads; pointwise [k0_pay70, k0_pay69, k0_pay34, k0_pay35, k0_pay36]; blk_point [idx t])
  · rw [(ref_plain m c _ _ _).2.1]
    exact core m c t ⟨(y 1).val, hy1⟩ ⟨1024 + (y 2).val, by omega⟩ _ _ _ rfl rfl (.inl ⟨by show 1024 + (y 2).val < 1536; omega, rfl⟩)

theorem final8 (c : Dev nD) : (dats m 0 c).arrAt 8 (cfgs 0).N = Cert.SampleInOddReferenceIdeal.Read.val_main_v57 (F := Ideal) (X m c) (G m c) (W m c) := by
  refine (dats m 0 c).arrAt_eq_of_covers 8 _ (by decide +kernel) fun t hf y => ?_
  blk_simp
  rw [after0_8]
  exact point8 m c t y _ (by blk_ext [idx t])

theorem point13 (c : Dev nD) (t : Fin cfg0.N) (y : S1x32x512.Idx) (z : S8x32x512.Idx)
    (hz : z = ix3 (⟨t.val % 8, by omega⟩ : Fin 8) (⟨t.val / 8 * 32 + (y 1).val, by have := lt_of_lt_of_eq t.isLt N_0; have : (y 1).val < 32 := (y 1).isLt; omega⟩ : Fin 32) (⟨(y 2).val, (y 2).isLt⟩ : Fin 512)) :
    out0_13 (iblk m c 0 t) (iblk m c 1 t) (iblk m c 2 t) (iblk m c 3 t) (iblk m c 4 t) (iblk m c 5 t) y = Cert.SampleInOddReferenceIdeal.Read.val_main_v59 (F := Ideal) (X m c) (G m c) (W m c) z := by
  have hy1 : (y 1).val < 32 := (y 1).isLt
  have hy2 : (y 2).val < 512 := (y 2).isLt
  subst hz
  refine Eq.trans (b := dotAt m c t ⟨(y 1).val, hy1⟩ ⟨2560 + (y 2).val, by omega⟩) ?_ ?_
  · unfold dotAt
    canon_tiles x h
    all_goals (open_payloads; pointwise; blk_point [idx t])
  · rw [(ref_plain m c _ _ _).2.2]
    exact core m c t ⟨(y 1).val, hy1⟩ ⟨2560 + (y 2).val, by omega⟩ _ _ _ rfl rfl
      (.inr (.inl ⟨by show 1536 ≤ 2560 + (y 2).val; omega, by show 2560 + (y 2).val < 3072; omega, by show 2568 + (y 2).val = 2560 + (y 2).val + 8; omega⟩))

theorem final13 (c : Dev nD) : (dats m 0 c).arrAt 13 (cfgs 0).N = Cert.SampleInOddReferenceIdeal.Read.val_main_v59 (F := Ideal) (X m c) (G m c) (W m c) := by
  refine (dats m 0 c).arrAt_eq_of_covers 13 _ (by decide +kernel) fun t hf y => ?_
  blk_simp
  rw [after0_13]
  exact point13 m c t y _ (by blk_ext [idx t])

theorem point15 (c : Dev nD) (t : Fin cfg0.N) (y : S1x32x128.Idx) (z : S8x32x128.Idx)
    (hz : z = ix3 (⟨t.val % 8, by omega⟩ : Fin 8) (⟨t.val / 8 * 32 + (y 1).val, by have := lt_of_lt_of_eq t.isLt N_0; have : (y 1).val < 32 := (y 1).isLt; omega⟩ : Fin 32) (⟨(y 2).val, (y 2).isLt⟩ : Fin 128)) :
    out0_15 (iblk m c 0 t) (iblk m c 1 t) (iblk m c 2 t) (iblk m c 3 t) (iblk m c 4 t) (iblk m c 5 t) y = Cert.SampleInOddReferenceIdeal.Read.val_main_v55 (F := Ideal) (X m c) (G m c) (W m c) z := by
  have hy1 : (y 1).val < 32 := (y 1).isLt
  have hy2 : (y 2).val < 128 := (y 2).isLt
  subst hz
  refine Eq.trans (b := dotAt m c t ⟨(y 1).val, hy1⟩ ⟨3072 + (y 2).val, by omega⟩) ?_ ?_
  · unfold dotAt
    canon_tiles x h
    all_goals (open_payloads; pointwise; blk_point [idx t])
  · rw [ref_gate]
    by_cases h : (y 2).val < 8
    · refine Eq.trans ?_ (dif_pos h).symm
      exact core m c t ⟨(y 1).val, hy1⟩ ⟨3072 + (y 2).val, by omega⟩ _ _ _ rfl rfl
        (.inr (.inr ⟨by show 3072 ≤ 3072 + (y 2).val; omega, by show 3072 + (y 2).val < 3080; omega, by show 1536 + (y 2).val = 3072 + (y 2).val - 1536; omega⟩))
    · refine Eq.trans ?_ (dif_neg h).symm
      exact core_zero m c t _ _ (by show 3080 ≤ 3072 + (y 2).val; omega)

theorem final15 (c : Dev nD) : (dats m 0 c).arrAt 15 (cfgs 0).N = Cert.SampleInOddReferenceIdeal.Read.val_main_v55 (F := Ideal) (X m c) (G m c) (W m c) := by
  refine (dats m 0 c).arrAt_eq_of_covers 15 _ (by decide +kernel) fun t hf y => ?_
  blk_simp
  rw [after0_15]
  exact point15 m c t y _ (by blk_ext [idx t])

theorem tables (c : Dev nD) (t : Fin cfg0.N) (p : Fin 32) (i : Fin 512) (r : Fin 32) (hr : r.val = t.val / 8 * 32 + p.val) :
    (iblk m c 3 t : FVec Ideal S32x512 .f32) (ix2 p i) = row3 (COS m c) (COS m c) (addf zeros48 ones48) (ix2 r ⟨i.val % 64, by omega⟩)
    ∧ (iblk m c 4 t : FVec Ideal S32x512 .f32) (ix2 p i) = row3 (Host.negf (SIN m c)) zeros8 zeros48 (ix2 r ⟨i.val % 64, by omega⟩)
    ∧ (iblk m c 5 t : FVec Ideal S32x512 .f32) (ix2 p i) = row3 zeros8 (SIN m c) zeros48 (ix2 r ⟨i.val % 64, by omega⟩) := by
  have e3 : (iblk m c 3 t : FVec Ideal S32x512 .f32) (ix2 p i) = V m c main_v28 (ix2 r i) := by
    unfold iblk
    blk_simp [idx t]
    blk_ext [idx t]
    all_goals omega
  have e4 : (iblk m c 4 t : FVec Ideal S32x512 .f32) (ix2 p i) = V m c main_v31 (ix2 r i) := by
    unfold iblk
    blk_simp [idx t]
    blk_ext [idx t]
    all_goals omega
  have e5 : (iblk m c 5 t : FVec Ideal S32x512 .f32) (ix2 p i) = V m c main_v34 (ix2 r i) := by
    unfold iblk
    blk_simp [idx t]
    blk_ext [idx t]
    all_goals omega
  rw [e3, e4, e5, V_c, V_s1, V_s2, tiled_apply, tiled_apply, tiled_apply]
  exact ⟨rfl, rfl, rfl⟩

theorem zeros8_apply (i : S32x8.Idx) : zeros8 i = (0 : EReal) := by
  rw [eq_ix2 i]; pointwise

theorem zeros48_apply (i : S32x48.Idx) : zeros48 i = (0 : EReal) := by
  rw [eq_ix2 i]; pointwise

theorem ones_apply (i : S32x48.Idx) : addf zeros48 ones48 i = (1 : EReal) := by
  rw [eq_ix2 i]; pointwise

theorem point11 (c : Dev nD) (t : Fin cfg0.N) (y : S1x32x512.Idx) (z : S8x32x512.Idx)
    (hz : z = ix3 (⟨t.val % 8, by omega⟩ : Fin 8) (⟨t.val / 8 * 32 + (y 1).val, by have := lt_of_lt_of_eq t.isLt N_0; have : (y 1).val < 32 := (y 1).isLt; omega⟩ : Fin 32) (⟨(y 2).val, (y 2).isLt⟩ : Fin 512)) :
    out0_11 (iblk m c 0 t) (iblk m c 1 t) (iblk m c 2 t) (iblk m c 3 t) (iblk m c 4 t) (iblk m c 5 t) y = Cert.SampleInOddReferenceIdeal.Read.val_main_v58 (F := Ideal) (X m c) (G m c) (W m c) (POS m c) z := by
  have ht : t.val < 8 := lt_of_lt_of_eq t.isLt N_0
  have hy1 : (y 1).val < 32 := (y 1).isLt
  have hy2 : (y 2).val < 512 := (y 2).isLt
  subst hz
  have core' : ∀ (n : Nat) (hn : 2048 + n < 3200) (n' : Nat) (hn' : 2056 + n' < 3080), n = n' → dotAt m c t ⟨(y 1).val, hy1⟩ ⟨2048 + n, hn⟩
      = Cert.SampleInOddReferenceIdeal.Read.val_main_v14 (F := Ideal) (X m c) (G m c) (W m c) (ix3 (⟨t.val % 8, by omega⟩ : Fin 8) (⟨t.val / 8 * 32 + (y 1).val, by omega⟩ : Fin 32) ⟨2056 + n', hn'⟩) := by
    rintro n hn _ hn' rfl
    exact core m c t ⟨(y 1).val, hy1⟩ ⟨2048 + n, hn⟩ _ _ ⟨2056 + n, hn'⟩ rfl rfl
      (.inr (.inl ⟨by show 1536 ≤ 2048 + n; omega, by show 2048 + n < 3072; omega, by show 2056 + n = 2048 + n + 8; omega⟩))
  obtain ⟨e3, e4, e5⟩ := tables m c t ⟨(y 1).val, hy1⟩ ⟨(y 2).val, hy2⟩ ⟨t.val / 8 * 32 + (y 1).val, by omega⟩ rfl
  rw [kd_block, ref_kd]
  refine (congrArg₂ (· + ·) (congrArg₂ (· + ·) (congrArg₂ (· * ·) rfl e3) (congrArg₂ (· * ·) rfl e4)) (congrArg₂ (· * ·) rfl e5)).trans ?_
  rw [row3_apply, row3_apply, row3_apply]
  by_cases h : (y 2).val % 64 < 16
  · rw [dif_pos h]
    by_cases h' : (y 2).val % 64 < 8
    · rw [dif_pos h', dif_pos h', dif_pos h', dif_pos h', zeros8_apply, mul_zero, add_zero]
      refine congrArg₂ (· + ·) (congrArg₂ (· * ·) (core' _ _ _ _ rfl) rfl) ?_
      refine (congrArg₂ (· * ·) (core' _ _ ((y 2).val + 8) (by omega) ?_) rfl).trans (mul_neg _ _)
      show ((y 2).val + 512 - 504) % 512 = (y 2).val + 8
      omega
    · rw [dif_neg h', dif_neg h', dif_neg h', dif_neg h', dif_pos h, dif_pos h, dif_pos h, zeros8_apply, mul_zero, add_zero]
      refine congrArg₂ (· + ·) (congrArg₂ (· * ·) (core' _ _ _ _ rfl) rfl) (congrArg₂ (· * ·) (core' _ _ ((y 2).val - 8) (by omega) ?_) rfl)
      show ((y 2).val + 512 - 8) % 512 = (y 2).val - 8
      omega
  · have h' : ¬ (y 2).val % 64 < 8 := by omega
    rw [dif_neg h, dif_neg h', dif_neg h', dif_neg h', dif_neg h, dif_neg h, dif_neg h, ones_apply, zeros48_apply, mul_zero, mul_zero, add_zero, add_zero, mul_one]
    exact core' _ _ _ _ rfl

theorem final11 (c : Dev nD) : (dats m 0 c).arrAt 11 (cfgs 0).N = Cert.SampleInOddReferenceIdeal.Read.val_main_v58 (F := Ideal) (X m c) (G m c) (W m c) (POS m c) := by
  refine (dats m 0 c).arrAt_eq_of_covers 11 _ (by decide +kernel) fun t hf y => ?_
  blk_simp
  rw [after0_11]
  exact point11 m c t y _ (by blk_ext [idx t])

end Cert.SampleInOddValue

end
-- ==== Proof.SampleInOddClaims.lean ====
/- The claims about an sample's input projection in an odd layer. -/
module

public import proofs.«01_k».proof.Defs
public import proofs.«01_k».proof.Proof.Gen.SampleInOddKernel.Frame
public import proofs.«01_k».proof.Proof.SampleInOddValue
public import Idealize.ShloMosaic.Adequacy
public import Idealize.ShloMosaic.Init

@[expose] public section

noncomputable section

namespace Cert.SampleInOddClaims

open Idealize.ShloMosaic Idealize.SL.Sem

theorem frame_kernel : Cert.quiescent_SampleInOddKernel (hSampleInOddKernel := Cert.SampleInOddKernel.Gen.facts) := fun m ρ _ => Cert.SampleInOddKernel.Gen.frame m ρ

theorem frame_ideal : Cert.quiescent_SampleInOddKernelIdeal (hSampleInOddKernelIdeal := Cert.SampleInOddKernelIdeal.Gen.facts) := fun m ρ _ => Cert.SampleInOddKernelIdeal.Gen.frame m ρ

theorem frame_reference : Cert.quiescent_SampleInOddReferenceIdeal (hSampleInOddReferenceIdeal := Cert.SampleInOddReferenceIdeal.Gen.facts) := by
  intro m g _
  exact (θ_run Cert.SampleInOddReferenceIdeal.defs _ _).mono (fun r h => ⟨fun c => (h c).2.2.2.2.2, sem_eq_zero_of_no_sems (by decide) r.2⟩)
    (Cert.SampleInOddReferenceIdeal.Value.run (F := Ideal) m g)

/-- What the kernel's run leaves in the five results. -/
theorem kernel_run (m : (ℓ : Loc Cert.SampleInOddKernelIdeal.nD Cert.SampleInOddKernelIdeal.τ Cert.SampleInOddKernelIdeal.sig) → Buf (Elt Ideal) ℓ) (g : Dev Cert.SampleInOddKernelIdeal.nD → PrngReg) :
    θ_run (Cert.SampleInOddKernelIdeal.defs (F := Ideal)) (onTc (τ := Cert.SampleInOddKernelIdeal.τ) (Cert.SampleInOddKernelIdeal.main (F := Ideal))) ⟨m, fun _ => 0, g⟩ (fun r => ∀ c : Dev Cert.SampleInOddKernelIdeal.nD,
      r.2.mem ((c.tc : Thread Cert.SampleInOddKernelIdeal.nD Cert.SampleInOddKernelIdeal.τ).loc Cert.SampleInOddKernelIdeal.main_v45_1) = Cert.SampleInOddReferenceIdeal.Read.val_main_v56 (F := Ideal) (Cert.SampleInOddValue.X m c) (Cert.SampleInOddValue.G m c) (Cert.SampleInOddValue.W m c)
      ∧ r.2.mem ((c.tc : Thread Cert.SampleInOddKernelIdeal.nD Cert.SampleInOddKernelIdeal.τ).loc Cert.SampleInOddKernelIdeal.main_v45_2) = Cert.SampleInOddReferenceIdeal.Read.val_main_v57 (F := Ideal) (Cert.SampleInOddValue.X m c) (Cert.SampleInOddValue.G m c) (Cert.SampleInOddValue.W m c)
      ∧ r.2.mem ((c.tc : Thread Cert.SampleInOddKernelIdeal.nD Cert.SampleInOddKernelIdeal.τ).loc Cert.SampleInOddKernelIdeal.main_v45_5) = Cert.SampleInOddReferenceIdeal.Read.val_main_v58 (F := Ideal) (Cert.SampleInOddValue.X m c) (Cert.SampleInOddValue.G m c) (Cert.SampleInOddValue.W m c) (Cert.SampleInOddValue.POS m c)
      ∧ r.2.mem ((c.tc : Thread Cert.SampleInOddKernelIdeal.nD Cert.SampleInOddKernelIdeal.τ).loc Cert.SampleInOddKernelIdeal.main_v45_7) = Cert.SampleInOddReferenceIdeal.Read.val_main_v59 (F := Ideal) (Cert.SampleInOddValue.X m c) (Cert.SampleInOddValue.G m c) (Cert.SampleInOddValue.W m c)
      ∧ r.2.mem ((c.tc : Thread Cert.SampleInOddKernelIdeal.nD Cert.SampleInOddKernelIdeal.τ).loc Cert.SampleInOddKernelIdeal.main_v45_9) = Cert.SampleInOddReferenceIdeal.Read.val_main_v55 (F := Ideal) (Cert.SampleInOddValue.X m c) (Cert.SampleInOddValue.G m c) (Cert.SampleInOddValue.W m c)
      ∧ r.2.mem ((c.tc : Thread Cert.SampleInOddKernelIdeal.nD Cert.SampleInOddKernelIdeal.τ).loc Cert.SampleInOddKernelIdeal.main_arg0) = m ((c.tc : Thread Cert.SampleInOddKernelIdeal.nD Cert.SampleInOddKernelIdeal.τ).loc Cert.SampleInOddKernelIdeal.main_arg0)
      ∧ r.2.mem ((c.tc : Thread Cert.SampleInOddKernelIdeal.nD Cert.SampleInOddKernelIdeal.τ).loc Cert.SampleInOddKernelIdeal.main_arg1) = m ((c.tc : Thread Cert.SampleInOddKernelIdeal.nD Cert.SampleInOddKernelIdeal.τ).loc Cert.SampleInOddKernelIdeal.main_arg1)
      ∧ r.2.mem ((c.tc : Thread Cert.SampleInOddKernelIdeal.nD Cert.SampleInOddKernelIdeal.τ).loc Cert.SampleInOddKernelIdeal.main_arg2) = m ((c.tc : Thread Cert.SampleInOddKernelIdeal.nD Cert.SampleInOddKernelIdeal.τ).loc Cert.SampleInOddKernelIdeal.main_arg2)
      ∧ r.2.mem ((c.tc : Thread Cert.SampleInOddKernelIdeal.nD Cert.SampleInOddKernelIdeal.τ).loc Cert.SampleInOddKernelIdeal.main_arg3) = m ((c.tc : Thread Cert.SampleInOddKernelIdeal.nD Cert.SampleInOddKernelIdeal.τ).loc Cert.SampleInOddKernelIdeal.main_arg3)) :=
  θ_run_mono (θ_run_and (Cert.SampleInOddKernelIdeal.Gen.unchanged m g) (Cert.SampleInOddKernelIdeal.Gen.run_main m g)) fun r hr c =>
    ⟨((hr.2 c).1 7).trans (Cert.SampleInOddValue.final7 m c),
     ((hr.2 c).1 8).trans (Cert.SampleInOddValue.final8 m c),
     ((hr.2 c).1 11).trans (Cert.SampleInOddValue.final11 m c),
     ((hr.2 c).1 13).trans (Cert.SampleInOddValue.final13 m c),
     ((hr.2 c).1 15).trans (Cert.SampleInOddValue.final15 m c),
     hr.1 c⟩

theorem algebraic : Cert.algebraic_SampleInOddKernelIdeal_SampleInOddReferenceIdeal (hSampleInOddKernelIdeal := Cert.SampleInOddKernelIdeal.Gen.facts)
    (hSampleInOddReferenceIdeal := Cert.SampleInOddReferenceIdeal.Gen.facts) := by
  intro m g m' g' _ hagree
  refine ⟨_, _, _, _, _, kernel_run m g, θ_run_mono (Cert.SampleInOddReferenceIdeal.Value.run (F := Ideal) m' g') fun r hr c => ?_⟩
  obtain ⟨h0, h1, h2, h3⟩ := hagree c
  obtain ⟨r0, r1, r2, r3, r4, rest⟩ := hr c
  exact ⟨(r0.trans (Cert.SampleInOddReferenceIdeal.Read.val_main_v56_eq _ _ _)).trans (congr (congr (congrArg (Cert.SampleInOddReferenceIdeal.Read.val_main_v56 (F := Ideal)) h0) h1) h2),
    (r1.trans (Cert.SampleInOddReferenceIdeal.Read.val_main_v57_eq _ _ _)).trans (congr (congr (congrArg (Cert.SampleInOddReferenceIdeal.Read.val_main_v57 (F := Ideal)) h0) h1) h2),
    (r2.trans (Cert.SampleInOddReferenceIdeal.Read.val_main_v58_eq m' c)).trans (congr (congr (congr (congrArg (Cert.SampleInOddReferenceIdeal.Read.val_main_v58 (F := Ideal)) h0) h1) h2) h3),
    (r3.trans (Cert.SampleInOddReferenceIdeal.Read.val_main_v59_eq _ _ _)).trans (congr (congr (congrArg (Cert.SampleInOddReferenceIdeal.Read.val_main_v59 (F := Ideal)) h0) h1) h2),
    (r4.trans (Cert.SampleInOddReferenceIdeal.Read.val_main_v55_eq _ _ _)).trans (congr (congr (congrArg (Cert.SampleInOddReferenceIdeal.Read.val_main_v55 (F := Ideal)) h0) h1) h2),
    rest⟩

end Cert.SampleInOddClaims

end
-- ==== Proof.SampleInValue.lean ====
/- The even layer's input projection at the sample's shapes: what its output arrays, and the convolution's last rows, hold after the run. -/
module

public import proofs.«01_k».proof.Proof.Gen.SampleInKernelIdeal.Frame
public import proofs.«01_k».proof.Proof.Gen.SampleInReferenceIdeal.Read
public import Idealize.ShloMosaic.Lib.Pipeline.ValueKit
public import Idealize.ShloMosaic.Lib.Routing.OpsSet

@[expose] public section

set_option maxRecDepth 16384

noncomputable section

namespace Cert.SampleInValue

open Idealize.ShloMosaic Idealize.ShloMosaic.TcCoe Idealize.SL.Sem
open Idealize.ShloMosaic.Pipeline (Dat)
open Cert.SampleInKernelIdeal Cert.SampleInKernelIdeal.Gen
open scoped BigOperators

variable (m : (ℓ : Loc nD τ sig) → Buf (Elt Ideal) ℓ)

/-- Columns `0 … 15` of a 128-column array written by a scatter at column word 0. -/
theorem scatter_cols (x0 : FVec Ideal S1024x128 .f32) (idx : IVec S1 32) (hidx : idx (ix1 0) = 0#32) (upd : FVec Ideal S1024x16 .f32)
    (k : Fin 1024) (j : Fin 128) :
    Host.scatter scatter_S1024x128_S1_S1024x16_01_n_1_0 (fun _ b => b) x0 idx upd (ix2 k j)
      = if h : j.val < 16 then upd (ix2 k ⟨j.val, h⟩) else x0 (ix2 k j) := by
  have lands : ∀ q : S1024x16.Idx, scatter_S1024x128_S1_S1024x16_01_n_1_0.resultIdx? q idx = some (ix2 k j) ↔ (q 0).val = k.val ∧ (q 1).val = j.val := by
    intro q
    have s1 : scatter_S1024x128_S1_S1024x16_01_n_1_0.start q idx 1 = 0 := by
      unfold ScatterDims.start
      rw [dif_pos (by decide)]
      have e : scatter_S1024x128_S1_S1024x16_01_n_1_0.siIdx q ⟨List.idxOf 1 scatter_S1024x128_S1_S1024x16_01_n_1_0.scatterDimsToOperandDims, by decide⟩ = ix1 0 := by
        funext b; match b with | ⟨0, _⟩ => exact Subsingleton.elim (α := Fin 1) _ _
      rw [e, hidx]; rfl
    have s0 : scatter_S1024x128_S1_S1024x16_01_n_1_0.start q idx 0 = 0 := by
      unfold ScatterDims.start
      rw [dif_neg (by decide)]
    have w0 : scatter_S1024x128_S1_S1024x16_01_n_1_0.window q 0 = (q 0).val := by
      unfold ScatterDims.window; rw [dif_pos (by decide)]; rfl
    have w1 : scatter_S1024x128_S1_S1024x16_01_n_1_0.window q 1 = (q 1).val := by
      unfold ScatterDims.window; rw [dif_pos (by decide)]; rfl
    refine (Routing.resultIdx?_ix2 _ q idx k j).trans ?_
    rw [s0, s1, w0, w1]
    omega
  split
  next h =>
    exact Routing.scatter_set_hit _ x0 idx upd _ _ (fun q hq => congrArg upd (by
      obtain ⟨h0, h1⟩ := (lands q).1 hq
      rw [eq_ix2 q]; exact congrArg₂ ix2 (Fin.ext h0) (Fin.ext h1))) (ix2 k ⟨j.val, h⟩) ((lands _).2 ⟨rfl, rfl⟩)
  next h =>
    exact Routing.scatter_set_miss _ x0 idx upd _ fun q hq => h (by
      obtain ⟨h0, h1⟩ := (lands q).1 hq
      have := (q 1).isLt
      exact lt_of_eq_of_lt h1.symm this)

/-- The gates' 16 weight columns, padded with zero columns to 128. -/
def gateW (W : FVec Ideal S1024x4624 .f32) : FVec Ideal S1024x128 .f32 :=
  Host.scatter scatter_S1024x128_S1_S1024x16_01_n_1_0 (fun _ b => b) (broadcastInDim S1024x128 ![] bcast_S_S1024x128 (constant (F := Ideal) S_ .f32 0x00000000#32))
    (broadcastInDim S1 ![] bcast_S_S1 (constantI S_ 32 0#32)) (extractStridedSlice S1024x16 ![0, 4096] W slices_S1024x4624_S1024x16_0_4096)

theorem gateW_apply (W : FVec Ideal S1024x4624 .f32) (k : Fin 1024) (j : Fin 128) :
    gateW W (ix2 k j) = if h : j.val < 16 then W (ix2 k ⟨4096 + j.val, by omega⟩) else (0 : EReal) := by
  unfold gateW
  rw [scatter_cols _ _ (by pointwise) _ k j]
  split
  · pointwise
    blk_ext []
  · pointwise

theorem V_v7 (c : Dev nD) : (V m c main_v7 : FVec Ideal S1024x4736 .bf16)
    = truncf .bf16 (concatenate S1024x4736 1
        [⟨S1024x4096, extractStridedSlice S1024x4096 ![0, 0] (m ((c : Thread nD τ).loc main_arg2)) slices_S1024x4624_S1024x4096_0_0⟩,
         ⟨S1024x128, gateW (m ((c : Thread nD τ).loc main_arg2))⟩,
         ⟨S1024x512, extractStridedSlice S1024x512 ![0, 4112] (m ((c : Thread nD τ).loc main_arg2)) slices_S1024x4624_S1024x512_0_4112⟩]
        concatenates_S1024x4096_S1024x128_S1024x512_S1024x4736_d1) bitsLt_bf16_f32 := by
  have cc : ∀ (a a' : FVec Ideal S1024x4096 .f32) (b b' : FVec Ideal S1024x128 .f32) (d d' : FVec Ideal S1024x512 .f32), a = a' → b = b' → d = d' →
      truncf .bf16 (concatenate S1024x4736 1 [⟨S1024x4096, a⟩, ⟨S1024x128, b⟩, ⟨S1024x512, d⟩] concatenates_S1024x4096_S1024x128_S1024x512_S1024x4736_d1) bitsLt_bf16_f32
        = truncf .bf16 (concatenate S1024x4736 1 [⟨S1024x4096, a'⟩, ⟨S1024x128, b'⟩, ⟨S1024x512, d'⟩] concatenates_S1024x4096_S1024x128_S1024x512_S1024x4736_d1) bitsLt_bf16_f32 := by
    rintro a _ b _ d _ rfl rfl rfl; rfl
  show StableHlo.after ([hostOps0].flatten) _ _ = _
  simp only [List.flatten_cons, List.flatten_nil, List.append_nil]
  after_results
  refine cc _ _ _ _ _ _ ?_ ?_ ?_
  · show StableHlo.after [] (HloOp.result _ _) (Proc.tc.devRef main_v4) = _
    after_results
  · show StableHlo.after [] (HloOp.result _ _) (Proc.tc.devRef main_v3) = _
    unfold gateW
    after_results
  · show StableHlo.after [] (HloOp.result _ _) (Proc.tc.devRef main_v5) = _
    after_results

/-- The packed weights: the weight's columns, with 112 zero columns between column 4111 and column 4112. -/
theorem packed (c : Dev nD) (k : Fin 1024) (j : Fin 4736) :
    V m c main_v7 (ix2 k j) = if h : j.val < 4112 then m ((c : Thread nD τ).loc main_arg2) (ix2 k ⟨j.val, by omega⟩)
      else if h : j.val < 4224 then (0 : EReal) else m ((c : Thread nD τ).loc main_arg2) (ix2 k ⟨j.val - 112, by omega⟩) := by
  rw [V_v7]
  generalize m ((c : Thread nD τ).loc main_arg2) = W
  pointwise
  by_cases h1 : j.val < 4096
  · rw [dif_pos h1, dif_pos (by omega)]
  · rw [dif_neg h1]
    by_cases h2 : j.val - 4096 < 128
    · rw [dif_pos h2, gateW_apply]
      by_cases h3 : j.val < 4112
      · rw [dif_pos h3, dif_pos (by show j.val - 4096 < 16; omega)]
        blk_ext []
      · refine (dif_neg (show ¬ j.val - 4096 < 16 by omega)).trans ?_
        rw [dif_neg h3, dif_pos (by omega)]
    · rw [dif_neg h2, dif_neg (by omega), dif_neg (by omega)]
      blk_ext []

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![0, t.val] :=
  (by decide +kernel : ∀ t : Fin grid0.N, _)

theorem V_v8 (c : Dev nD) : (V m c main_v8 : FVec Ideal S1x1024 .f32) = shapeCast S1x1024 (m ((c : Thread nD τ).loc main_arg1)) shapeCasts_S1024_S1x1024 := by
  show StableHlo.after ([hostOps0].flatten) _ _ = _
  simp only [List.flatten_cons, List.flatten_nil, List.append_nil]
  after_results
  rfl

theorem V_x (c : Dev nD) : V m c main_arg0 = m ((c : Thread nD τ).loc main_arg0) := by
  show StableHlo.after ([hostOps0].flatten) _ _ = _
  simp only [List.flatten_cons, List.flatten_nil, List.append_nil]
  after_results

/-- The normalised rows of point `t`'s block are the reference's. -/
theorem xn (c : Dev nD) (t : Fin cfg0.N) (p : Fin 32) (k : Fin 1024) (r : Fin 256) (hr : r.val = t.val * 32 + p.val) :
    k0_pay2 (F := Ideal) (iblk m c 0 t) (iblk m c 1 t) (ix2 p k)
      = Cert.SampleInReferenceIdeal.Read.val_main_v12 (F := Ideal) (m ((c : Thread nD τ).loc main_arg0)) (m ((c : Thread nD τ).loc main_arg1)) (ix2 r k) := by
  pointwise [k0_pay2, Cert.SampleInReferenceIdeal.Read.val_main_v12, Cert.SampleInReferenceIdeal.Read.val_main_v11, Cert.SampleInReferenceIdeal.Read.val_main_v10, Cert.SampleInReferenceIdeal.Read.val_main_v9, Cert.SampleInReferenceIdeal.Read.val_main_v8, Cert.SampleInReferenceIdeal.Read.val_main_v7, Cert.SampleInReferenceIdeal.Read.val_main_v6, Cert.SampleInReferenceIdeal.Read.val_main_v5, Cert.SampleInReferenceIdeal.Read.val_main_v4, Cert.SampleInReferenceIdeal.Read.val_main_v3, Cert.SampleInReferenceIdeal.Read.val_main_v2, Cert.SampleInReferenceIdeal.Read.val_main_v1, Cert.SampleInReferenceIdeal.Read.val_main_v0, Cert.SampleInReferenceIdeal.Read.val_main_cst, Cert.SampleInReferenceIdeal.Read.val_main_cst_0, Cert.SampleInReferenceIdeal.Read.val_main_cst_1]
  blk_point [iblk, V_x, idx t]
  refine (congrFun (V_v8 m c) _).trans ?_
  pointwise
  blk_ext [idx t]

abbrev X (c : Dev nD) := m ((c : Thread nD τ).loc main_arg0)
abbrev G (c : Dev nD) := m ((c : Thread nD τ).loc main_arg1)
abbrev W (c : Dev nD) := m ((c : Thread nD τ).loc main_arg2)

theorem ref_dot (c : Dev nD) (r : Fin 256) (j : Fin 4624) :
    Cert.SampleInReferenceIdeal.Read.val_main_v13 (F := Ideal) (X m c) (G m c) (W m c) (ix2 r j)
      = ∑ k : Fin 1024, Cert.SampleInReferenceIdeal.Read.val_main_v12 (F := Ideal) (X m c) (G m c) (ix2 r k) * (W m c) (ix2 k j) := by
  rw [Cert.SampleInReferenceIdeal.Read.val_main_v13_apply]
  refine Finset.sum_congr rfl fun k _ => ?_
  congr 2 <;> (funext a; match a with | ⟨0, _⟩ => rfl | ⟨1, _⟩ => rfl)

/-- A product of the normalised block with the packed column that carries weight column `j` is the reference's entry. -/
theorem core (c : Dev nD) (t : Fin cfg0.N) (p : Fin 32) (q : Fin 4736) (r : Fin 256) (j : Fin 4624)
    (hr : r.val = t.val * 32 + p.val) (hq : q.val < 4112 ∧ j.val = q.val ∨ 4224 ≤ q.val ∧ j.val + 112 = q.val) :
    ∑ k : Fin 1024, k0_pay2 (F := Ideal) (iblk m c 0 t) (iblk m c 1 t) (ix2 p k) * (iblk m c 2 t : FVec Ideal S1024x4736 .bf16) (ix2 k q)
      = Cert.SampleInReferenceIdeal.Read.val_main_v13 (F := Ideal) (X m c) (G m c) (W m c) (ix2 r j) := by
  rw [ref_dot]
  refine Finset.sum_congr rfl fun k _ => ?_
  have e : (iblk m c 2 t : FVec Ideal S1024x4736 .bf16) (ix2 k q) = V m c main_v7 (ix2 k q) := by
    unfold iblk
    blk_simp [idx t]
    blk_ext [idx t]
  rw [xn m c t p k r hr, e, packed]
  rcases hq with ⟨h, hj⟩ | ⟨h, hj⟩
  · rw [dif_pos h]; congr 2; exact congrArg (ix2 k) (Fin.ext hj.symm)
  · rw [dif_neg (by omega), dif_neg (by omega)]; congr 2; exact congrArg (ix2 k) (Fin.ext (by show q.val - 112 = j.val; omega))

theorem core_zero (c : Dev nD) (t : Fin cfg0.N) (p : Fin 32) (q : Fin 4736) (hq : 4112 ≤ q.val ∧ q.val < 4224) :
    ∑ k : Fin 1024, k0_pay2 (F := Ideal) (iblk m c 0 t) (iblk m c 1 t) (ix2 p k) * (iblk m c 2 t : FVec Ideal S1024x4736 .bf16) (ix2 k q) = 0 := by
  refine Finset.sum_eq_zero fun k _ => ?_
  have e : (iblk m c 2 t : FVec Ideal S1024x4736 .bf16) (ix2 k q) = V m c main_v7 (ix2 k q) := by
    unfold iblk
    blk_simp [idx t]
    blk_ext [idx t]
  rw [e, packed, dif_neg (by omega), dif_pos (by omega)]
  exact mul_zero _

/-- The gates' array of the reference: 16 columns of the product, then zeros. -/
theorem ref_gate (c : Dev nD) (r : Fin 256) (j : Fin 128) :
    Cert.SampleInReferenceIdeal.Read.val_main_v18 (F := Ideal) (X m c) (G m c) (W m c) (ix2 r j)
      = if h : j.val < 16 then Cert.SampleInReferenceIdeal.Read.val_main_v13 (F := Ideal) (X m c) (G m c) (W m c) (ix2 r ⟨4096 + j.val, by omega⟩) else (0 : EReal) := by
  pointwise [Cert.SampleInReferenceIdeal.Read.val_main_v18]
  split
  · rw [Cert.SampleInReferenceIdeal.Read.val_main_v16_apply]
    blk_ext []
  · rw [Cert.SampleInReferenceIdeal.Read.val_main_v17_apply, Cert.SampleInReferenceIdeal.Read.val_main_cst_2_apply]
    pointwise

theorem point3 (c : Dev nD) (t : Fin cfg0.N) (y : S32x3072.Idx) :
    out0_3 (iblk m c 0 t) (iblk m c 1 t) (iblk m c 2 t) y
      = Cert.SampleInReferenceIdeal.Read.val_main_v19 (F := Ideal) (X m c) (G m c) (W m c) (((cfg0.win 3).blk t).view.emb y) := by
  have ht : t.val < 8 := lt_of_lt_of_eq t.isLt N_0
  have hy0 : (y 0).val < 32 := (y 0).isLt
  have hy1 : (y 1).val < 3072 := (y 1).isLt
  refine Eq.trans (b := ∑ k : Fin 1024, k0_pay2 (F := Ideal) (iblk m c 0 t) (iblk m c 1 t) (ix2 ⟨(y 0).val, hy0⟩ k)
      * (iblk m c 2 t : FVec Ideal S1024x4736 .bf16) (ix2 k ⟨0 + (y 1).val, by omega⟩)) ?_ ?_
  · canon_tiles x h
    all_goals (open_payloads; pointwise; blk_point [idx t])
  · refine (core m c t ⟨(y 0).val, hy0⟩ ⟨0 + (y 1).val, by omega⟩ ⟨t.val * 32 + (y 0).val, by omega⟩ ⟨(y 1).val, by omega⟩ rfl
      (.inl ⟨by show 0 + (y 1).val < 4112; omega, by show (y 1).val = 0 + (y 1).val; omega⟩)).trans ?_
    rw [Cert.SampleInReferenceIdeal.Read.val_main_v19_apply]
    blk_ext [idx t]

theorem point4 (c : Dev nD) (t : Fin cfg0.N) (y : S32x1024.Idx) :
    out0_4 (iblk m c 0 t) (iblk m c 1 t) (iblk m c 2 t) y
      = Cert.SampleInReferenceIdeal.Read.val_main_v20 (F := Ideal) (X m c) (G m c) (W m c) (((cfg0.win 4).blk t).view.emb y) := by
  have ht : t.val < 8 := lt_of_lt_of_eq t.isLt N_0
  have hy0 : (y 0).val < 32 := (y 0).isLt
  have hy1 : (y 1).val < 1024 := (y 1).isLt
  refine Eq.trans (b := ∑ k : Fin 1024, k0_pay2 (F := Ideal) (iblk m c 0 t) (iblk m c 1 t) (ix2 ⟨(y 0).val, hy0⟩ k)
      * (iblk m c 2 t : FVec Ideal S1024x4736 .bf16) (ix2 k ⟨3072 + (y 1).val, by omega⟩)) ?_ ?_
  · canon_tiles x h
    all_goals (open_payloads; pointwise; blk_point [idx t])
  · refine (core m c t ⟨(y 0).val, hy0⟩ ⟨3072 + (y 1).val, by omega⟩ ⟨t.val * 32 + (y 0).val, by omega⟩ ⟨3072 + (y 1).val, by omega⟩ rfl
      (.inl ⟨by show 3072 + (y 1).val < 4112; omega, rfl⟩)).trans ?_
    rw [Cert.SampleInReferenceIdeal.Read.val_main_v20_apply]
    blk_ext [idx t]

theorem point5 (c : Dev nD) (t : Fin cfg0.N) (y : S32x128.Idx) :
    out0_5 (iblk m c 0 t) (iblk m c 1 t) (iblk m c 2 t) y
      = Cert.SampleInReferenceIdeal.Read.val_main_v18 (F := Ideal) (X m c) (G m c) (W m c) (((cfg0.win 5).blk t).view.emb y) := by
  have ht : t.val < 8 := lt_of_lt_of_eq t.isLt N_0
  have hy0 : (y 0).val < 32 := (y 0).isLt
  have hy1 : (y 1).val < 128 := (y 1).isLt
  refine Eq.trans (b := ∑ k : Fin 1024, k0_pay2 (F := Ideal) (iblk m c 0 t) (iblk m c 1 t) (ix2 ⟨(y 0).val, hy0⟩ k)
      * (iblk m c 2 t : FVec Ideal S1024x4736 .bf16) (ix2 k ⟨4096 + (y 1).val, by omega⟩)) ?_ ?_
  · canon_tiles x h
    all_goals (open_payloads; pointwise; blk_point [idx t])
  · have e : (((cfg0.win 5).blk t).view.emb y : S256x128.Idx) = ix2 (⟨t.val * 32 + (y 0).val, by omega⟩ : Fin 256) (⟨(y 1).val, hy1⟩ : Fin 128) := by
      blk_ext [idx t]
    rw [e, ref_gate]
    by_cases h : (y 1).val < 16
    · rw [dif_pos h]
      exact core m c t ⟨(y 0).val, hy0⟩ ⟨4096 + (y 1).val, by omega⟩ ⟨t.val * 32 + (y 0).val, by omega⟩ ⟨4096 + (y 1).val, by omega⟩ rfl
        (.inl ⟨by show 4096 + (y 1).val < 4112; omega, rfl⟩)
    · rw [dif_neg h]
      exact core_zero m c t ⟨(y 0).val, hy0⟩ ⟨4096 + (y 1).val, by omega⟩ ⟨by show 4112 ≤ 4096 + (y 1).val; omega, by show 4096 + (y 1).val < 4224; omega⟩

theorem point6 (c : Dev nD) (t : Fin cfg0.N) (y : S32x512.Idx) :
    out0_6 (iblk m c 0 t) (iblk m c 1 t) (iblk m c 2 t) y
      = Cert.SampleInReferenceIdeal.Read.val_main_v22 (F := Ideal) (X m c) (G m c) (W m c) (((cfg0.win 6).blk t).view.emb y) := by
  have ht : t.val < 8 := lt_of_lt_of_eq t.isLt N_0
  have hy0 : (y 0).val < 32 := (y 0).isLt
  have hy1 : (y 1).val < 512 := (y 1).isLt
  refine Eq.trans (b := ∑ k : Fin 1024, k0_pay2 (F := Ideal) (iblk m c 0 t) (iblk m c 1 t) (ix2 ⟨(y 0).val, hy0⟩ k)
      * (iblk m c 2 t : FVec Ideal S1024x4736 .bf16) (ix2 k ⟨4224 + (y 1).val, by omega⟩)) ?_ ?_
  · canon_tiles x h
    all_goals (open_payloads; pointwise; blk_point [idx t])
  · refine (core m c t ⟨(y 0).val, hy0⟩ ⟨4224 + (y 1).val, by omega⟩ ⟨t.val * 32 + (y 0).val, by omega⟩ ⟨4112 + (y 1).val, by omega⟩ rfl
      (.inr ⟨by show 4224 ≤ 4224 + (y 1).val; omega, by show 4112 + (y 1).val + 112 = 4224 + (y 1).val; omega⟩)).trans ?_
    rw [Cert.SampleInReferenceIdeal.Read.val_main_v22_apply, Cert.SampleInReferenceIdeal.Read.val_main_v21_apply, Cert.SampleInReferenceIdeal.Read.val_main_v15_apply, Cert.SampleInReferenceIdeal.Read.val_main_v14_apply]
    have e1 : ((0 * 32 + (y 0).val) * 4096 + (t.val * 512 + (y 1).val)) / 4096 = 0 * 32 + (y 0).val := by omega
    have e2 : ((0 * 32 + (y 0).val) * 4096 + (t.val * 512 + (y 1).val)) / 512 % 8 = t.val := by omega
    have e3 : ((0 * 32 + (y 0).val) * 4096 + (t.val * 512 + (y 1).val)) % 512 = (y 1).val := by omega
    blk_ext [idx t]
    all_goals (rw [e1, e2, e3]; omega)

theorem final3 (c : Dev nD) : (dats m 0 c).arrAt 3 (cfgs 0).N = Cert.SampleInReferenceIdeal.Read.val_main_v19 (F := Ideal) (X m c) (G m c) (W m c) := by
  refine (dats m 0 c).arrAt_eq_of_covers 3 _ (by decide +kernel) fun t hf y => ?_
  blk_simp
  rw [after0_3]
  exact point3 m c t y

theorem final4 (c : Dev nD) : (dats m 0 c).arrAt 4 (cfgs 0).N = Cert.SampleInReferenceIdeal.Read.val_main_v20 (F := Ideal) (X m c) (G m c) (W m c) := by
  refine (dats m 0 c).arrAt_eq_of_covers 4 _ (by decide +kernel) fun t hf y => ?_
  blk_simp
  rw [after0_4]
  exact point4 m c t y

theorem final5 (c : Dev nD) : (dats m 0 c).arrAt 5 (cfgs 0).N = Cert.SampleInReferenceIdeal.Read.val_main_v18 (F := Ideal) (X m c) (G m c) (W m c) := by
  refine (dats m 0 c).arrAt_eq_of_covers 5 _ (by decide +kernel) fun t hf y => ?_
  blk_simp
  rw [after0_5]
  exact point5 m c t y

theorem final6 (c : Dev nD) : (dats m 0 c).arrAt 6 (cfgs 0).N = Cert.SampleInReferenceIdeal.Read.val_main_v22 (F := Ideal) (X m c) (G m c) (W m c) := by
  refine (dats m 0 c).arrAt_eq_of_covers 6 _ (by decide +kernel) fun t hf y => ?_
  blk_simp
  rw [after0_6]
  exact point6 m c t y

abbrev C (c : Dev nD) : FVec Ideal S8x3x3072 .f32 := m ((c : Thread nD τ).loc main_arg3)

/-- The convolution's last rows, after the lines that follow the region: the last three rows of each sequence's cached and new rows. -/
theorem tail (c : Dev nD) : (Pipeline.afterTail₀ cfgs (dats m) 0 (V0 m) [hostOps1] c main_v12 : FVec Ideal S8x3x3072 .f32)
    = Cert.SampleInReferenceIdeal.Read.val_main_v26 (F := Ideal) (X m c) (G m c) (W m c) (C m c) := by
  have cc : ∀ (s s' : FVec Ideal S8x3x3072 .f32) (a a' : FVec Ideal S8x32x3072 .f32), s = s' → a = a' →
      extractStridedSlice S8x3x3072 ![0, 32, 0] (concatenate S8x35x3072 1 [⟨S8x3x3072, s⟩, ⟨S8x32x3072, a⟩] concatenates_S8x3x3072_S8x32x3072_S8x35x3072_d1) slices_S8x35x3072_S8x3x3072_0_32_0
        = extractStridedSlice S8x3x3072 ![0, 32, 0] (concatenate S8x35x3072 1 [⟨S8x3x3072, s'⟩, ⟨S8x32x3072, a'⟩] concatenates_S8x3x3072_S8x32x3072_S8x35x3072_d1) slices_S8x35x3072_S8x3x3072_0_32_0 := by
    rintro s _ a _ rfl rfl; rfl
  have e : Pipeline.withArrays spec0 c (V0 m c) (fun w => (dats m 0 c).arrAt w (cfgs 0).N) (Proc.devRef .tc main_v9_0)
      = Cert.SampleInReferenceIdeal.Read.val_main_v19 (F := Ideal) (X m c) (G m c) (W m c) :=
    (Pipeline.withArrays_arr spec0 (by decide) c (V0 m c) _ 3).trans (final3 m c)
  unfold Pipeline.afterTail₀
  simp only [List.flatten_cons, List.flatten_nil, List.append_nil]
  after_results
  unfold Cert.SampleInReferenceIdeal.Read.val_main_v26 Cert.SampleInReferenceIdeal.Read.val_main_v25
  refine cc _ _ _ _ ?_ ?_
  · refine (Pipeline.withArrays_of_ne spec0 c (V0 m c) _ main_arg3 (by decide)).trans ?_
    show StableHlo.after ([hostOps0].flatten) _ _ = _
    simp only [List.flatten_cons, List.flatten_nil, List.append_nil]
    after_results
  · after_results
    have cs : ∀ (a a' : FVec Ideal S256x3072 .f32), a = a' → shapeCast S8x32x3072 a shapeCasts_S256x3072_S8x32x3072 = shapeCast S8x32x3072 a' shapeCasts_S256x3072_S8x32x3072 := by
      rintro a _ rfl; rfl
    unfold Cert.SampleInReferenceIdeal.Read.val_main_v24 Cert.SampleInReferenceIdeal.Read.val_main_v23
    unfold Cert.SampleInReferenceIdeal.Read.val_main_v19 at e
    exact cs _ _ e

/-- The gain is left as it was. -/
theorem kept_gain (c : Dev nD) : Pipeline.afterTail₀ cfgs (dats m) 0 (V0 m) [hostOps1] c main_arg1 = m ((c : Thread nD τ).loc main_arg1) := by
  unfold Pipeline.afterTail₀
  simp only [List.flatten_cons, List.flatten_nil, List.append_nil]
  after_results
  refine (Pipeline.withArrays_of_ne spec0 c (V0 m c) _ main_arg1 (by decide)).trans ?_
  show StableHlo.after ([hostOps0].flatten) _ _ = _
  simp only [List.flatten_cons, List.flatten_nil, List.append_nil]
  after_results

/-- The weight is left as it was. -/
theorem kept (c : Dev nD) : Pipeline.afterTail₀ cfgs (dats m) 0 (V0 m) [hostOps1] c main_arg2 = m ((c : Thread nD τ).loc main_arg2) := by
  unfold Pipeline.afterTail₀
  simp only [List.flatten_cons, List.flatten_nil, List.append_nil]
  after_results
  refine (Pipeline.withArrays_of_ne spec0 c (V0 m c) _ main_arg2 (by decide)).trans ?_
  show StableHlo.after ([hostOps0].flatten) _ _ = _
  simp only [List.flatten_cons, List.flatten_nil, List.append_nil]
  after_results

/-- The cached rows are left as they were. -/
theorem kept_state (c : Dev nD) : Pipeline.afterTail₀ cfgs (dats m) 0 (V0 m) [hostOps1] c main_arg3 = m ((c : Thread nD τ).loc main_arg3) := by
  unfold Pipeline.afterTail₀
  simp only [List.flatten_cons, List.flatten_nil, List.append_nil]
  after_results
  refine (Pipeline.withArrays_of_ne spec0 c (V0 m c) _ main_arg3 (by decide)).trans ?_
  show StableHlo.after ([hostOps0].flatten) _ _ = _
  simp only [List.flatten_cons, List.flatten_nil, List.append_nil]
  after_results

end Cert.SampleInValue

end
-- ==== Proof.SampleInClaims.lean ====
/- The claims about the even layer's input projection at the sample's shapes. -/
module

public import proofs.«01_k».proof.Defs
public import proofs.«01_k».proof.Proof.Gen.SampleInKernel.Frame
public import proofs.«01_k».proof.Proof.SampleInValue
public import Idealize.ShloMosaic.Adequacy
public import Idealize.ShloMosaic.Init

@[expose] public section

noncomputable section

namespace Cert.SampleInClaims

open Idealize.ShloMosaic Idealize.SL.Sem

theorem frame_kernel : Cert.quiescent_SampleInKernel (hSampleInKernel := Cert.SampleInKernel.Gen.facts) := fun m ρ _ => Cert.SampleInKernel.Gen.frame m ρ

theorem frame_ideal : Cert.quiescent_SampleInKernelIdeal (hSampleInKernelIdeal := Cert.SampleInKernelIdeal.Gen.facts) := fun m ρ _ => Cert.SampleInKernelIdeal.Gen.frame m ρ

theorem frame_reference : Cert.quiescent_SampleInReferenceIdeal (hSampleInReferenceIdeal := Cert.SampleInReferenceIdeal.Gen.facts) := by
  intro m g _
  exact (θ_run Cert.SampleInReferenceIdeal.defs _ _).mono (fun r h => ⟨fun c => (h c).2.2.2.2.2, sem_eq_zero_of_no_sems (by decide) r.2⟩)
    (Cert.SampleInReferenceIdeal.Value.run (F := Ideal) m g)

theorem algebraic : Cert.algebraic_SampleInKernelIdeal_SampleInReferenceIdeal (hSampleInKernelIdeal := Cert.SampleInKernelIdeal.Gen.facts)
    (hSampleInReferenceIdeal := Cert.SampleInReferenceIdeal.Gen.facts) := by
  pair_intro
  · run_from Cert.SampleInKernelIdeal.Gen.run_main m g
    · exact Cert.SampleInValue.kept_gain m c
    · exact Cert.SampleInValue.kept m c
    · exact Cert.SampleInValue.kept_state m c
  · run_from Cert.SampleInReferenceIdeal.Value.run m' g'
    · exact (Cert.SampleInValue.final3 m c).symm
    · exact (Cert.SampleInValue.final4 m c).symm
    · exact (Cert.SampleInValue.final5 m c).symm
    · exact (Cert.SampleInValue.final6 m c).symm
    · exact (congrArg (fun w => Cert.SampleInReferenceIdeal.Read.val_main_v26 (F := Ideal) (Cert.SampleInValue.X m c) (Cert.SampleInValue.G m c) (Cert.SampleInValue.W m c) w) (hagree c).2.2.2).trans
        (Cert.SampleInValue.tail m c).symm

end Cert.SampleInClaims

end
-- ==== Proof.lean ====
/- The proof of every claim. -/
module

public import proofs.«01_k».proof.Proof.FfnClaims
public import proofs.«01_k».proof.Proof.InClaims
public import proofs.«01_k».proof.Proof.FfnOddClaims
public import proofs.«01_k».proof.Proof.InOddClaims
public import proofs.«01_k».proof.Proof.OrderClaims
public import proofs.«01_k».proof.Proof.NormClaims
public import proofs.«01_k».proof.Proof.GateClaims
public import proofs.«01_k».proof.Proof.SampleNormClaims
public import proofs.«01_k».proof.Proof.SampleGateClaims
public import proofs.«01_k».proof.Proof.SampleInOddClaims
public import proofs.«01_k».proof.Proof.SampleInClaims
public import Idealize.ShloMosaic.Adequacy
public import Idealize.ShloMosaic.Init

@[expose] public section

noncomputable section

namespace Cert.Proof

theorem claim : Cert.Claim := ⟨Cert.FfnKernel.Gen.facts, Cert.FfnKernelIdeal.Gen.facts, Cert.FfnReferenceIdeal.Gen.facts,
  Cert.InKernel.Gen.facts, Cert.InKernelIdeal.Gen.facts, Cert.InReferenceIdeal.Gen.facts,
  Cert.FfnOddKernel.Gen.facts, Cert.FfnOddKernelIdeal.Gen.facts, Cert.FfnOddReferenceIdeal.Gen.facts,
  Cert.InOddKernel.Gen.facts, Cert.InOddKernelIdeal.Gen.facts, Cert.InOddReferenceIdeal.Gen.facts,
  Cert.OrderKernel.Gen.facts, Cert.OrderKernelIdeal.Gen.facts, Cert.OrderReferenceIdeal.Gen.facts,
  Cert.NormKernel.Gen.facts, Cert.NormKernelIdeal.Gen.facts, Cert.NormReferenceIdeal.Gen.facts,
  Cert.GateKernel.Gen.facts, Cert.GateKernelIdeal.Gen.facts, Cert.GateReferenceIdeal.Gen.facts,
  Cert.SampleNormKernel.Gen.facts, Cert.SampleNormKernelIdeal.Gen.facts, Cert.SampleNormReferenceIdeal.Gen.facts,
  Cert.SampleGateKernel.Gen.facts, Cert.SampleGateKernelIdeal.Gen.facts, Cert.SampleGateReferenceIdeal.Gen.facts,
  Cert.SampleInOddKernel.Gen.facts, Cert.SampleInOddKernelIdeal.Gen.facts, Cert.SampleInOddReferenceIdeal.Gen.facts,
  Cert.SampleInKernel.Gen.facts, Cert.SampleInKernelIdeal.Gen.facts, Cert.SampleInReferenceIdeal.Gen.facts,
  Cert.FfnClaims.frame_kernel, Cert.FfnClaims.frame_ideal, Cert.FfnClaims.frame_reference,
  Cert.InClaims.frame_kernel, Cert.InClaims.frame_ideal, Cert.InClaims.frame_reference,
  Cert.FfnOddClaims.frame_kernel, Cert.FfnOddClaims.frame_ideal, Cert.FfnOddClaims.frame_reference,
  Cert.InOddClaims.frame_kernel, Cert.InOddClaims.frame_ideal, Cert.InOddClaims.frame_reference,
  Cert.OrderClaims.frame_kernel, Cert.OrderClaims.frame_ideal, Cert.OrderClaims.frame_reference,
  Cert.NormClaims.frame_kernel, Cert.NormClaims.frame_ideal, Cert.NormClaims.frame_reference,
  Cert.GateClaims.frame_kernel, Cert.GateClaims.frame_ideal, Cert.GateClaims.frame_reference,
  Cert.SampleNormClaims.frame_kernel, Cert.SampleNormClaims.frame_ideal, Cert.SampleNormClaims.frame_reference,
  Cert.SampleGateClaims.frame_kernel, Cert.SampleGateClaims.frame_ideal, Cert.SampleGateClaims.frame_reference,
  Cert.SampleInOddClaims.frame_kernel, Cert.SampleInOddClaims.frame_ideal, Cert.SampleInOddClaims.frame_reference,
  Cert.SampleInClaims.frame_kernel, Cert.SampleInClaims.frame_ideal, Cert.SampleInClaims.frame_reference,
  trivial, Cert.FfnClaims.algebraic,
  trivial, Cert.InClaims.algebraic,
  trivial, Cert.FfnOddClaims.algebraic,
  trivial, Cert.InOddClaims.algebraic,
  trivial, Cert.OrderClaims.algebraic,
  trivial, Cert.NormClaims.algebraic,
  trivial, Cert.GateClaims.algebraic,
  trivial, Cert.SampleNormClaims.algebraic,
  trivial, Cert.SampleGateClaims.algebraic,
  trivial, Cert.SampleInOddClaims.algebraic,
  trivial, Cert.SampleInClaims.algebraic⟩

end Cert.Proof

end
